-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Dcore (m : (ℓ : Loc Cert.Dcore.nD Cert.Dcore.τ Cert.Dcore.sig) → Buf (Elt Bits) ℓ) : Prop :=
  True

def Pre_DcoreIdeal (m : (ℓ : Loc Cert.DcoreIdeal.nD Cert.DcoreIdeal.τ Cert.DcoreIdeal.sig) → Buf (Elt Ideal) ℓ) : Prop :=
  True

def Pre_DcoreRefIdeal (m : (ℓ : Loc Cert.DcoreRefIdeal.nD Cert.DcoreRefIdeal.τ Cert.DcoreRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_OqDw (m : (ℓ : Loc Cert.OqDw.nD Cert.OqDw.τ Cert.OqDw.sig) → Buf (Elt Bits) ℓ) : Prop :=
  True

def Pre_OqDwIdeal (m : (ℓ : Loc Cert.OqDwIdeal.nD Cert.OqDwIdeal.τ Cert.OqDwIdeal.sig) → Buf (Elt Ideal) ℓ) : Prop :=
  True

def Pre_OqDwRefIdeal (m : (ℓ : Loc Cert.OqDwRefIdeal.nD Cert.OqDwRefIdeal.τ Cert.OqDwRefIdeal.sig) → Buf (Elt Ideal) ℓ) : Prop :=
  True

def Pre_OqDx (m : (ℓ : Loc Cert.OqDx.nD Cert.OqDx.τ Cert.OqDx.sig) → Buf (Elt Bits) ℓ) : Prop :=
  True

def Pre_OqDxIdeal (m : (ℓ : Loc Cert.OqDxIdeal.nD Cert.OqDxIdeal.τ Cert.OqDxIdeal.sig) → Buf (Elt Ideal) ℓ) : Prop :=
  True

def Pre_OqDxRefIdeal (m : (ℓ : Loc Cert.OqDxRefIdeal.nD Cert.OqDxRefIdeal.τ Cert.OqDxRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_GluUp (m : (ℓ : Loc Cert.GluUp.nD Cert.GluUp.τ Cert.GluUp.sig) → Buf (Elt Bits) ℓ) : Prop :=
  True

def Pre_GluUpIdeal (m : (ℓ : Loc Cert.GluUpIdeal.nD Cert.GluUpIdeal.τ Cert.GluUpIdeal.sig) → Buf (Elt Ideal) ℓ) : Prop :=
  True

def Pre_GluUpRefIdeal (m : (ℓ : Loc Cert.GluUpRefIdeal.nD Cert.GluUpRefIdeal.τ Cert.GluUpRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VProjRefIdeal (m : (ℓ : Loc Cert.VProjRefIdeal.nD Cert.VProjRefIdeal.τ Cert.VProjRefIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_KProjRefIdeal (m : (ℓ : Loc Cert.KProjRefIdeal.nD Cert.KProjRefIdeal.τ Cert.KProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Dcore [hDcore : Cert.Dcore.Facts] : Prop :=
  ∀ (m : (ℓ : Loc Cert.Dcore.nD Cert.Dcore.τ Cert.Dcore.sig) → Buf (Elt Bits) ℓ) (g : Dev Cert.Dcore.nD → PrngReg), Pre_Dcore m →
    θ_run (Cert.Dcore.defs (F := Bits)) (onTc (τ := Cert.Dcore.τ) (Cert.Dcore.main (F := Bits))) ⟨m, fun _ => 0, g⟩ (fun r => (∀ c : Dev Cert.Dcore.nD,
      r.2.mem ((c.tc : Thread Cert.Dcore.nD Cert.Dcore.τ).loc Cert.Dcore.main_arg0) = m ((c.tc : Thread Cert.Dcore.nD Cert.Dcore.τ).loc Cert.Dcore.main_arg0)
      ∧ r.2.mem ((c.tc : Thread Cert.Dcore.nD Cert.Dcore.τ).loc Cert.Dcore.main_arg1) = m ((c.tc : Thread Cert.Dcore.nD Cert.Dcore.τ).loc Cert.Dcore.main_arg1)
      ∧ r.2.mem ((c.tc : Thread Cert.Dcore.nD Cert.Dcore.τ).loc Cert.Dcore.main_arg2) = m ((c.tc : Thread Cert.Dcore.nD Cert.Dcore.τ).loc Cert.Dcore.main_arg2)
      ∧ r.2.mem ((c.tc : Thread Cert.Dcore.nD Cert.Dcore.τ).loc Cert.Dcore.main_arg3) = m ((c.tc : Thread Cert.Dcore.nD Cert.Dcore.τ).loc Cert.Dcore.main_arg3))
      ∧ r.2.sem = fun _ => 0)

def quiescent_DcoreIdeal [hDcoreIdeal : Cert.DcoreIdeal.Facts] : Prop :=
  ∀ (m : (ℓ : Loc Cert.DcoreIdeal.nD Cert.DcoreIdeal.τ Cert.DcoreIdeal.sig) → Buf (Elt Ideal) ℓ) (g : Dev Cert.DcoreIdeal.nD → PrngReg), Pre_DcoreIdeal m →
    θ_run (Cert.DcoreIdeal.defs (F := Ideal)) (onTc (τ := Cert.DcoreIdeal.τ) (Cert.DcoreIdeal.main (F := Ideal))) ⟨m, fun _ => 0, g⟩ (fun r => (∀ c : Dev Cert.DcoreIdeal.nD,
      r.2.mem ((c.tc : Thread Cert.DcoreIdeal.nD Cert.DcoreIdeal.τ).loc Cert.DcoreIdeal.main_arg0) = m ((c.tc : Thread Cert.DcoreIdeal.nD Cert.DcoreIdeal.τ).loc Cert.DcoreIdeal.main_arg0)
      ∧ r.2.mem ((c.tc : Thread Cert.DcoreIdeal.nD Cert.DcoreIdeal.τ).loc Cert.DcoreIdeal.main_arg1) = m ((c.tc : Thread Cert.DcoreIdeal.nD Cert.DcoreIdeal.τ).loc Cert.DcoreIdeal.main_arg1)
      ∧ r.2.mem ((c.tc : Thread Cert.DcoreIdeal.nD Cert.DcoreIdeal.τ).loc Cert.DcoreIdeal.main_arg2) = m ((c.tc : Thread Cert.DcoreIdeal.nD Cert.DcoreIdeal.τ).loc Cert.DcoreIdeal.main_arg2)
      ∧ r.2.mem ((c.tc : Thread Cert.DcoreIdeal.nD Cert.DcoreIdeal.τ).loc Cert.DcoreIdeal.main_arg3) = m ((c.tc : Thread Cert.DcoreIdeal.nD Cert.DcoreIdeal.τ).loc Cert.DcoreIdeal.main_arg3))
      ∧ r.2.sem = fun _ => 0)

def quiescent_DcoreRefIdeal [hDcoreRefIdeal : Cert.DcoreRefIdeal.Facts] : Prop :=
  ∀ (m : (ℓ : Loc Cert.DcoreRefIdeal.nD Cert.DcoreRefIdeal.τ Cert.DcoreRefIdeal.sig) → Buf (Elt Ideal) ℓ) (g : Dev Cert.DcoreRefIdeal.nD → PrngReg), Pre_DcoreRefIdeal m →
    θ_run (Cert.DcoreRefIdeal.defs (F := Ideal)) (onTc (τ := Cert.DcoreRefIdeal.τ) (Cert.DcoreRefIdeal.main (F := Ideal))) ⟨m, fun _ => 0, g⟩ (fun r => (∀ c : Dev Cert.DcoreRefIdeal.nD,
      r.2.mem ((c.tc : Thread Cert.DcoreRefIdeal.nD Cert.DcoreRefIdeal.τ).loc Cert.DcoreRefIdeal.main_arg0) = m ((c.tc : Thread Cert.DcoreRefIdeal.nD Cert.DcoreRefIdeal.τ).loc Cert.DcoreRefIdeal.main_arg0)
      ∧ r.2.mem ((c.tc : Thread Cert.DcoreRefIdeal.nD Cert.DcoreRefIdeal.τ).loc Cert.DcoreRefIdeal.main_arg1) = m ((c.tc : Thread Cert.DcoreRefIdeal.nD Cert.DcoreRefIdeal.τ).loc Cert.DcoreRefIdeal.main_arg1)
      ∧ r.2.mem ((c.tc : Thread Cert.DcoreRefIdeal.nD Cert.DcoreRefIdeal.τ).loc Cert.DcoreRefIdeal.main_arg2) = m ((c.tc : Thread Cert.DcoreRefIdeal.nD Cert.DcoreRefIdeal.τ).loc Cert.DcoreRefIdeal.main_arg2)
      ∧ r.2.mem ((c.tc : Thread Cert.DcoreRefIdeal.nD Cert.DcoreRefIdeal.τ).loc Cert.DcoreRefIdeal.main_arg3) = m ((c.tc : Thread Cert.DcoreRefIdeal.nD Cert.DcoreRefIdeal.τ).loc Cert.DcoreRefIdeal.main_arg3))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_OqDw [hOqDw : Cert.OqDw.Facts] : Prop :=
  ∀ (m : (ℓ : Loc Cert.OqDw.nD Cert.OqDw.τ Cert.OqDw.sig) → Buf (Elt Bits) ℓ) (g : Dev Cert.OqDw.nD → PrngReg), Pre_OqDw m →
    θ_run (Cert.OqDw.defs (F := Bits)) (onTc (τ := Cert.OqDw.τ) (Cert.OqDw.main (F := Bits))) ⟨m, fun _ => 0, g⟩ (fun r => (∀ c : Dev Cert.OqDw.nD,
      r.2.mem ((c.tc : Thread Cert.OqDw.nD Cert.OqDw.τ).loc Cert.OqDw.main_arg0) = m ((c.tc : Thread Cert.OqDw.nD Cert.OqDw.τ).loc Cert.OqDw.main_arg0)
      ∧ r.2.mem ((c.tc : Thread Cert.OqDw.nD Cert.OqDw.τ).loc Cert.OqDw.main_arg1) = m ((c.tc : Thread Cert.OqDw.nD Cert.OqDw.τ).loc Cert.OqDw.main_arg1))
      ∧ r.2.sem = fun _ => 0)

def quiescent_OqDwIdeal [hOqDwIdeal : Cert.OqDwIdeal.Facts] : Prop :=
  ∀ (m : (ℓ : Loc Cert.OqDwIdeal.nD Cert.OqDwIdeal.τ Cert.OqDwIdeal.sig) → Buf (Elt Ideal) ℓ) (g : Dev Cert.OqDwIdeal.nD → PrngReg), Pre_OqDwIdeal m →
    θ_run (Cert.OqDwIdeal.defs (F := Ideal)) (onTc (τ := Cert.OqDwIdeal.τ) (Cert.OqDwIdeal.main (F := Ideal))) ⟨m, fun _ => 0, g⟩ (fun r => (∀ c : Dev Cert.OqDwIdeal.nD,
      r.2.mem ((c.tc : Thread Cert.OqDwIdeal.nD Cert.OqDwIdeal.τ).loc Cert.OqDwIdeal.main_arg0) = m ((c.tc : Thread Cert.OqDwIdeal.nD Cert.OqDwIdeal.τ).loc Cert.OqDwIdeal.main_arg0)
      ∧ r.2.mem ((c.tc : Thread Cert.OqDwIdeal.nD Cert.OqDwIdeal.τ).loc Cert.OqDwIdeal.main_arg1) = m ((c.tc : Thread Cert.OqDwIdeal.nD Cert.OqDwIdeal.τ).loc Cert.OqDwIdeal.main_arg1))
      ∧ r.2.sem = fun _ => 0)

def quiescent_OqDwRefIdeal [hOqDwRefIdeal : Cert.OqDwRefIdeal.Facts] : Prop :=
  ∀ (m : (ℓ : Loc Cert.OqDwRefIdeal.nD Cert.OqDwRefIdeal.τ Cert.OqDwRefIdeal.sig) → Buf (Elt Ideal) ℓ) (g : Dev Cert.OqDwRefIdeal.nD → PrngReg), Pre_OqDwRefIdeal m →
    θ_run (Cert.OqDwRefIdeal.defs (F := Ideal)) (onTc (τ := Cert.OqDwRefIdeal.τ) (Cert.OqDwRefIdeal.main (F := Ideal))) ⟨m, fun _ => 0, g⟩ (fun r => (∀ c : Dev Cert.OqDwRefIdeal.nD,
      r.2.mem ((c.tc : Thread Cert.OqDwRefIdeal.nD Cert.OqDwRefIdeal.τ).loc Cert.OqDwRefIdeal.main_arg0) = m ((c.tc : Thread Cert.OqDwRefIdeal.nD Cert.OqDwRefIdeal.τ).loc Cert.OqDwRefIdeal.main_arg0)
      ∧ r.2.mem ((c.tc : Thread Cert.OqDwRefIdeal.nD Cert.OqDwRefIdeal.τ).loc Cert.OqDwRefIdeal.main_arg1) = m ((c.tc : Thread Cert.OqDwRefIdeal.nD Cert.OqDwRefIdeal.τ).loc Cert.OqDwRefIdeal.main_arg1))
      ∧ r.2.sem = fun _ => 0)

def quiescent_OqDx [hOqDx : Cert.OqDx.Facts] : Prop :=
  ∀ (m : (ℓ : Loc Cert.OqDx.nD Cert.OqDx.τ Cert.OqDx.sig) → Buf (Elt Bits) ℓ) (g : Dev Cert.OqDx.nD → PrngReg), Pre_OqDx m →
    θ_run (Cert.OqDx.defs (F := Bits)) (onTc (τ := Cert.OqDx.τ) (Cert.OqDx.main (F := Bits))) ⟨m, fun _ => 0, g⟩ (fun r => (∀ c : Dev Cert.OqDx.nD,
      r.2.mem ((c.tc : Thread Cert.OqDx.nD Cert.OqDx.τ).loc Cert.OqDx.main_arg0) = m ((c.tc : Thread Cert.OqDx.nD Cert.OqDx.τ).loc Cert.OqDx.main_arg0)
      ∧ r.2.mem ((c.tc : Thread Cert.OqDx.nD Cert.OqDx.τ).loc Cert.OqDx.main_arg1) = m ((c.tc : Thread Cert.OqDx.nD Cert.OqDx.τ).loc Cert.OqDx.main_arg1))
      ∧ r.2.sem = fun _ => 0)

def quiescent_OqDxIdeal [hOqDxIdeal : Cert.OqDxIdeal.Facts] : Prop :=
  ∀ (m : (ℓ : Loc Cert.OqDxIdeal.nD Cert.OqDxIdeal.τ Cert.OqDxIdeal.sig) → Buf (Elt Ideal) ℓ) (g : Dev Cert.OqDxIdeal.nD → PrngReg), Pre_OqDxIdeal m →
    θ_run (Cert.OqDxIdeal.defs (F := Ideal)) (onTc (τ := Cert.OqDxIdeal.τ) (Cert.OqDxIdeal.main (F := Ideal))) ⟨m, fun _ => 0, g⟩ (fun r => (∀ c : Dev Cert.OqDxIdeal.nD,
      r.2.mem ((c.tc : Thread Cert.OqDxIdeal.nD Cert.OqDxIdeal.τ).loc Cert.OqDxIdeal.main_arg0) = m ((c.tc : Thread Cert.OqDxIdeal.nD Cert.OqDxIdeal.τ).loc Cert.OqDxIdeal.main_arg0)
      ∧ r.2.mem ((c.tc : Thread Cert.OqDxIdeal.nD Cert.OqDxIdeal.τ).loc Cert.OqDxIdeal.main_arg1) = m ((c.tc : Thread Cert.OqDxIdeal.nD Cert.OqDxIdeal.τ).loc Cert.OqDxIdeal.main_arg1))
      ∧ r.2.sem = fun _ => 0)

def quiescent_OqDxRefIdeal [hOqDxRefIdeal : Cert.OqDxRefIdeal.Facts] : Prop :=
  ∀ (m : (ℓ : Loc Cert.OqDxRefIdeal.nD Cert.OqDxRefIdeal.τ Cert.OqDxRefIdeal.sig) → Buf (Elt Ideal) ℓ) (g : Dev Cert.OqDxRefIdeal.nD → PrngReg), Pre_OqDxRefIdeal m →
    θ_run (Cert.OqDxRefIdeal.defs (F := Ideal)) (onTc (τ := Cert.OqDxRefIdeal.τ) (Cert.OqDxRefIdeal.main (F := Ideal))) ⟨m, fun _ => 0, g⟩ (fun r => (∀ c : Dev Cert.OqDxRefIdeal.nD,
      r.2.mem ((c.tc : Thread Cert.OqDxRefIdeal.nD Cert.OqDxRefIdeal.τ).loc Cert.OqDxRefIdeal.main_arg0) = m ((c.tc : Thread Cert.OqDxRefIdeal.nD Cert.OqDxRefIdeal.τ).loc Cert.OqDxRefIdeal.main_arg0)
      ∧ r.2.mem ((c.tc : Thread Cert.OqDxRefIdeal.nD Cert.OqDxRefIdeal.τ).loc Cert.OqDxRefIdeal.main_arg1) = m ((c.tc : Thread Cert.OqDxRefIdeal.nD Cert.OqDxRefIdeal.τ).loc Cert.OqDxRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_GluUp [hGluUp : Cert.GluUp.Facts] : Prop :=
  ∀ (m : (ℓ : Loc Cert.GluUp.nD Cert.GluUp.τ Cert.GluUp.sig) → Buf (Elt Bits) ℓ) (g : Dev Cert.GluUp.nD → PrngReg), Pre_GluUp m →
    θ_run (Cert.GluUp.defs (F := Bits)) (onTc (τ := Cert.GluUp.τ) (Cert.GluUp.main (F := Bits))) ⟨m, fun _ => 0, g⟩ (fun r => (∀ c : Dev Cert.GluUp.nD,
      r.2.mem ((c.tc : Thread Cert.GluUp.nD Cert.GluUp.τ).loc Cert.GluUp.main_arg0) = m ((c.tc : Thread Cert.GluUp.nD Cert.GluUp.τ).loc Cert.GluUp.main_arg0)
      ∧ r.2.mem ((c.tc : Thread Cert.GluUp.nD Cert.GluUp.τ).loc Cert.GluUp.main_arg1) = m ((c.tc : Thread Cert.GluUp.nD Cert.GluUp.τ).loc Cert.GluUp.main_arg1)
      ∧ r.2.mem ((c.tc : Thread Cert.GluUp.nD Cert.GluUp.τ).loc Cert.GluUp.main_arg2) = m ((c.tc : Thread Cert.GluUp.nD Cert.GluUp.τ).loc Cert.GluUp.main_arg2)
      ∧ r.2.mem ((c.tc : Thread Cert.GluUp.nD Cert.GluUp.τ).loc Cert.GluUp.main_arg3) = m ((c.tc : Thread Cert.GluUp.nD Cert.GluUp.τ).loc Cert.GluUp.main_arg3))
      ∧ r.2.sem = fun _ => 0)

def quiescent_GluUpIdeal [hGluUpIdeal : Cert.GluUpIdeal.Facts] : Prop :=
  ∀ (m : (ℓ : Loc Cert.GluUpIdeal.nD Cert.GluUpIdeal.τ Cert.GluUpIdeal.sig) → Buf (Elt Ideal) ℓ) (g : Dev Cert.GluUpIdeal.nD → PrngReg), Pre_GluUpIdeal m →
    θ_run (Cert.GluUpIdeal.defs (F := Ideal)) (onTc (τ := Cert.GluUpIdeal.τ) (Cert.GluUpIdeal.main (F := Ideal))) ⟨m, fun _ => 0, g⟩ (fun r => (∀ c : Dev Cert.GluUpIdeal.nD,
      r.2.mem ((c.tc : Thread Cert.GluUpIdeal.nD Cert.GluUpIdeal.τ).loc Cert.GluUpIdeal.main_arg0) = m ((c.tc : Thread Cert.GluUpIdeal.nD Cert.GluUpIdeal.τ).loc Cert.GluUpIdeal.main_arg0)
      ∧ r.2.mem ((c.tc : Thread Cert.GluUpIdeal.nD Cert.GluUpIdeal.τ).loc Cert.GluUpIdeal.main_arg1) = m ((c.tc : Thread Cert.GluUpIdeal.nD Cert.GluUpIdeal.τ).loc Cert.GluUpIdeal.main_arg1)
      ∧ r.2.mem ((c.tc : Thread Cert.GluUpIdeal.nD Cert.GluUpIdeal.τ).loc Cert.GluUpIdeal.main_arg2) = m ((c.tc : Thread Cert.GluUpIdeal.nD Cert.GluUpIdeal.τ).loc Cert.GluUpIdeal.main_arg2)
      ∧ r.2.mem ((c.tc : Thread Cert.GluUpIdeal.nD Cert.GluUpIdeal.τ).loc Cert.GluUpIdeal.main_arg3) = m ((c.tc : Thread Cert.GluUpIdeal.nD Cert.GluUpIdeal.τ).loc Cert.GluUpIdeal.main_arg3))
      ∧ r.2.sem = fun _ => 0)

def quiescent_GluUpRefIdeal [hGluUpRefIdeal : Cert.GluUpRefIdeal.Facts] : Prop :=
  ∀ (m : (ℓ : Loc Cert.GluUpRefIdeal.nD Cert.GluUpRefIdeal.τ Cert.GluUpRefIdeal.sig) → Buf (Elt Ideal) ℓ) (g : Dev Cert.GluUpRefIdeal.nD → PrngReg), Pre_GluUpRefIdeal m →
    θ_run (Cert.GluUpRefIdeal.defs (F := Ideal)) (onTc (τ := Cert.GluUpRefIdeal.τ) (Cert.GluUpRefIdeal.main (F := Ideal))) ⟨m, fun _ => 0, g⟩ (fun r => (∀ c : Dev Cert.GluUpRefIdeal.nD,
      r.2.mem ((c.tc : Thread Cert.GluUpRefIdeal.nD Cert.GluUpRefIdeal.τ).loc Cert.GluUpRefIdeal.main_arg0) = m ((c.tc : Thread Cert.GluUpRefIdeal.nD Cert.GluUpRefIdeal.τ).loc Cert.GluUpRefIdeal.main_arg0)
      ∧ r.2.mem ((c.tc : Thread Cert.GluUpRefIdeal.nD Cert.GluUpRefIdeal.τ).loc Cert.GluUpRefIdeal.main_arg1) = m ((c.tc : Thread Cert.GluUpRefIdeal.nD Cert.GluUpRefIdeal.τ).loc Cert.GluUpRefIdeal.main_arg1)
      ∧ r.2.mem ((c.tc : Thread Cert.GluUpRefIdeal.nD Cert.GluUpRefIdeal.τ).loc Cert.GluUpRefIdeal.main_arg2) = m ((c.tc : Thread Cert.GluUpRefIdeal.nD Cert.GluUpRefIdeal.τ).loc Cert.GluUpRefIdeal.main_arg2)
      ∧ r.2.mem ((c.tc : Thread Cert.GluUpRefIdeal.nD Cert.GluUpRefIdeal.τ).loc Cert.GluUpRefIdeal.main_arg3) = m ((c.tc : Thread Cert.GluUpRefIdeal.nD Cert.GluUpRefIdeal.τ).loc Cert.GluUpRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_VProjRefIdeal [hVProjRefIdeal : Cert.VProjRefIdeal.Facts] : Prop :=
  ∀ (m : (ℓ : Loc Cert.VProjRefIdeal.nD Cert.VProjRefIdeal.τ Cert.VProjRefIdeal.sig) → Buf (Elt Ideal) ℓ) (g : Dev Cert.VProjRefIdeal.nD → PrngReg), Pre_VProjRefIdeal m →
    θ_run (Cert.VProjRefIdeal.defs (F := Ideal)) (onTc (τ := Cert.VProjRefIdeal.τ) (Cert.VProjRefIdeal.main (F := Ideal))) ⟨m, fun _ => 0, g⟩ (fun r => (∀ c : Dev Cert.VProjRefIdeal.nD,
      r.2.mem ((c.tc : Thread Cert.VProjRefIdeal.nD Cert.VProjRefIdeal.τ).loc Cert.VProjRefIdeal.main_arg0) = m ((c.tc : Thread Cert.VProjRefIdeal.nD Cert.VProjRefIdeal.τ).loc Cert.VProjRefIdeal.main_arg0)
      ∧ r.2.mem ((c.tc : Thread Cert.VProjRefIdeal.nD Cert.VProjRefIdeal.τ).loc Cert.VProjRefIdeal.main_arg1) = m ((c.tc : Thread Cert.VProjRefIdeal.nD Cert.VProjRefIdeal.τ).loc Cert.VProjRefIdeal.main_arg1))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_KProjRefIdeal [hKProjRefIdeal : Cert.KProjRefIdeal.Facts] : Prop :=
  ∀ (m : (ℓ : Loc Cert.KProjRefIdeal.nD Cert.KProjRefIdeal.τ Cert.KProjRefIdeal.sig) → Buf (Elt Ideal) ℓ) (g : Dev Cert.KProjRefIdeal.nD → PrngReg), Pre_KProjRefIdeal m →
    θ_run (Cert.KProjRefIdeal.defs (F := Ideal)) (onTc (τ := Cert.KProjRefIdeal.τ) (Cert.KProjRefIdeal.main (F := Ideal))) ⟨m, fun _ => 0, g⟩ (fun r => (∀ c : Dev Cert.KProjRefIdeal.nD,
      r.2.mem ((c.tc : Thread Cert.KProjRefIdeal.nD Cert.KProjRefIdeal.τ).loc Cert.KProjRefIdeal.main_arg0) = m ((c.tc : Thread Cert.KProjRefIdeal.nD Cert.KProjRefIdeal.τ).loc Cert.KProjRefIdeal.main_arg0)
      ∧ r.2.mem ((c.tc : Thread Cert.KProjRefIdeal.nD Cert.KProjRefIdeal.τ).loc Cert.KProjRefIdeal.main_arg1) = m ((c.tc : Thread Cert.KProjRefIdeal.nD Cert.KProjRefIdeal.τ).loc Cert.KProjRefIdeal.main_arg1)
      ∧ r.2.mem ((c.tc : Thread Cert.KProjRefIdeal.nD Cert.KProjRefIdeal.τ).loc Cert.KProjRefIdeal.main_arg2) = m ((c.tc : Thread Cert.KProjRefIdeal.nD Cert.KProjRefIdeal.τ).loc Cert.KProjRefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v10_0)) (v1 : (c : Dev Cert.MlpIdeal.nD) → Buf (Elt Ideal) ((c.tc : Thread Cert.MlpIdeal.nD Cert.MlpIdeal.τ).loc Cert.MlpIdeal.main_v10_1)) (v2 : (c : Dev Cert.MlpIdeal.nD) → Buf (Elt Ideal) ((c.tc : Thread Cert.MlpIdeal.nD Cert.MlpIdeal.τ).loc Cert.MlpIdeal.main_v10_2)) (v3 : (c : Dev Cert.MlpIdeal.nD) → Buf (Elt Ideal) ((c.tc : Thread Cert.MlpIdeal.nD Cert.MlpIdeal.τ).loc Cert.MlpIdeal.main_v10_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10_0) = v0 c
          ∧ r.2.mem ((c.tc : Thread Cert.MlpIdeal.nD Cert.MlpIdeal.τ).loc Cert.MlpIdeal.main_v10_1) = v1 c
          ∧ r.2.mem ((c.tc : Thread Cert.MlpIdeal.nD Cert.MlpIdeal.τ).loc Cert.MlpIdeal.main_v10_2) = v2 c
          ∧ r.2.mem ((c.tc : Thread Cert.MlpIdeal.nD Cert.MlpIdeal.τ).loc Cert.MlpIdeal.main_v10_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_v32) = v1 c
          ∧ r.2.mem ((c.tc : Thread Cert.MlpRefIdeal.nD Cert.MlpRefIdeal.τ).loc Cert.MlpRefIdeal.main_v33) = v2 c
          ∧ r.2.mem ((c.tc : Thread Cert.MlpRefIdeal.nD Cert.MlpRefIdeal.τ).loc Cert.MlpRefIdeal.main_v34) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Dcore_DcoreIdeal : Prop :=
  True

def algebraic_DcoreIdeal_DcoreRefIdeal [hDcoreIdeal : Cert.DcoreIdeal.Facts] [hDcoreRefIdeal : Cert.DcoreRefIdeal.Facts] : Prop :=
  ∀ (m : (ℓ : Loc Cert.DcoreIdeal.nD Cert.DcoreIdeal.τ Cert.DcoreIdeal.sig) → Buf (Elt Ideal) ℓ) (g : Dev Cert.DcoreIdeal.nD → PrngReg)
    (m' : (ℓ : Loc Cert.DcoreRefIdeal.nD Cert.DcoreRefIdeal.τ Cert.DcoreRefIdeal.sig) → Buf (Elt Ideal) ℓ) (g' : Dev Cert.DcoreRefIdeal.nD → PrngReg), Pre_DcoreIdeal m →
    (∀ c : Dev Cert.DcoreIdeal.nD,
      m' ((c.tc : Thread Cert.DcoreRefIdeal.nD Cert.DcoreRefIdeal.τ).loc Cert.DcoreRefIdeal.main_arg0) = m ((c.tc : Thread Cert.DcoreIdeal.nD Cert.DcoreIdeal.τ).loc Cert.DcoreIdeal.main_arg0)
      ∧ m' ((c.tc : Thread Cert.DcoreRefIdeal.nD Cert.DcoreRefIdeal.τ).loc Cert.DcoreRefIdeal.main_arg1) = m ((c.tc : Thread Cert.DcoreIdeal.nD Cert.DcoreIdeal.τ).loc Cert.DcoreIdeal.main_arg1)
      ∧ m' ((c.tc : Thread Cert.DcoreRefIdeal.nD Cert.DcoreRefIdeal.τ).loc Cert.DcoreRefIdeal.main_arg2) = m ((c.tc : Thread Cert.DcoreIdeal.nD Cert.DcoreIdeal.τ).loc Cert.DcoreIdeal.main_arg2)
      ∧ m' ((c.tc : Thread Cert.DcoreRefIdeal.nD Cert.DcoreRefIdeal.τ).loc Cert.DcoreRefIdeal.main_arg3) = m ((c.tc : Thread Cert.DcoreIdeal.nD Cert.DcoreIdeal.τ).loc Cert.DcoreIdeal.main_arg3)) →
    ∃ (v0 : (c : Dev Cert.DcoreIdeal.nD) → Buf (Elt Ideal) ((c.tc : Thread Cert.DcoreIdeal.nD Cert.DcoreIdeal.τ).loc Cert.DcoreIdeal.main_v10_0)) (v1 : (c : Dev Cert.DcoreIdeal.nD) → Buf (Elt Ideal) ((c.tc : Thread Cert.DcoreIdeal.nD Cert.DcoreIdeal.τ).loc Cert.DcoreIdeal.main_v10_1)),
      θ_run (Cert.DcoreIdeal.defs (F := Ideal)) (onTc (τ := Cert.DcoreIdeal.τ) (Cert.DcoreIdeal.main (F := Ideal))) ⟨m, fun _ => 0, g⟩ (fun r => ∀ c : Dev Cert.DcoreIdeal.nD,
          r.2.mem ((c.tc : Thread Cert.DcoreIdeal.nD Cert.DcoreIdeal.τ).loc Cert.DcoreIdeal.main_v10_0) = v0 c
          ∧ r.2.mem ((c.tc : Thread Cert.DcoreIdeal.nD Cert.DcoreIdeal.τ).loc Cert.DcoreIdeal.main_v10_1) = v1 c
          ∧ r.2.mem ((c.tc : Thread Cert.DcoreIdeal.nD Cert.DcoreIdeal.τ).loc Cert.DcoreIdeal.main_arg0) = m ((c.tc : Thread Cert.DcoreIdeal.nD Cert.DcoreIdeal.τ).loc Cert.DcoreIdeal.main_arg0)
          ∧ r.2.mem ((c.tc : Thread Cert.DcoreIdeal.nD Cert.DcoreIdeal.τ).loc Cert.DcoreIdeal.main_arg1) = m ((c.tc : Thread Cert.DcoreIdeal.nD Cert.DcoreIdeal.τ).loc Cert.DcoreIdeal.main_arg1)
          ∧ r.2.mem ((c.tc : Thread Cert.DcoreIdeal.nD Cert.DcoreIdeal.τ).loc Cert.DcoreIdeal.main_arg2) = m ((c.tc : Thread Cert.DcoreIdeal.nD Cert.DcoreIdeal.τ).loc Cert.DcoreIdeal.main_arg2)
          ∧ r.2.mem ((c.tc : Thread Cert.DcoreIdeal.nD Cert.DcoreIdeal.τ).loc Cert.DcoreIdeal.main_arg3) = m ((c.tc : Thread Cert.DcoreIdeal.nD Cert.DcoreIdeal.τ).loc Cert.DcoreIdeal.main_arg3))
      ∧ θ_run (Cert.DcoreRefIdeal.defs (F := Ideal)) (onTc (τ := Cert.DcoreRefIdeal.τ) (Cert.DcoreRefIdeal.main (F := Ideal))) ⟨m', fun _ => 0, g'⟩ (fun r => ∀ c : Dev Cert.DcoreRefIdeal.nD,
          r.2.mem ((c.tc : Thread Cert.DcoreRefIdeal.nD Cert.DcoreRefIdeal.τ).loc Cert.DcoreRefIdeal.main_v13) = v0 c
          ∧ r.2.mem ((c.tc : Thread Cert.DcoreRefIdeal.nD Cert.DcoreRefIdeal.τ).loc Cert.DcoreRefIdeal.main_v14) = v1 c
          ∧ r.2.mem ((c.tc : Thread Cert.DcoreRefIdeal.nD Cert.DcoreRefIdeal.τ).loc Cert.DcoreRefIdeal.main_arg0) = m' ((c.tc : Thread Cert.DcoreRefIdeal.nD Cert.DcoreRefIdeal.τ).loc Cert.DcoreRefIdeal.main_arg0)
          ∧ r.2.mem ((c.tc : Thread Cert.DcoreRefIdeal.nD Cert.DcoreRefIdeal.τ).loc Cert.DcoreRefIdeal.main_arg1) = m' ((c.tc : Thread Cert.DcoreRefIdeal.nD Cert.DcoreRefIdeal.τ).loc Cert.DcoreRefIdeal.main_arg1)
          ∧ r.2.mem ((c.tc : Thread Cert.DcoreRefIdeal.nD Cert.DcoreRefIdeal.τ).loc Cert.DcoreRefIdeal.main_arg2) = m' ((c.tc : Thread Cert.DcoreRefIdeal.nD Cert.DcoreRefIdeal.τ).loc Cert.DcoreRefIdeal.main_arg2)
          ∧ r.2.mem ((c.tc : Thread Cert.DcoreRefIdeal.nD Cert.DcoreRefIdeal.τ).loc Cert.DcoreRefIdeal.main_arg3) = m' ((c.tc : Thread Cert.DcoreRefIdeal.nD Cert.DcoreRefIdeal.τ).loc Cert.DcoreRefIdeal.main_arg3))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v2)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v2) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v6) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v5)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v5) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v8) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v2)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v2) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_OqDw_OqDwIdeal : Prop :=
  True

def algebraic_OqDwIdeal_OqDwRefIdeal [hOqDwIdeal : Cert.OqDwIdeal.Facts] [hOqDwRefIdeal : Cert.OqDwRefIdeal.Facts] : Prop :=
  ∀ (m : (ℓ : Loc Cert.OqDwIdeal.nD Cert.OqDwIdeal.τ Cert.OqDwIdeal.sig) → Buf (Elt Ideal) ℓ) (g : Dev Cert.OqDwIdeal.nD → PrngReg)
    (m' : (ℓ : Loc Cert.OqDwRefIdeal.nD Cert.OqDwRefIdeal.τ Cert.OqDwRefIdeal.sig) → Buf (Elt Ideal) ℓ) (g' : Dev Cert.OqDwRefIdeal.nD → PrngReg), Pre_OqDwIdeal m →
    (∀ c : Dev Cert.OqDwIdeal.nD,
      m' ((c.tc : Thread Cert.OqDwRefIdeal.nD Cert.OqDwRefIdeal.τ).loc Cert.OqDwRefIdeal.main_arg0) = m ((c.tc : Thread Cert.OqDwIdeal.nD Cert.OqDwIdeal.τ).loc Cert.OqDwIdeal.main_arg0)
      ∧ m' ((c.tc : Thread Cert.OqDwRefIdeal.nD Cert.OqDwRefIdeal.τ).loc Cert.OqDwRefIdeal.main_arg1) = m ((c.tc : Thread Cert.OqDwIdeal.nD Cert.OqDwIdeal.τ).loc Cert.OqDwIdeal.main_arg1)) →
    ∃ (v0 : (c : Dev Cert.OqDwIdeal.nD) → Buf (Elt Ideal) ((c.tc : Thread Cert.OqDwIdeal.nD Cert.OqDwIdeal.τ).loc Cert.OqDwIdeal.main_v2)),
      θ_run (Cert.OqDwIdeal.defs (F := Ideal)) (onTc (τ := Cert.OqDwIdeal.τ) (Cert.OqDwIdeal.main (F := Ideal))) ⟨m, fun _ => 0, g⟩ (fun r => ∀ c : Dev Cert.OqDwIdeal.nD,
          r.2.mem ((c.tc : Thread Cert.OqDwIdeal.nD Cert.OqDwIdeal.τ).loc Cert.OqDwIdeal.main_v2) = v0 c
          ∧ r.2.mem ((c.tc : Thread Cert.OqDwIdeal.nD Cert.OqDwIdeal.τ).loc Cert.OqDwIdeal.main_arg0) = m ((c.tc : Thread Cert.OqDwIdeal.nD Cert.OqDwIdeal.τ).loc Cert.OqDwIdeal.main_arg0)
          ∧ r.2.mem ((c.tc : Thread Cert.OqDwIdeal.nD Cert.OqDwIdeal.τ).loc Cert.OqDwIdeal.main_arg1) = m ((c.tc : Thread Cert.OqDwIdeal.nD Cert.OqDwIdeal.τ).loc Cert.OqDwIdeal.main_arg1))
      ∧ θ_run (Cert.OqDwRefIdeal.defs (F := Ideal)) (onTc (τ := Cert.OqDwRefIdeal.τ) (Cert.OqDwRefIdeal.main (F := Ideal))) ⟨m', fun _ => 0, g'⟩ (fun r => ∀ c : Dev Cert.OqDwRefIdeal.nD,
          r.2.mem ((c.tc : Thread Cert.OqDwRefIdeal.nD Cert.OqDwRefIdeal.τ).loc Cert.OqDwRefIdeal.main_v5) = v0 c
          ∧ r.2.mem ((c.tc : Thread Cert.OqDwRefIdeal.nD Cert.OqDwRefIdeal.τ).loc Cert.OqDwRefIdeal.main_arg0) = m' ((c.tc : Thread Cert.OqDwRefIdeal.nD Cert.OqDwRefIdeal.τ).loc Cert.OqDwRefIdeal.main_arg0)
          ∧ r.2.mem ((c.tc : Thread Cert.OqDwRefIdeal.nD Cert.OqDwRefIdeal.τ).loc Cert.OqDwRefIdeal.main_arg1) = m' ((c.tc : Thread Cert.OqDwRefIdeal.nD Cert.OqDwRefIdeal.τ).loc Cert.OqDwRefIdeal.main_arg1))

def preserves_OqDx_OqDxIdeal : Prop :=
  True

def algebraic_OqDxIdeal_OqDxRefIdeal [hOqDxIdeal : Cert.OqDxIdeal.Facts] [hOqDxRefIdeal : Cert.OqDxRefIdeal.Facts] : Prop :=
  ∀ (m : (ℓ : Loc Cert.OqDxIdeal.nD Cert.OqDxIdeal.τ Cert.OqDxIdeal.sig) → Buf (Elt Ideal) ℓ) (g : Dev Cert.OqDxIdeal.nD → PrngReg)
    (m' : (ℓ : Loc Cert.OqDxRefIdeal.nD Cert.OqDxRefIdeal.τ Cert.OqDxRefIdeal.sig) → Buf (Elt Ideal) ℓ) (g' : Dev Cert.OqDxRefIdeal.nD → PrngReg), Pre_OqDxIdeal m →
    (∀ c : Dev Cert.OqDxIdeal.nD,
      m' ((c.tc : Thread Cert.OqDxRefIdeal.nD Cert.OqDxRefIdeal.τ).loc Cert.OqDxRefIdeal.main_arg0) = m ((c.tc : Thread Cert.OqDxIdeal.nD Cert.OqDxIdeal.τ).loc Cert.OqDxIdeal.main_arg0)
      ∧ m' ((c.tc : Thread Cert.OqDxRefIdeal.nD Cert.OqDxRefIdeal.τ).loc Cert.OqDxRefIdeal.main_arg1) = m ((c.tc : Thread Cert.OqDxIdeal.nD Cert.OqDxIdeal.τ).loc Cert.OqDxIdeal.main_arg1)) →
    ∃ (v0 : (c : Dev Cert.OqDxIdeal.nD) → Buf (Elt Ideal) ((c.tc : Thread Cert.OqDxIdeal.nD Cert.OqDxIdeal.τ).loc Cert.OqDxIdeal.main_v3)),
      θ_run (Cert.OqDxIdeal.defs (F := Ideal)) (onTc (τ := Cert.OqDxIdeal.τ) (Cert.OqDxIdeal.main (F := Ideal))) ⟨m, fun _ => 0, g⟩ (fun r => ∀ c : Dev Cert.OqDxIdeal.nD,
          r.2.mem ((c.tc : Thread Cert.OqDxIdeal.nD Cert.OqDxIdeal.τ).loc Cert.OqDxIdeal.main_v3) = v0 c
          ∧ r.2.mem ((c.tc : Thread Cert.OqDxIdeal.nD Cert.OqDxIdeal.τ).loc Cert.OqDxIdeal.main_arg0) = m ((c.tc : Thread Cert.OqDxIdeal.nD Cert.OqDxIdeal.τ).loc Cert.OqDxIdeal.main_arg0)
          ∧ r.2.mem ((c.tc : Thread Cert.OqDxIdeal.nD Cert.OqDxIdeal.τ).loc Cert.OqDxIdeal.main_arg1) = m ((c.tc : Thread Cert.OqDxIdeal.nD Cert.OqDxIdeal.τ).loc Cert.OqDxIdeal.main_arg1))
      ∧ θ_run (Cert.OqDxRefIdeal.defs (F := Ideal)) (onTc (τ := Cert.OqDxRefIdeal.τ) (Cert.OqDxRefIdeal.main (F := Ideal))) ⟨m', fun _ => 0, g'⟩ (fun r => ∀ c : Dev Cert.OqDxRefIdeal.nD,
          r.2.mem ((c.tc : Thread Cert.OqDxRefIdeal.nD Cert.OqDxRefIdeal.τ).loc Cert.OqDxRefIdeal.main_v2) = v0 c
          ∧ r.2.mem ((c.tc : Thread Cert.OqDxRefIdeal.nD Cert.OqDxRefIdeal.τ).loc Cert.OqDxRefIdeal.main_arg0) = m' ((c.tc : Thread Cert.OqDxRefIdeal.nD Cert.OqDxRefIdeal.τ).loc Cert.OqDxRefIdeal.main_arg0)
          ∧ r.2.mem ((c.tc : Thread Cert.OqDxRefIdeal.nD Cert.OqDxRefIdeal.τ).loc Cert.OqDxRefIdeal.main_arg1) = m' ((c.tc : Thread Cert.OqDxRefIdeal.nD Cert.OqDxRefIdeal.τ).loc Cert.OqDxRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v4)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v4) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_GluUp_GluUpIdeal : Prop :=
  True

def algebraic_GluUpIdeal_GluUpRefIdeal [hGluUpIdeal : Cert.GluUpIdeal.Facts] [hGluUpRefIdeal : Cert.GluUpRefIdeal.Facts] : Prop :=
  ∀ (m : (ℓ : Loc Cert.GluUpIdeal.nD Cert.GluUpIdeal.τ Cert.GluUpIdeal.sig) → Buf (Elt Ideal) ℓ) (g : Dev Cert.GluUpIdeal.nD → PrngReg)
    (m' : (ℓ : Loc Cert.GluUpRefIdeal.nD Cert.GluUpRefIdeal.τ Cert.GluUpRefIdeal.sig) → Buf (Elt Ideal) ℓ) (g' : Dev Cert.GluUpRefIdeal.nD → PrngReg), Pre_GluUpIdeal m →
    (∀ c : Dev Cert.GluUpIdeal.nD,
      m' ((c.tc : Thread Cert.GluUpRefIdeal.nD Cert.GluUpRefIdeal.τ).loc Cert.GluUpRefIdeal.main_arg0) = m ((c.tc : Thread Cert.GluUpIdeal.nD Cert.GluUpIdeal.τ).loc Cert.GluUpIdeal.main_arg0)
      ∧ m' ((c.tc : Thread Cert.GluUpRefIdeal.nD Cert.GluUpRefIdeal.τ).loc Cert.GluUpRefIdeal.main_arg1) = m ((c.tc : Thread Cert.GluUpIdeal.nD Cert.GluUpIdeal.τ).loc Cert.GluUpIdeal.main_arg1)
      ∧ m' ((c.tc : Thread Cert.GluUpRefIdeal.nD Cert.GluUpRefIdeal.τ).loc Cert.GluUpRefIdeal.main_arg2) = m ((c.tc : Thread Cert.GluUpIdeal.nD Cert.GluUpIdeal.τ).loc Cert.GluUpIdeal.main_arg2)
      ∧ m' ((c.tc : Thread Cert.GluUpRefIdeal.nD Cert.GluUpRefIdeal.τ).loc Cert.GluUpRefIdeal.main_arg3) = m ((c.tc : Thread Cert.GluUpIdeal.nD Cert.GluUpIdeal.τ).loc Cert.GluUpIdeal.main_arg3)) →
    ∃ (v0 : (c : Dev Cert.GluUpIdeal.nD) → Buf (Elt Ideal) ((c.tc : Thread Cert.GluUpIdeal.nD Cert.GluUpIdeal.τ).loc Cert.GluUpIdeal.main_v7_0)) (v1 : (c : Dev Cert.GluUpIdeal.nD) → Buf (Elt Ideal) ((c.tc : Thread Cert.GluUpIdeal.nD Cert.GluUpIdeal.τ).loc Cert.GluUpIdeal.main_v7_1)) (v2 : (c : Dev Cert.GluUpIdeal.nD) → Buf (Elt Ideal) ((c.tc : Thread Cert.GluUpIdeal.nD Cert.GluUpIdeal.τ).loc Cert.GluUpIdeal.main_v7_2)),
      θ_run (Cert.GluUpIdeal.defs (F := Ideal)) (onTc (τ := Cert.GluUpIdeal.τ) (Cert.GluUpIdeal.main (F := Ideal))) ⟨m, fun _ => 0, g⟩ (fun r => ∀ c : Dev Cert.GluUpIdeal.nD,
          r.2.mem ((c.tc : Thread Cert.GluUpIdeal.nD Cert.GluUpIdeal.τ).loc Cert.GluUpIdeal.main_v7_0) = v0 c
          ∧ r.2.mem ((c.tc : Thread Cert.GluUpIdeal.nD Cert.GluUpIdeal.τ).loc Cert.GluUpIdeal.main_v7_1) = v1 c
          ∧ r.2.mem ((c.tc : Thread Cert.GluUpIdeal.nD Cert.GluUpIdeal.τ).loc Cert.GluUpIdeal.main_v7_2) = v2 c
          ∧ r.2.mem ((c.tc : Thread Cert.GluUpIdeal.nD Cert.GluUpIdeal.τ).loc Cert.GluUpIdeal.main_arg0) = m ((c.tc : Thread Cert.GluUpIdeal.nD Cert.GluUpIdeal.τ).loc Cert.GluUpIdeal.main_arg0)
          ∧ r.2.mem ((c.tc : Thread Cert.GluUpIdeal.nD Cert.GluUpIdeal.τ).loc Cert.GluUpIdeal.main_arg1) = m ((c.tc : Thread Cert.GluUpIdeal.nD Cert.GluUpIdeal.τ).loc Cert.GluUpIdeal.main_arg1)
          ∧ r.2.mem ((c.tc : Thread Cert.GluUpIdeal.nD Cert.GluUpIdeal.τ).loc Cert.GluUpIdeal.main_arg2) = m ((c.tc : Thread Cert.GluUpIdeal.nD Cert.GluUpIdeal.τ).loc Cert.GluUpIdeal.main_arg2)
          ∧ r.2.mem ((c.tc : Thread Cert.GluUpIdeal.nD Cert.GluUpIdeal.τ).loc Cert.GluUpIdeal.main_arg3) = m ((c.tc : Thread Cert.GluUpIdeal.nD Cert.GluUpIdeal.τ).loc Cert.GluUpIdeal.main_arg3))
      ∧ θ_run (Cert.GluUpRefIdeal.defs (F := Ideal)) (onTc (τ := Cert.GluUpRefIdeal.τ) (Cert.GluUpRefIdeal.main (F := Ideal))) ⟨m', fun _ => 0, g'⟩ (fun r => ∀ c : Dev Cert.GluUpRefIdeal.nD,
          r.2.mem ((c.tc : Thread Cert.GluUpRefIdeal.nD Cert.GluUpRefIdeal.τ).loc Cert.GluUpRefIdeal.main_v14) = v0 c
          ∧ r.2.mem ((c.tc : Thread Cert.GluUpRefIdeal.nD Cert.GluUpRefIdeal.τ).loc Cert.GluUpRefIdeal.main_v15) = v1 c
          ∧ r.2.mem ((c.tc : Thread Cert.GluUpRefIdeal.nD Cert.GluUpRefIdeal.τ).loc Cert.GluUpRefIdeal.main_v16) = v2 c
          ∧ r.2.mem ((c.tc : Thread Cert.GluUpRefIdeal.nD Cert.GluUpRefIdeal.τ).loc Cert.GluUpRefIdeal.main_arg0) = m' ((c.tc : Thread Cert.GluUpRefIdeal.nD Cert.GluUpRefIdeal.τ).loc Cert.GluUpRefIdeal.main_arg0)
          ∧ r.2.mem ((c.tc : Thread Cert.GluUpRefIdeal.nD Cert.GluUpRefIdeal.τ).loc Cert.GluUpRefIdeal.main_arg1) = m' ((c.tc : Thread Cert.GluUpRefIdeal.nD Cert.GluUpRefIdeal.τ).loc Cert.GluUpRefIdeal.main_arg1)
          ∧ r.2.mem ((c.tc : Thread Cert.GluUpRefIdeal.nD Cert.GluUpRefIdeal.τ).loc Cert.GluUpRefIdeal.main_arg2) = m' ((c.tc : Thread Cert.GluUpRefIdeal.nD Cert.GluUpRefIdeal.τ).loc Cert.GluUpRefIdeal.main_arg2)
          ∧ r.2.mem ((c.tc : Thread Cert.GluUpRefIdeal.nD Cert.GluUpRefIdeal.τ).loc Cert.GluUpRefIdeal.main_arg3) = m' ((c.tc : Thread Cert.GluUpRefIdeal.nD Cert.GluUpRefIdeal.τ).loc Cert.GluUpRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)) →
    ∃ (v0 : (c : Dev Cert.OProjIdeal.nD) → Buf (Elt Ideal) ((c.tc : Thread Cert.OProjIdeal.nD Cert.OProjIdeal.τ).loc Cert.OProjIdeal.main_v6_0)) (v1 : (c : Dev Cert.OProjIdeal.nD) → Buf (Elt Ideal) ((c.tc : Thread Cert.OProjIdeal.nD Cert.OProjIdeal.τ).loc Cert.OProjIdeal.main_v6_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v6_0) = v0 c
          ∧ r.2.mem ((c.tc : Thread Cert.OProjIdeal.nD Cert.OProjIdeal.τ).loc Cert.OProjIdeal.main_v6_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v5) = v0 c
          ∧ r.2.mem ((c.tc : Thread Cert.OProjRefIdeal.nD Cert.OProjRefIdeal.τ).loc Cert.OProjRefIdeal.main_v6) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3))

def preserves_VProj_VProjIdeal : Prop :=
  True

def algebraic_VProjIdeal_VProjRefIdeal [hVProjIdeal : Cert.VProjIdeal.Facts] [hVProjRefIdeal : Cert.VProjRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VProjRefIdeal.nD Cert.VProjRefIdeal.τ Cert.VProjRefIdeal.sig) → Buf (Elt Ideal) ℓ) (g' : Dev Cert.VProjRefIdeal.nD → PrngReg), Pre_VProjIdeal m →
    (∀ c : Dev Cert.VProjIdeal.nD,
      m' ((c.tc : Thread Cert.VProjRefIdeal.nD Cert.VProjRefIdeal.τ).loc Cert.VProjRefIdeal.main_arg0) = m ((c.tc : Thread Cert.VProjIdeal.nD Cert.VProjIdeal.τ).loc Cert.VProjIdeal.main_arg0)
      ∧ m' ((c.tc : Thread Cert.VProjRefIdeal.nD Cert.VProjRefIdeal.τ).loc Cert.VProjRefIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v4)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v4) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.VProjRefIdeal.defs (F := Ideal)) (onTc (τ := Cert.VProjRefIdeal.τ) (Cert.VProjRefIdeal.main (F := Ideal))) ⟨m', fun _ => 0, g'⟩ (fun r => ∀ c : Dev Cert.VProjRefIdeal.nD,
          r.2.mem ((c.tc : Thread Cert.VProjRefIdeal.nD Cert.VProjRefIdeal.τ).loc Cert.VProjRefIdeal.main_v3) = v0 c
          ∧ r.2.mem ((c.tc : Thread Cert.VProjRefIdeal.nD Cert.VProjRefIdeal.τ).loc Cert.VProjRefIdeal.main_arg0) = m' ((c.tc : Thread Cert.VProjRefIdeal.nD Cert.VProjRefIdeal.τ).loc Cert.VProjRefIdeal.main_arg0)
          ∧ r.2.mem ((c.tc : Thread Cert.VProjRefIdeal.nD Cert.VProjRefIdeal.τ).loc Cert.VProjRefIdeal.main_arg1) = m' ((c.tc : Thread Cert.VProjRefIdeal.nD Cert.VProjRefIdeal.τ).loc Cert.VProjRefIdeal.main_arg1))

def preserves_KProj_KProjIdeal : Prop :=
  True

def algebraic_KProjIdeal_KProjRefIdeal [hKProjIdeal : Cert.KProjIdeal.Facts] [hKProjRefIdeal : Cert.KProjRefIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.KProjRefIdeal.nD Cert.KProjRefIdeal.τ Cert.KProjRefIdeal.sig) → Buf (Elt Ideal) ℓ) (g' : Dev Cert.KProjRefIdeal.nD → PrngReg), Pre_KProjIdeal m →
    (∀ c : Dev Cert.KProjIdeal.nD,
      m' ((c.tc : Thread Cert.KProjRefIdeal.nD Cert.KProjRefIdeal.τ).loc Cert.KProjRefIdeal.main_arg0) = m ((c.tc : Thread Cert.KProjIdeal.nD Cert.KProjIdeal.τ).loc Cert.KProjIdeal.main_arg0)
      ∧ m' ((c.tc : Thread Cert.KProjRefIdeal.nD Cert.KProjRefIdeal.τ).loc Cert.KProjRefIdeal.main_arg1) = m ((c.tc : Thread Cert.KProjIdeal.nD Cert.KProjIdeal.τ).loc Cert.KProjIdeal.main_arg1)
      ∧ m' ((c.tc : Thread Cert.KProjRefIdeal.nD Cert.KProjRefIdeal.τ).loc Cert.KProjRefIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v8_0)) (v1 : (c : Dev Cert.KProjIdeal.nD) → Buf (Elt Ideal) ((c.tc : Thread Cert.KProjIdeal.nD Cert.KProjIdeal.τ).loc Cert.KProjIdeal.main_v8_1)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v8_0) = v0 c
          ∧ r.2.mem ((c.tc : Thread Cert.KProjIdeal.nD Cert.KProjIdeal.τ).loc Cert.KProjIdeal.main_v8_1) = v1 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.KProjRefIdeal.defs (F := Ideal)) (onTc (τ := Cert.KProjRefIdeal.τ) (Cert.KProjRefIdeal.main (F := Ideal))) ⟨m', fun _ => 0, g'⟩ (fun r => ∀ c : Dev Cert.KProjRefIdeal.nD,
          r.2.mem ((c.tc : Thread Cert.KProjRefIdeal.nD Cert.KProjRefIdeal.τ).loc Cert.KProjRefIdeal.main_v1) = v0 c
          ∧ r.2.mem ((c.tc : Thread Cert.KProjRefIdeal.nD Cert.KProjRefIdeal.τ).loc Cert.KProjRefIdeal.main_v18) = v1 c
          ∧ r.2.mem ((c.tc : Thread Cert.KProjRefIdeal.nD Cert.KProjRefIdeal.τ).loc Cert.KProjRefIdeal.main_arg0) = m' ((c.tc : Thread Cert.KProjRefIdeal.nD Cert.KProjRefIdeal.τ).loc Cert.KProjRefIdeal.main_arg0)
          ∧ r.2.mem ((c.tc : Thread Cert.KProjRefIdeal.nD Cert.KProjRefIdeal.τ).loc Cert.KProjRefIdeal.main_arg1) = m' ((c.tc : Thread Cert.KProjRefIdeal.nD Cert.KProjRefIdeal.τ).loc Cert.KProjRefIdeal.main_arg1)
          ∧ r.2.mem ((c.tc : Thread Cert.KProjRefIdeal.nD Cert.KProjRefIdeal.τ).loc Cert.KProjRefIdeal.main_arg2) = m' ((c.tc : Thread Cert.KProjRefIdeal.nD Cert.KProjRefIdeal.τ).loc Cert.KProjRefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v7_0)) (v1 : (c : Dev Cert.QProjIdeal.nD) → Buf (Elt Ideal) ((c.tc : Thread Cert.QProjIdeal.nD Cert.QProjIdeal.τ).loc Cert.QProjIdeal.main_v7_1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v7_0) = v0 c
          ∧ r.2.mem ((c.tc : Thread Cert.QProjIdeal.nD Cert.QProjIdeal.τ).loc Cert.QProjIdeal.main_v7_1) = v1 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v0) = v0 c
          ∧ r.2.mem ((c.tc : Thread Cert.QProjRefIdeal.nD Cert.QProjRefIdeal.τ).loc Cert.QProjRefIdeal.main_v18) = v1 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def Claim : Prop :=
  ∃ (hMlp : Cert.Mlp.Facts) (hMlpIdeal : Cert.MlpIdeal.Facts) (hMlpRefIdeal : Cert.MlpRefIdeal.Facts) (hDcore : Cert.Dcore.Facts) (hDcoreIdeal : Cert.DcoreIdeal.Facts) (hDcoreRefIdeal : Cert.DcoreRefIdeal.Facts) (hDw1 : Cert.Dw1.Facts) (hDw1Ideal : Cert.Dw1Ideal.Facts) (hDw1RefIdeal : Cert.Dw1RefIdeal.Facts) (hDw2 : Cert.Dw2.Facts) (hDw2Ideal : Cert.Dw2Ideal.Facts) (hDw2RefIdeal : Cert.Dw2RefIdeal.Facts) (hKvDw : Cert.KvDw.Facts) (hKvDwIdeal : Cert.KvDwIdeal.Facts) (hKvDwRefIdeal : Cert.KvDwRefIdeal.Facts) (hOqDw : Cert.OqDw.Facts) (hOqDwIdeal : Cert.OqDwIdeal.Facts) (hOqDwRefIdeal : Cert.OqDwRefIdeal.Facts) (hOqDx : Cert.OqDx.Facts) (hOqDxIdeal : Cert.OqDxIdeal.Facts) (hOqDxRefIdeal : Cert.OqDxRefIdeal.Facts) (hKvDx : Cert.KvDx.Facts) (hKvDxIdeal : Cert.KvDxIdeal.Facts) (hKvDxRefIdeal : Cert.KvDxRefIdeal.Facts) (hGluUp : Cert.GluUp.Facts) (hGluUpIdeal : Cert.GluUpIdeal.Facts) (hGluUpRefIdeal : Cert.GluUpRefIdeal.Facts) (hOProj : Cert.OProj.Facts) (hOProjIdeal : Cert.OProjIdeal.Facts) (hOProjRefIdeal : Cert.OProjRefIdeal.Facts) (hVProj : Cert.VProj.Facts) (hVProjIdeal : Cert.VProjIdeal.Facts) (hVProjRefIdeal : Cert.VProjRefIdeal.Facts) (hKProj : Cert.KProj.Facts) (hKProjIdeal : Cert.KProjIdeal.Facts) (hKProjRefIdeal : Cert.KProjRefIdeal.Facts) (hQProj : Cert.QProj.Facts) (hQProjIdeal : Cert.QProjIdeal.Facts) (hQProjRefIdeal : Cert.QProjRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Dcore (hDcore := hDcore)
    ∧ quiescent_DcoreIdeal (hDcoreIdeal := hDcoreIdeal)
    ∧ quiescent_DcoreRefIdeal (hDcoreRefIdeal := hDcoreRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_OqDw (hOqDw := hOqDw)
    ∧ quiescent_OqDwIdeal (hOqDwIdeal := hOqDwIdeal)
    ∧ quiescent_OqDwRefIdeal (hOqDwRefIdeal := hOqDwRefIdeal)
    ∧ quiescent_OqDx (hOqDx := hOqDx)
    ∧ quiescent_OqDxIdeal (hOqDxIdeal := hOqDxIdeal)
    ∧ quiescent_OqDxRefIdeal (hOqDxRefIdeal := hOqDxRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_GluUp (hGluUp := hGluUp)
    ∧ quiescent_GluUpIdeal (hGluUpIdeal := hGluUpIdeal)
    ∧ quiescent_GluUpRefIdeal (hGluUpRefIdeal := hGluUpRefIdeal)
    ∧ quiescent_OProj (hOProj := hOProj)
    ∧ quiescent_OProjIdeal (hOProjIdeal := hOProjIdeal)
    ∧ quiescent_OProjRefIdeal (hOProjRefIdeal := hOProjRefIdeal)
    ∧ quiescent_VProj (hVProj := hVProj)
    ∧ quiescent_VProjIdeal (hVProjIdeal := hVProjIdeal)
    ∧ quiescent_VProjRefIdeal (hVProjRefIdeal := hVProjRefIdeal)
    ∧ quiescent_KProj (hKProj := hKProj)
    ∧ quiescent_KProjIdeal (hKProjIdeal := hKProjIdeal)
    ∧ quiescent_KProjRefIdeal (hKProjRefIdeal := hKProjRefIdeal)
    ∧ quiescent_QProj (hQProj := hQProj)
    ∧ quiescent_QProjIdeal (hQProjIdeal := hQProjIdeal)
    ∧ quiescent_QProjRefIdeal (hQProjRefIdeal := hQProjRefIdeal)
    ∧ preserves_Mlp_MlpIdeal
    ∧ algebraic_MlpIdeal_MlpRefIdeal (hMlpIdeal := hMlpIdeal) (hMlpRefIdeal := hMlpRefIdeal)
    ∧ preserves_Dcore_DcoreIdeal
    ∧ algebraic_DcoreIdeal_DcoreRefIdeal (hDcoreIdeal := hDcoreIdeal) (hDcoreRefIdeal := hDcoreRefIdeal)
    ∧ preserves_Dw1_Dw1Ideal
    ∧ algebraic_Dw1Ideal_Dw1RefIdeal (hDw1Ideal := hDw1Ideal) (hDw1RefIdeal := hDw1RefIdeal)
    ∧ preserves_Dw2_Dw2Ideal
    ∧ algebraic_Dw2Ideal_Dw2RefIdeal (hDw2Ideal := hDw2Ideal) (hDw2RefIdeal := hDw2RefIdeal)
    ∧ preserves_KvDw_KvDwIdeal
    ∧ algebraic_KvDwIdeal_KvDwRefIdeal (hKvDwIdeal := hKvDwIdeal) (hKvDwRefIdeal := hKvDwRefIdeal)
    ∧ preserves_OqDw_OqDwIdeal
    ∧ algebraic_OqDwIdeal_OqDwRefIdeal (hOqDwIdeal := hOqDwIdeal) (hOqDwRefIdeal := hOqDwRefIdeal)
    ∧ preserves_OqDx_OqDxIdeal
    ∧ algebraic_OqDxIdeal_OqDxRefIdeal (hOqDxIdeal := hOqDxIdeal) (hOqDxRefIdeal := hOqDxRefIdeal)
    ∧ preserves_KvDx_KvDxIdeal
    ∧ algebraic_KvDxIdeal_KvDxRefIdeal (hKvDxIdeal := hKvDxIdeal) (hKvDxRefIdeal := hKvDxRefIdeal)
    ∧ preserves_GluUp_GluUpIdeal
    ∧ algebraic_GluUpIdeal_GluUpRefIdeal (hGluUpIdeal := hGluUpIdeal) (hGluUpRefIdeal := hGluUpRefIdeal)
    ∧ preserves_OProj_OProjIdeal
    ∧ algebraic_OProjIdeal_OProjRefIdeal (hOProjIdeal := hOProjIdeal) (hOProjRefIdeal := hOProjRefIdeal)
    ∧ preserves_VProj_VProjIdeal
    ∧ algebraic_VProjIdeal_VProjRefIdeal (hVProjIdeal := hVProjIdeal) (hVProjRefIdeal := hVProjRefIdeal)
    ∧ preserves_KProj_KProjIdeal
    ∧ algebraic_KProjIdeal_KProjRefIdeal (hKProjIdeal := hKProjIdeal) (hKProjRefIdeal := hKProjRefIdeal)
    ∧ preserves_QProj_QProjIdeal
    ∧ algebraic_QProjIdeal_QProjRefIdeal (hQProjIdeal := hQProjIdeal) (hQProjRefIdeal := hQProjRefIdeal)
-- ==== Mlp.lean ====
abbrev S2x2048x1024 : Shape := ⟨3, ![2, 2048, 1024]⟩
abbrev S1024 : Shape := ⟨1, ![1024]⟩
abbrev S2x1024 : Shape := ⟨2, ![2, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1x1024 : Shape := ⟨3, ![1, 1, 1024]⟩
abbrev S2x1x1024 : Shape := ⟨3, ![2, 1, 1024]⟩
abbrev S4096x4096 : Shape := ⟨2, ![4096, 4096]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S1x1024 : Shape := ⟨2, ![1, 1024]⟩
abbrev S1024x1 : Shape := ⟨2, ![1024, 1]⟩
abbrev S512x1024 : Shape := ⟨2, ![512, 1024]⟩

abbrev nBuf : Space → Nat
  | .hbm => 21
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S8x512x1024, .f32⟩
  | .hbm, ⟨11, _⟩ => ⟨S8x512x1024, .bf16⟩
  | .hbm, ⟨12, _⟩ => ⟨S1x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S4096x1024, .f32⟩
  | .hbm, ⟨17, _⟩ => ⟨S4096x1024, .bf16⟩
  | .hbm, ⟨18, _⟩ => ⟨S4096x4096, .bf16⟩
  | .hbm, ⟨19, _⟩ => ⟨S4096x1024, .f32⟩
  | .hbm, ⟨20, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlpRefIdeal.lean ====
abbrev S2x2048x1024 : Shape := ⟨3, ![2, 2048, 1024]⟩
abbrev S1024 : Shape := ⟨1, ![1024]⟩
abbrev S2x1024 : Shape := ⟨2, ![2, 1024]⟩
abbrev S1024x4096 : Shape := ⟨2, ![1024, 4096]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x4096 : Shape := ⟨3, ![2, 2048, 4096]⟩
abbrev S4096x4096 : Shape := ⟨2, ![4096, 4096]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x4096, .f32⟩
  | .hbm, ⟨6, _⟩ => ⟨S4096x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x4096, .f32⟩
  | .hbm, ⟨33, _⟩ => ⟨S_, .f32⟩
  | .hbm, ⟨34, _⟩ => ⟨S2x2048x4096, .f32⟩
  | .hbm, ⟨35, _⟩ => ⟨S2x2048x4096, .f32⟩
  | .hbm, ⟨36, _⟩ => ⟨S2x2048x4096, .f32⟩
  | .hbm, ⟨37, _⟩ => ⟨S2x2048x1024, .f32⟩
  | .hbm, ⟨38, _⟩ => ⟨S2x1x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S4096x1024, .f32⟩
  | .hbm, ⟨43, _⟩ => ⟨S4096x1024, .bf16⟩
  | .hbm, ⟨44, _⟩ => ⟨S4096x4096, .f32⟩
  | .hbm, ⟨45, _⟩ => ⟨S4096x4096, .bf16⟩
  | .hbm, ⟨46, _⟩ => ⟨S4096x1024, .f32⟩
  | .hbm, ⟨47, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Dcore.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4096x4096 : Shape := ⟨2, ![4096, 4096]⟩
abbrev S_ : Shape := ⟨0, ![]⟩
abbrev S1024x1024 : Shape := ⟨2, ![1024, 1024]⟩
abbrev S1024x512 : Shape := ⟨2, ![1024, 512]⟩
abbrev S1x1024x512 : Shape := ⟨3, ![1, 1024, 512]⟩
abbrev S1x512x1024 : Shape := ⟨3, ![1, 512, 1024]⟩
abbrev S512x1024 : Shape := ⟨2, ![512, 1024]⟩

abbrev nBuf : Space → Nat
  | .hbm => 18
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x512x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .bf16⟩
  | .hbm, ⟨13, _⟩ => ⟨S4096x4096, .bf16⟩
  | .hbm, ⟨14, _⟩ => ⟨S8x1024x512, .bf16⟩
  | .hbm, ⟨15, _⟩ => ⟨S8x512x1024, .bf16⟩
  | .hbm, ⟨16, _⟩ => ⟨S4096x4096, .bf16⟩
  | .hbm, ⟨17, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_18 : BitVec 32 := 0#32
  let v27 : BitVec 1 := Scalar.cmpi .ne v26 c0_i32_18
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DcoreRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Dw1.lean ====
abbrev S4096x1024 : Shape := ⟨2, ![4096, 1024]⟩
abbrev S4096x4096 : Shape := ⟨2, ![4096, 4096]⟩
abbrev S8x1024x512 : Shape := ⟨3, ![8, 1024, 512]⟩
abbrev S1024x1024 : Shape := ⟨2, ![1024, 1024]⟩
abbrev S1024x4096 : Shape := ⟨2, ![1024, 4096]⟩
abbrev S1024x512 : Shape := ⟨2, ![1024, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S8x1024x512, .bf16⟩
  | .local _ .vmem, ⟨5, _⟩ => ⟨S8x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v91 : BitVec 1 := Scalar.cmpi .eq arg0 c3_i32
  let v92 : BitVec 32 := Scalar.extui v91
  let c0_i32_73 : BitVec 32 := 0#32
  let v93 : BitVec 1 := Scalar.cmpi .ne v92 c0_i32_73
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Dw1RefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dw2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S8x512x1024 : Shape := ⟨3, ![8, 512, 1024]⟩
abbrev S1024x1024 : Shape := ⟨2, ![1024, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S8x512x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S8x512x1024, .bf16⟩
  | .local _ .vmem, ⟨5, _⟩ => ⟨S8x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v91 : BitVec 1 := Scalar.cmpi .eq arg0 c3_i32
  let v92 : BitVec 32 := Scalar.extui v91
  let c0_i32_73 : BitVec 32 := 0#32
  let v93 : BitVec 1 := Scalar.cmpi .ne v92 c0_i32_73
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Dw2RefIdeal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | .hbm, ⟨14, _⟩ => ⟨S8x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KvDw.lean ====
abbrev S4096x1024 : Shape := ⟨2, ![4096, 1024]⟩
abbrev S4096x2048 : Shape := ⟨2, ![4096, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S8x1024x256, .bf16⟩
  | .local _ .vmem, ⟨5, _⟩ => ⟨S8x1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v91 : BitVec 1 := Scalar.cmpi .eq arg0 c3_i32
  let v92 : BitVec 32 := Scalar.extui v91
  let c0_i32_73 : BitVec 32 := 0#32
  let v93 : BitVec 1 := Scalar.cmpi .ne v92 c0_i32_73
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KvDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OqDw.lean ====
abbrev S4096x1024 : Shape := ⟨2, ![4096, 1024]⟩
abbrev S8x128x1024 : Shape := ⟨3, ![8, 128, 1024]⟩
abbrev S1024x1024 : Shape := ⟨2, ![1024, 1024]⟩
abbrev S1024x128 : Shape := ⟨2, ![1024, 128]⟩
abbrev S1x128x1024 : Shape := ⟨3, ![1, 128, 1024]⟩
abbrev S128x1024 : Shape := ⟨2, ![128, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128x1024, .bf16⟩
  | .local _ .vmem, ⟨5, _⟩ => ⟨S8x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v91 : BitVec 1 := Scalar.cmpi .eq arg0 c3_i32
  let v92 : BitVec 32 := Scalar.extui v91
  let c0_i32_73 : BitVec 32 := 0#32
  let v93 : BitVec 1 := Scalar.cmpi .ne v92 c0_i32_73
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OqDwRefIdeal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S8x128x1024, .f32⟩
  | .hbm, ⟨8, _⟩ => ⟨S8x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OqDx.lean ====
abbrev S1024x1024 : Shape := ⟨2, ![1024, 1024]⟩
abbrev S4096x1024 : Shape := ⟨2, ![4096, 1024]⟩
abbrev S1x1024x1024 : Shape := ⟨3, ![1, 1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1x1024x1024, .f32⟩
  | .hbm, ⟨4, _⟩ => ⟨S1x1024x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .f32⟩
  | .local _ .vmem, ⟨4, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OqDxRefIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvDx.lean ====
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S512x2048 : Shape := ⟨2, ![512, 2048]⟩
abbrev S512x1024 : Shape := ⟨2, ![512, 1024]⟩
abbrev S1x1024x256 : Shape := ⟨3, ![1, 1024, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S4096x2048, .bf16⟩
  | .hbm, ⟨6, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvDxRefIdeal.lean ====
abbrev S1024x2048 : Shape := ⟨2, ![1024, 2048]⟩
abbrev S4096x2048 : Shape := ⟨2, ![4096, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GluUp.lean ====
abbrev S2x2048x1024 : Shape := ⟨3, ![2, 2048, 1024]⟩
abbrev S1024x2048 : Shape := ⟨2, ![1024, 2048]⟩
abbrev S2x1024 : Shape := ⟨2, ![2, 1024]⟩
abbrev S1024x8x256 : Shape := ⟨3, ![1024, 8, 256]⟩
abbrev S8x1024x256 : Shape := ⟨3, ![8, 1024, 256]⟩
abbrev S2x1x1024 : Shape := ⟨3, ![2, 1, 1024]⟩
abbrev S4096x1024 : Shape := ⟨2, ![4096, 1024]⟩
abbrev S1024x1024 : Shape := ⟨2, ![1024, 1024]⟩
abbrev S1x1024x256 : Shape := ⟨3, ![1, 1024, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 14
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x2048, .f32⟩
  | .hbm, ⟨2, _⟩ => ⟨S2x2048x1024, .f32⟩
  | .hbm, ⟨3, _⟩ => ⟨S2x1024, .f32⟩
  | .hbm, ⟨4, _⟩ => ⟨S1024x8x256, .f32⟩
  | .hbm, ⟨5, _⟩ => ⟨S8x1024x256, .f32⟩
  | .hbm, ⟨6, _⟩ => ⟨S8x1024x256, .bf16⟩
  | .hbm, ⟨7, _⟩ => ⟨S2x2048x1024, .bf16⟩
  | .hbm, ⟨8, _⟩ => ⟨S2x1x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | .local _ .vmem, ⟨7, _⟩ => ⟨S1024x256, .f32⟩
  | .local _ .vmem, ⟨8, _⟩ => ⟨S1x1x256, .f32⟩
  | .local _ .vmem, ⟨9, _⟩ => ⟨S1x1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluUpRefIdeal.lean ====
abbrev S2x2048x1024 : Shape := ⟨3, ![2, 2048, 1024]⟩
abbrev S1024x2048 : Shape := ⟨2, ![1024, 2048]⟩
abbrev S2x1024 : Shape := ⟨2, ![2, 1024]⟩
abbrev S2x2048x2048 : Shape := ⟨3, ![2, 2048, 2048]⟩
abbrev S2x1x1024 : Shape := ⟨3, ![2, 1, 1024]⟩
abbrev S_ : Shape := ⟨0, ![]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2048, .f32⟩
  | .hbm, ⟨2, _⟩ => ⟨S2x2048x1024, .f32⟩
  | .hbm, ⟨3, _⟩ => ⟨S2x1024, .f32⟩
  | .hbm, ⟨4, _⟩ => ⟨S2x2048x2048, .f32⟩
  | .hbm, ⟨5, _⟩ => ⟨S2x2048x1024, .f32⟩
  | .hbm, ⟨6, _⟩ => ⟨S2x2048x1024, .f32⟩
  | .hbm, ⟨7, _⟩ => ⟨S2x1x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OProj.lean ====
abbrev S2x2048x1024 : Shape := ⟨3, ![2, 2048, 1024]⟩
abbrev S1024x1024 : Shape := ⟨2, ![1024, 1024]⟩
abbrev S2x1024 : Shape := ⟨2, ![2, 1024]⟩
abbrev S4096x1024 : Shape := ⟨2, ![4096, 1024]⟩
abbrev S1x1024x1024 : Shape := ⟨3, ![1, 1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x1024, .f32⟩
  | .hbm, ⟨4, _⟩ => ⟨S4096x1024, .f32⟩
  | .hbm, ⟨5, _⟩ => ⟨S4096x1024, .bf16⟩
  | .hbm, ⟨6, _⟩ => ⟨S1x1024x1024, .f32⟩
  | .hbm, ⟨7, _⟩ => ⟨S1x1024x1024, .bf16⟩
  | .hbm, ⟨8, _⟩ => ⟨S4096x1024, .f32⟩
  | .hbm, ⟨9, _⟩ => ⟨S2x1x1024, .f32⟩
  | .hbm, ⟨10, _⟩ => ⟨S4096x1024, .f32⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OProjRefIdeal.lean ====
abbrev S2x2048x1024 : Shape := ⟨3, ![2, 2048, 1024]⟩
abbrev S1024x1024 : Shape := ⟨2, ![1024, 1024]⟩
abbrev S2x1024 : Shape := ⟨2, ![2, 1024]⟩
abbrev S2x1x1024 : Shape := ⟨3, ![2, 1, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x1024, .f32⟩
  | .hbm, ⟨4, _⟩ => ⟨S2x2048x1024, .f32⟩
  | .hbm, ⟨5, _⟩ => ⟨S2x1x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S4096x1024, .f32⟩
  | .hbm, ⟨10, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== VProj.lean ====
abbrev S4096x1024 : Shape := ⟨2, ![4096, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2048x1024 : Shape := ⟨2, ![2048, 1024]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VProjRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KProj.lean ====
abbrev S4096x1024 : Shape := ⟨2, ![4096, 1024]⟩
abbrev S1024x2048 : Shape := ⟨2, ![1024, 2048]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1024x8x256 : Shape := ⟨3, ![1024, 8, 256]⟩
abbrev S8x1024x256 : Shape := ⟨3, ![8, 1024, 256]⟩
abbrev S1x1024 : Shape := ⟨2, ![1, 1024]⟩
abbrev S2048x1024 : Shape := ⟨2, ![2048, 1024]⟩
abbrev S1x1024x256 : Shape := ⟨3, ![1, 1024, 256]⟩
abbrev S1x256 : Shape := ⟨2, ![1, 256]⟩
abbrev S2048x256 : Shape := ⟨2, ![2048, 256]⟩
abbrev S1024x256 : Shape := ⟨2, ![1024, 256]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 13
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S4096x1024, .bf16⟩
  | .hbm, ⟨7, _⟩ => ⟨S1024x8x256, .f32⟩
  | .hbm, ⟨8, _⟩ => ⟨S8x1024x256, .f32⟩
  | .hbm, ⟨9, _⟩ => ⟨S8x1024x256, .bf16⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KProjRefIdeal.lean ====
abbrev S4096x1024 : Shape := ⟨2, ![4096, 1024]⟩
abbrev S1024x2048 : Shape := ⟨2, ![1024, 2048]⟩
abbrev S64 : Shape := ⟨1, ![64]⟩
abbrev S4096x2048 : Shape := ⟨2, ![4096, 2048]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S64, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S4096x16x1, .f32⟩
  | .hbm, ⟨18, _⟩ => ⟨S4096x16x64, .f32⟩
  | .hbm, ⟨19, _⟩ => ⟨S4096x16x64, .f32⟩
  | .hbm, ⟨20, _⟩ => ⟨S1x1x64, .f32⟩
  | .hbm, ⟨21, _⟩ => ⟨S4096x16x64, .f32⟩
  | .hbm, ⟨22, _⟩ => ⟨S4096x16x64, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== QProj.lean ====
abbrev S4096x1024 : Shape := ⟨2, ![4096, 1024]⟩
abbrev S1024x1024 : Shape := ⟨2, ![1024, 1024]⟩
abbrev S64 : Shape := ⟨1, ![64]⟩
abbrev S1x64 : Shape := ⟨2, ![1, 64]⟩
abbrev S16x64 : Shape := ⟨2, ![16, 64]⟩
abbrev S1024 : Shape := ⟨1, ![1024]⟩
abbrev S1x1024x1024 : Shape := ⟨3, ![1, 1024, 1024]⟩
abbrev S1x1024 : Shape := ⟨2, ![1, 1024]⟩
abbrev S1x128 : Shape := ⟨2, ![1, 128]⟩
abbrev S1024x128 : Shape := ⟨2, ![1024, 128]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S64, .f32⟩
  | .hbm, ⟨3, _⟩ => ⟨S1x64, .f32⟩
  | .hbm, ⟨4, _⟩ => ⟨S16x64, .f32⟩
  | .hbm, ⟨5, _⟩ => ⟨S1024, .f32⟩
  | .hbm, ⟨6, _⟩ => ⟨S4096x1024, .bf16⟩
  | .hbm, ⟨7, _⟩ => ⟨S1x1024x1024, .f32⟩
  | .hbm, ⟨8, _⟩ => ⟨S1x1024x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QProjRefIdeal.lean ====
abbrev S4096x1024 : Shape := ⟨2, ![4096, 1024]⟩
abbrev S1024x1024 : Shape := ⟨2, ![1024, 1024]⟩
abbrev S64 : Shape := ⟨1, ![64]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S64, .f32⟩
  | .hbm, ⟨3, _⟩ => ⟨S4096x1024, .f32⟩
  | .hbm, ⟨4, _⟩ => ⟨S4096x16x64, .f32⟩
  | .hbm, ⟨5, _⟩ => ⟨S4096x16x64, .f32⟩
  | .hbm, ⟨6, _⟩ => ⟨S_, .f32⟩
  | .hbm, ⟨7, _⟩ => ⟨S4096x16, .f32⟩
  | .hbm, ⟨8, _⟩ => ⟨S4096x16x1, .f32⟩
  | .hbm, ⟨9, _⟩ => ⟨S_, .f32⟩
  | .hbm, ⟨10, _⟩ => ⟨S4096x16x1, .f32⟩
  | .hbm, ⟨11, _⟩ => ⟨S4096x16x1, .f32⟩
  | .hbm, ⟨12, _⟩ => ⟨S_, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S4096x16x64, .f32⟩
  | .hbm, ⟨17, _⟩ => ⟨S4096x16x64, .f32⟩
  | .hbm, ⟨18, _⟩ => ⟨S1x1x64, .f32⟩
  | .hbm, ⟨19, _⟩ => ⟨S4096x16x64, .f32⟩
  | .hbm, ⟨20, _⟩ => ⟨S4096x16x64, .f32⟩
  | .hbm, ⟨21, _⟩ => ⟨S_, .f32⟩
  | .hbm, ⟨22, _⟩ => ⟨S4096x16x64, .f32⟩
  | .hbm, ⟨23, _⟩ => ⟨S4096x16x64, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.MlpRun.lean ====
module

public import proofs.«01_k».proof.Proof.Gen.MlpIdeal.Frame
public import proofs.«01_k».proof.Proof.Gen.MlpIdeal.Skeleton
public import Idealize.ShloMosaic.Lib.Pipeline.TableIdle

@[expose] public section

set_option maxRecDepth 16384

noncomputable section

namespace Cert.MlpIdeal.Run

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the first branch of the body. -/
abbrev cond0_0 (i : grid0.Coords) : Prop := k0_cond1 i = 1#1
/-- It holds at the first inner step of each block of rows. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the second branch of the body. -/
abbrev cond0_1 (i : grid0.Coords) : Prop := k0_cond2 i = 1#1
/-- It holds at the last inner step of each block of rows. -/
theorem hcond0_1 : ∀ t : Fin cfg0.N, cond0_1 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 8 is in use at every point. -/
theorem liveAt0_8 : ∀ t : Fin cfg0.N, cfg0.idle 8 (grid0.coords t) = false := fun _ => rfl
/-- Whether the buffer of the layer input holds nothing stored since its last write-back, position by position. -/
def freshTab0_7 : ℕ → Bool
  | 0 => true
  | n + 1 => (0x80808080 : ℕ).testBit n
/-- The table follows the write-backs and the idle points. -/
theorem freshTab0_7_step : ∀ t : Fin cfg0.N,
    freshTab0_7 (t.val + 1) = ((cfg0.win 7).flush t || (cfg0.idle 7 (cfg0.grid.coords t) && freshTab0_7 t.val)) := by decide +kernel
/-- The table is right at every point. -/
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the first inner step the block of the layer input is stored. -/
theorem liveAt0_7_A : ∀ t : Fin cfg0.N, cond0_0 (grid0.coords t) → ¬cond0_1 (grid0.coords t) → cfg0.idle 7 (grid0.coords t) = false := by decide +kernel
/-- At a middle inner step the body leaves the block of the layer input alone. -/
theorem idleAt0_7_B : ∀ t : Fin cfg0.N, ¬cond0_0 (grid0.coords t) → ¬cond0_1 (grid0.coords t) → cfg0.idle 7 (grid0.coords t) = true := by decide +kernel
/-- At a middle inner step the block of the layer input is not written back. -/
theorem noFlush0_7_B : ∀ t : Fin cfg0.N, ¬cond0_0 (grid0.coords t) → ¬cond0_1 (grid0.coords t) → (cfg0.win 7).flush t = false := by decide +kernel
/-- At the last inner step the body leaves the block of the layer input alone. -/
theorem idleAt0_7_C : ∀ t : Fin cfg0.N, ¬cond0_0 (grid0.coords t) → cond0_1 (grid0.coords t) → cfg0.idle 7 (grid0.coords t) = true := by decide +kernel
/-- At the last inner step the block of the layer input is written back. -/
theorem flush0_7_C : ∀ t : Fin cfg0.N, ¬cond0_0 (grid0.coords t) → cond0_1 (grid0.coords t) → (cfg0.win 7).flush t = true := by decide +kernel
/-- At the last inner step the buffer of the layer input holds what an earlier step stored. -/
theorem notFresh0_7_C : ∀ t : Fin cfg0.N, ¬cond0_0 (grid0.coords t) → cond0_1 (grid0.coords t) → cfg0.fresh 7 t.val = false := by
  intro t; rw [fresh0_7_eq t]; revert t; decide +kernel
/-- At the first inner step the body leaves the block of the product alone. -/
theorem idleAt0_9_A : ∀ t : Fin cfg0.N, cond0_0 (grid0.coords t) → ¬cond0_1 (grid0.coords t) → cfg0.idle 9 (grid0.coords t) = true := by decide +kernel
/-- At the first inner step the block of the product is not written back. -/
theorem noFlush0_9_A : ∀ t : Fin cfg0.N, cond0_0 (grid0.coords t) → ¬cond0_1 (grid0.coords t) → (cfg0.win 9).flush t = false := by decide +kernel
/-- At a middle inner step the body leaves the block of the product alone. -/
theorem idleAt0_9_B : ∀ t : Fin cfg0.N, ¬cond0_0 (grid0.coords t) → ¬cond0_1 (grid0.coords t) → cfg0.idle 9 (grid0.coords t) = true := by decide +kernel
/-- At a middle inner step the block of the product is not written back. -/
theorem noFlush0_9_B : ∀ t : Fin cfg0.N, ¬cond0_0 (grid0.coords t) → ¬cond0_1 (grid0.coords t) → (cfg0.win 9).flush t = false := by decide +kernel
/-- At the last inner step the block of the product is stored. -/
theorem liveAt0_9_C : ∀ t : Fin cfg0.N, ¬cond0_0 (grid0.coords t) → cond0_1 (grid0.coords t) → cfg0.idle 9 (grid0.coords t) = false := by decide +kernel
/-- At the first inner step the body leaves the block of the result alone. -/
theorem idleAt0_10_A : ∀ t : Fin cfg0.N, cond0_0 (grid0.coords t) → ¬cond0_1 (grid0.coords t) → cfg0.idle 10 (grid0.coords t) = true := by decide +kernel
/-- At the first inner step the block of the result is not written back. -/
theorem noFlush0_10_A : ∀ t : Fin cfg0.N, cond0_0 (grid0.coords t) → ¬cond0_1 (grid0.coords t) → (cfg0.win 10).flush t = false := by decide +kernel
/-- At a middle inner step the body leaves the block of the result alone. -/
theorem idleAt0_10_B : ∀ t : Fin cfg0.N, ¬cond0_0 (grid0.coords t) → ¬cond0_1 (grid0.coords t) → cfg0.idle 10 (grid0.coords t) = true := by decide +kernel
/-- At a middle inner step the block of the result is not written back. -/
theorem noFlush0_10_B : ∀ t : Fin cfg0.N, ¬cond0_0 (grid0.coords t) → ¬cond0_1 (grid0.coords t) → (cfg0.win 10).flush t = false := by decide +kernel
/-- At the last inner step the block of the result is stored. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- A buffer of the layer input. -/
abbrev VO0_7 : View sig .tc .vmem S1024x1024 .bf16 := (Memref.whole cc0_stg7_0 : Memref sig .tc .vmem S1024x1024 .bf16).view
/-- A buffer of the activation. -/
abbrev VO0_8 : View sig .tc .vmem S1024x512 .bf16 := (Memref.whole cc0_stg8_0 : Memref sig .tc .vmem S1024x512 .bf16).view
/-- A buffer of the product. -/
abbrev VO0_9 : View sig .tc .vmem S1024x1024 .f32 := (Memref.whole cc0_stg9_0 : Memref sig .tc .vmem S1024x1024 .f32).view
/-- A buffer of the result. -/
abbrev VO0_10 : View sig .tc .vmem S1024x1024 .f32 := (Memref.whole cc0_stg10_0 : Memref sig .tc .vmem S1024x1024 .f32).view
/-- The buffer of each window at a point, and that it is whole. -/
abbrev ms0_0 (t : Fin cfg0.N) : Memref sig .tc .vmem S1024x1024 .f32 := win0_0.stage (cfg0.slots t 0)
/-- The buffer of window 0 at a point is whole. -/
abbrev hs0_0 (t : Fin cfg0.N) : (ms0_0 t).IsWhole := hstage0_0 ((cfg0.slots t 0).cast nbuf0_0)
/-- The buffer of window 1 at a point. -/
abbrev ms0_1 (t : Fin cfg0.N) : Memref sig .tc .vmem S1x1024x512 .bf16 := win0_1.stage (cfg0.slots t 1)
/-- The buffer of window 1 at a point is whole. -/
abbrev hs0_1 (t : Fin cfg0.N) : (ms0_1 t).IsWhole := hstage0_1 ((cfg0.slots t 1).cast nbuf0_1)
/-- The buffer of window 2 at a point. -/
abbrev ms0_2 (t : Fin cfg0.N) : Memref sig .tc .vmem S1x512x1024 .bf16 := win0_2.stage (cfg0.slots t 2)
/-- The buffer of window 2 at a point is whole. -/
abbrev hs0_2 (t : Fin cfg0.N) : (ms0_2 t).IsWhole := hstage0_2 ((cfg0.slots t 2).cast nbuf0_2)
/-- The buffer of window 3 at a point. -/
abbrev ms0_3 (t : Fin cfg0.N) : Memref sig .tc .vmem S1x1x1024 .f32 := win0_3.stage (cfg0.slots t 3)
/-- The buffer of window 3 at a point is whole. -/
abbrev hs0_3 (t : Fin cfg0.N) : (ms0_3 t).IsWhole := hstage0_3 ((cfg0.slots t 3).cast nbuf0_3)
/-- The buffer of window 4 at a point. -/
abbrev ms0_4 (t : Fin cfg0.N) : Memref sig .tc .vmem S1x1x1024 .f32 := win0_4.stage (cfg0.slots t 4)
/-- The buffer of window 4 at a point is whole. -/
abbrev hs0_4 (t : Fin cfg0.N) : (ms0_4 t).IsWhole := hstage0_4 ((cfg0.slots t 4).cast nbuf0_4)
/-- The buffer of window 5 at a point. -/
abbrev ms0_5 (t : Fin cfg0.N) : Memref sig .tc .vmem S1x1x1024 .f32 := win0_5.stage (cfg0.slots t 5)
/-- The buffer of window 5 at a point is whole. -/
abbrev hs0_5 (t : Fin cfg0.N) : (ms0_5 t).IsWhole := hstage0_5 ((cfg0.slots t 5).cast nbuf0_5)
/-- The buffer of window 6 at a point. -/
abbrev ms0_6 (t : Fin cfg0.N) : Memref sig .tc .vmem S1x1x1024 .f32 := win0_6.stage (cfg0.slots t 6)
/-- The buffer of window 6 at a point is whole. -/
abbrev hs0_6 (t : Fin cfg0.N) : (ms0_6 t).IsWhole := hstage0_6 ((cfg0.slots t 6).cast nbuf0_6)
/-- The buffer of window 7 at a point. -/
abbrev ms0_7 (t : Fin cfg0.N) : Memref sig .tc .vmem S1024x1024 .bf16 := win0_7.stage (cfg0.slots t 7)
/-- The buffer of window 7 at a point is whole. -/
abbrev hs0_7 (t : Fin cfg0.N) : (ms0_7 t).IsWhole := hstage0_7 ((cfg0.slots t 7).cast nbuf0_7)
/-- The buffer of window 8 at a point. -/
abbrev ms0_8 (t : Fin cfg0.N) : Memref sig .tc .vmem S1024x512 .bf16 := win0_8.stage (cfg0.slots t 8)
/-- The buffer of window 8 at a point is whole. -/
abbrev hs0_8 (t : Fin cfg0.N) : (ms0_8 t).IsWhole := hstage0_8 ((cfg0.slots t 8).cast nbuf0_8)
/-- The buffer of window 9 at a point. -/
abbrev ms0_9 (t : Fin cfg0.N) : Memref sig .tc .vmem S1024x1024 .f32 := win0_9.stage (cfg0.slots t 9)
/-- The buffer of window 9 at a point is whole. -/
abbrev hs0_9 (t : Fin cfg0.N) : (ms0_9 t).IsWhole := hstage0_9 ((cfg0.slots t 9).cast nbuf0_9)
/-- The buffer of window 10 at a point. -/
abbrev ms0_10 (t : Fin cfg0.N) : Memref sig .tc .vmem S1024x1024 .f32 := win0_10.stage (cfg0.slots t 10)
/-- The buffer of window 10 at a point is whole. -/
abbrev hs0_10 (t : Fin cfg0.N) : (ms0_10 t).IsWhole := hstage0_10 ((cfg0.slots t 10).cast nbuf0_10)
/-- The two scratch buffers. -/
abbrev scM0_0 : Memref sig .tc .vmem S1024x1024 .f32 := Memref.whole cc0_scratch0
/-- The second scratch buffer: the modulated input. -/
abbrev scM0_1 : Memref sig .tc .vmem S1024x1024 .bf16 := Memref.whole cc0_scratch1
/-- The accumulator as a view. -/
abbrev VS0_0 : View sig .tc .vmem S1024x1024 .f32 := scM0_0.view
/-- The kept layer input as a view. -/
abbrev VS0_1 : View sig .tc .vmem S1024x1024 .bf16 := scM0_1.view

/-- The invariant before the first point: the scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

section
variable (c : Dev nD) (i : grid0.Coords) (arg2 : Memref sig .tc .vmem S1024x1024 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1024x512 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole)

set_option maxHeartbeats 1000000 in
/-- The body at the first inner step, run on any whole buffers: the pieces that its stores leave, with the proof that it runs to the continuation holding them. -/
noncomputable def kernelRun0_A (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) :
    Σ' (L7 : List (View.Piece (Elt F) S1024x1024 .bf16)), Σ' (L8 : List (View.Piece (Elt F) S1024x512 .bf16)), Σ' (L9 : List (View.Piece (Elt F) S1024x1024 .f32)), Σ' (L10 : List (View.Piece (Elt F) S1024x1024 .f32)), Σ' (LS0 : List (View.Piece (Elt F) S1024x1024 .f32)), { LS1 : List (View.Piece (Elt F) S1024x1024 .bf16) //
      ∀ (xi9 : Vec F S1024x1024 .f32) (xi10 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xi9 ∗ owns (c : Thread nD τ) arg12 fullShare xi10 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0_mlp_core i arg2 harg2 arg3 harg3 arg4 harg4 arg5 harg5 arg6 harg6 arg7 harg7 arg8 harg8 arg9 harg9 arg10 harg10 arg11 harg11 arg12 harg12 arg13 harg13 arg14 harg14) K } := by
  refine ⟨?_, ?_, [], [], ?_, ?_, fun xi9 xi10 E K => ?run⟩
  case run =>
    simp only [cc0_mlp_core_eq_skeleton]; unfold cc0_mlp_core_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; iexact HS1

set_option maxHeartbeats 1000000 in
/-- The body at a middle inner step, run on any whole buffers: the pieces that its stores leave, with the proof that it runs to the continuation holding them. -/
noncomputable def kernelRun0_B (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) :
    Σ' (L7 : List (View.Piece (Elt F) S1024x1024 .bf16)), Σ' (L8 : List (View.Piece (Elt F) S1024x512 .bf16)), Σ' (L9 : List (View.Piece (Elt F) S1024x1024 .f32)), Σ' (L10 : List (View.Piece (Elt F) S1024x1024 .f32)), Σ' (LS0 : List (View.Piece (Elt F) S1024x1024 .f32)), { LS1 : List (View.Piece (Elt F) S1024x1024 .bf16) //
      ∀ (xi7 : Vec F S1024x1024 .bf16) (xi9 : Vec F S1024x1024 .f32) (xi10 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ owns (c : Thread nD τ) arg11 fullShare xi9 ∗ owns (c : Thread nD τ) arg12 fullShare xi10 ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ owns (c : Thread nD τ) arg11 fullShare xi9 ∗ owns (c : Thread nD τ) arg12 fullShare xi10 ∗ (∃ f, arg13.view.loc (c : Thread nD τ) ↦[arg13.view.set]{fullShare} arg13.view.writes (Elt F) f LS0) ∗ owns (c : Thread nD τ) arg14 fullShare xs1) -∗ K ⟨⟩))
          ⊢ wp frame (wpE (defs₀ (F := F)) Variants.none c none) E (cc0_mlp_core i arg2 harg2 arg3 harg3 arg4 harg4 arg5 harg5 arg6 harg6 arg7 harg7 arg8 harg8 arg9 harg9 arg10 harg10 arg11 harg11 arg12 harg12 arg13 harg13 arg14 harg14) K } := by
  refine ⟨[], ?_, [], [], ?_, [], fun xi7 xi9 xi10 E K => ?run⟩
  case run =>
    simp only [cc0_mlp_core_eq_skeleton]; unfold cc0_mlp_core_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    iexists _; isplitr; · ipureintro; exact harg14.read_unread _
    iexact HS1

set_option maxHeartbeats 1000000 in
/-- The body at the last inner step, run on any whole buffers: the pieces that its stores leave, with the proof that it runs to the continuation holding them. -/
noncomputable def kernelRun0_C (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) :
    Σ' (L8 : List (View.Piece (Elt F) S1024x512 .bf16)), Σ' (L9 : List (View.Piece (Elt F) S1024x1024 .f32)), Σ' (L10 : List (View.Piece (Elt F) S1024x1024 .f32)), Σ' (LS0 : List (View.Piece (Elt F) S1024x1024 .f32)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ owns (c : Thread nD τ) arg14 fullShare xs1) -∗ K ⟨⟩))
          ⊢ wp frame (wpE (defs₀ (F := F)) Variants.none c none) E (cc0_mlp_core i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, [], fun E K => ?run⟩
  case run =>
    simp only [cc0_mlp_core_eq_skeleton]; unfold cc0_mlp_core_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; isplitr; · ipureintro; exact harg14.read_unread _
    iexact HS1

end

end Cert.MlpIdeal.Run

end
-- ==== Proof.MlpFrame.lean ====
module

public import proofs.«01_k».proof.Proof.MlpRun
public import Idealize.ShloMosaic.Lib.Claim

@[expose] public section

set_option maxRecDepth 16384

noncomputable section

namespace Cert.MlpIdeal.Run

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1024x1024 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1024x512 .bf16) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole)

/-- The stores of the first inner step into the layer input cover the block. -/
theorem cover0_A_7 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 S1024x1024.size (by sl_kernel_rfl) y

/-- What the first inner step leaves in the block of the layer input. -/
def out0_A_7 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)

/-- The stores of the first inner step into the activation cover the block. -/
theorem cover0_A_8 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 S1024x512.size (by sl_kernel_rfl) y

/-- What the first inner step leaves in the block of the activation. -/
def out0_A_8 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)

/-- What the first inner step leaves in the block of the product. -/
def out0_A_9 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)

/-- What the first inner step leaves in the block of the result. -/
def out0_A_10 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1)

/-- The stores of the first inner step into the accumulator cover it. -/
theorem scover0_A_0 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 S1024x1024.size (by sl_kernel_rfl) y

/-- What the first inner step leaves in the accumulator. -/
def sout0_A_0 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1)

/-- The stores of the first inner step into the kept layer input cover it. -/
theorem scover0_A_1 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.1 S1024x1024.size (by sl_kernel_rfl) y

/-- What the first inner step leaves in the kept layer input. -/
def sout0_A_1 (hc0 : cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) : Vec F S1024x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.1)

/-- What a middle inner step leaves in the block of the layer input. -/
def out0_B_7 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) (xo7 : Vec F S1024x1024 .bf16) : Vec F S1024x1024 .bf16 := xo7

/-- The stores of a middle inner step into the activation cover the block. -/
theorem cover0_B_8 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.1 S1024x512.size (by sl_kernel_rfl) y

/-- What a middle inner step leaves in the block of the activation. -/
def out0_B_8 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) : Vec F S1024x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.1)

/-- What a middle inner step leaves in the block of the product. -/
def out0_B_9 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) : Vec F S1024x1024 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.2.1)

/-- What a middle inner step leaves in the block of the result. -/
def out0_B_10 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) : Vec F S1024x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.2.2.1)

/-- The stores of a middle inner step into the accumulator cover it. -/
theorem scover0_B_0 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.2.2.2.1 S1024x1024.size (by sl_kernel_rfl) y

/-- What a middle inner step leaves in the accumulator. -/
def sout0_B_0 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 xs1).2.2.2.2.1)

/-- What a middle inner step leaves in the kept layer input. -/
def sout0_B_1 (hc0 : ¬cond0_0 i) (hc1 : ¬cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xs0 : Vec F S1024x1024 .f32) (xs1 : Vec F S1024x1024 .bf16) : Vec F S1024x1024 .bf16 := xs1

/-- What the last inner step leaves in the block of the layer input. -/
def out0_C_7 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x1024 .bf16 :=
  xo7

/-- The stores of the last inner step into the activation cover the block. -/
theorem cover0_C_8 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) (y : S1024x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).1 S1024x512.size (by sl_kernel_rfl) y

/-- What the last inner step leaves in the block of the activation. -/
def out0_C_8 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x512 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).1)

/-- The stores of the last inner step into the product cover the block. -/
theorem cover0_C_9 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.1 S1024x1024.size (by sl_kernel_rfl) y

/-- What the last inner step leaves in the block of the product. -/
def out0_C_9 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x1024 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.1)

/-- The stores of the last inner step into the result cover the block. -/
theorem cover0_C_10 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.1 S1024x1024.size (by sl_kernel_rfl) y

/-- What the last inner step leaves in the block of the result. -/
def out0_C_10 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.1)

/-- The stores of the last inner step into the accumulator cover it. -/
theorem scover0_C_0 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) (y : S1024x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.2.1 S1024x1024.size (by sl_kernel_rfl) y

/-- What the last inner step leaves in the accumulator. -/
def sout0_C_0 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xs0 xs1).2.2.2.1)

/-- What the last inner step leaves in the kept layer input. -/
def sout0_C_1 (hc0 : ¬cond0_0 i) (hc1 : cond0_1 i)
    (x0 : Vec F S1024x1024 .f32) (x1 : Vec F S1x1024x512 .bf16) (x2 : Vec F S1x512x1024 .bf16) (x3 : Vec F S1x1x1024 .f32) (x4 : Vec F S1x1x1024 .f32) (x5 : Vec F S1x1x1024 .f32) (x6 : Vec F S1x1x1024 .f32) (xo7 : Vec F S1024x1024 .bf16) (xs0 : Vec F S1024x1024 .f32) (xs1 : Vec F S1024x1024 .bf16) : Vec F S1024x1024 .bf16 := xs1

end

/-! ## What the outputs hold after each point -/

/-- What the output buffers and the two scratch buffers hold after the body at a position, by recursion on the position. -/
def outsAt0 (c : Dev nD) : (n : ℕ) → n < cfg0.N → Vec F S1024x1024 .bf16 × Vec F S1024x512 .bf16 × Vec F S1024x1024 .f32 × Vec F S1024x1024 .f32 × Vec F S1024x1024 .f32 × Vec F S1024x1024 .bf16
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : (n + 1) % 8 = 7 then
        False.elim (by have hN : n + 1 < 32 := lt_of_lt_of_eq hn (show cfg0.N = 32 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 8 = 7 then
        (out0_C_7 (grid0.coords ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2, sout0_C_1 (grid0.coords ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.2.2.1 (outsAt0 c n (Nat.lt_of_succ_lt hn)).2.2.2.2.2)
      else
        (out0_B_7 (grid0.coords ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2 (outsAt0 c n (Nat.lt_of_succ_lt hn)).1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2, sout0_B_1 (grid0.coords ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.2.2.2.1 (outsAt0 c n (Nat.lt_of_succ_lt hn)).2.2.2.2.2)

/-- What the buffers hold after the first inner step. -/
theorem outsAt0_A (c : Dev nD) (t : Fin cfg0.N) (h0 : t.val % 8 = 0) (h1 : ¬t.val % 8 = 7) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- What the buffers hold after a middle inner step. -/
theorem outsAt0_B (c : Dev nD) (t : Fin cfg0.N) (h0 : ¬t.val % 8 = 0) (h1 : ¬t.val % 8 = 7) :
    outsAt0 m c t.val t.isLt = (out0_B_7 (grid0.coords t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 (grid0.coords t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- What the buffers hold after the last inner step. -/
theorem outsAt0_C (c : Dev nD) (t : Fin cfg0.N) (h0 : ¬t.val % 8 = 0) (h1 : t.val % 8 = 7) :
    outsAt0 m c t.val t.isLt = (out0_C_7 (grid0.coords t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 (grid0.coords t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The invariant before a position: from the second on, the scratch buffers hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- What each window holds after the body at each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q _ := fullShare
  owed _ := 0

/-- The arrays are those that the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = (outsAt0 m c t.val t.isLt).1 := by dsimp only [dats]
/-- What the body leaves in window 8. -/
theorem after0_8 (c : Dev nD) (t : Fin cfg0.N) : (dats m 0 c).after 8 t = (outsAt0 m c t.val t.isLt).2.1 := by dsimp only [dats]
/-- What the body leaves in window 9. -/
theorem after0_9 (c : Dev nD) (t : Fin cfg0.N) : (dats m 0 c).after 9 t = (outsAt0 m c t.val t.isLt).2.2.1 := by dsimp only [dats]
/-- What the body leaves in window 10. -/
theorem after0_10 (c : Dev nD) (t : Fin cfg0.N) : (dats m 0 c).after 10 t = (outsAt0 m c t.val t.isLt).2.2.2.1 := by dsimp only [dats]

/-- What the body finds in each input window: its block. -/
theorem before0_0 (c : Dev nD) (t : Fin cfg0.N) (d) : (dats m 0 c).before 0 t d = iblk m c 0 t :=
  before0_0_of m (dats m 0 c) (A_eq m c 0) (after0_0 m c) t d
/-- What the body finds in window 1: its block. -/
theorem before0_1 (c : Dev nD) (t : Fin cfg0.N) (d) : (dats m 0 c).before 1 t d = iblk m c 1 t :=
  before0_1_of m (dats m 0 c) (A_eq m c 1) (after0_1 m c) t d
/-- What the body finds in window 2: its block. -/
theorem before0_2 (c : Dev nD) (t : Fin cfg0.N) (d) : (dats m 0 c).before 2 t d = iblk m c 2 t :=
  before0_2_of m (dats m 0 c) (A_eq m c 2) (after0_2 m c) t d
/-- What the body finds in window 3: its block. -/
theorem before0_3 (c : Dev nD) (t : Fin cfg0.N) (d) : (dats m 0 c).before 3 t d = iblk m c 3 t :=
  before0_3_of m (dats m 0 c) (A_eq m c 3) (after0_3 m c) t d
/-- What the body finds in window 4: its block. -/
theorem before0_4 (c : Dev nD) (t : Fin cfg0.N) (d) : (dats m 0 c).before 4 t d = iblk m c 4 t :=
  before0_4_of m (dats m 0 c) (A_eq m c 4) (after0_4 m c) t d
/-- What the body finds in window 5: its block. -/
theorem before0_5 (c : Dev nD) (t : Fin cfg0.N) (d) : (dats m 0 c).before 5 t d = iblk m c 5 t :=
  before0_5_of m (dats m 0 c) (A_eq m c 5) (after0_5 m c) t d
/-- What the body finds in window 6: its block. -/
theorem before0_6 (c : Dev nD) (t : Fin cfg0.N) (d) : (dats m 0 c).before 6 t d = iblk m c 6 t :=
  before0_6_of m (dats m 0 c) (A_eq m c 6) (after0_6 m c) t d

/-- Through the points that leave the buffer of the layer input alone its contents stay. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 32 := lt_of_lt_of_eq t.isLt (show cfg0.N = 32 from N_0)
  rw [after0_7, after0_7]
  by_cases h0 : t.val % 8 = 0
  · by_cases h1 : t.val % 8 = 7
    · exfalso; omega
    · rw [liveAt0_7_A t ((hcond0_0 t).mpr h0) (fun h => h1 ((hcond0_1 t).mp h))] at hi
      exact absurd hi Bool.false_ne_true
  · by_cases h1 : t.val % 8 = 7
    · rw [outsAt0_C m c t h0 h1]
      dsimp only
      unfold out0_C_7
      rfl
    · rw [outsAt0_B m c t h0 h1]
      dsimp only
      unfold out0_B_7
      rfl
/-- At the last inner step the buffer of the layer input holds what the step before left. -/
theorem before0_7_C (c : Dev nD) (t : Fin cfg0.N) (h0 : ¬t.val % 8 = 0) (h1 : t.val % 8 = 7) (d) :
    (dats m 0 c).before 7 t d = (outsAt0 m c (t.val - 1) (Nat.lt_of_le_of_lt (Nat.sub_le _ _) t.isLt)).1 := by
  rw [Dat.before_out_traj _ 7 rfl (fun _ _ => rfl) (hcarry0_7 m c) t.val t rfl d,
    if_neg (by rw [notFresh0_7_C t (fun h => h0 ((hcond0_0 t).mp h)) ((hcond0_1 t).mpr h1)]; exact Bool.false_ne_true)]
  dsimp only [dats]

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point runs from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_7 out0_A_8 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _)
        isplitl [H9]; · iexists _; iexact H9
        iexists _; iexact H10
      · rw [PhiS_castSucc m c t, PhiS_pos m c _ _ hz]
        rw [outsAt0_A m c t h0 h1]
        unfold out0_A_7 out0_A_8 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexact H9
        isplitl [H10]; · iexact H10
        isplitl [HS0]; · iexists _; iexact HS0
        isplitl [HS1]; · iexists _; iexact HS1
        iintro ⟨H0, H1, H2, H3, H4, H5, H6, ⟨%e7, H7⟩, ⟨%e8, H8⟩, H9, H10, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _)
        isplitl [H9]; · iexists _; iexact H9
        iexists _; iexact H10
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [idleAt0_7_C t (fun h => h0 ((hcond0_0 t).mp h)) ((hcond0_1 t).mpr h1), flush0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_7_C m c t h0 h1]
        unfold out0_C_7 out0_C_8 out0_C_9 out0_C_10 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, ⟨%e8, H8⟩, ⟨%e9, H9⟩, ⟨%e10, H10⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_8 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [H10]; · iexact H10
        isplitl [HS0]; · iexact HS0
        isplitl [HS1]; · iexact HS1
        iintro ⟨H0, H1, H2, H3, H4, H5, H6, H7, ⟨%e8, H8⟩, H9, H10, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _)
        isplitl [H9]; · iexists _; iexact H9
        iexists _; iexact H10

/-- The body that the pipeline runs at a point. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The program runs, the arrays end at what the proof data says, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and the arrays end at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: from any memory the program runs, keeps its arguments and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.MlpIdeal.Run

end
-- ==== Proof.Mlp.lean ====
module

public import proofs.«01_k».proof.Defs
public import proofs.«01_k».proof.Proof.MlpFrame
public import proofs.«01_k».proof.Proof.Gen.MlpRefIdeal.Run
public import proofs.«01_k».proof.Proof.Gen.MlpRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.MlpIdeal.Val

open Cert.MlpIdeal Cert.MlpIdeal.Gen Cert.MlpIdeal.Run

/-! ## The layer as a function of its arguments -/

/-- One entry of the layer's normalised and modulated input. -/
def hAt (x0 : Vec Ideal S2x2048x1024 .f32) (x1 : Vec Ideal S1024 .f32) (x2 x3 : Vec Ideal S2x1024 .f32) (b : Fin 2) (s : Fin 2048) (j : Fin 1024) : EReal :=
  x0 (ix3 b s j) * Ideal.rsqrt (Ideal.div (∑ q : Fin 1024, x0 (ix3 b s q) * x0 (ix3 b s q)) (Ideal.ofBits .f32 0x44800000#32) + Ideal.ofBits .f32 0x358637BD#32)
    * x1 (ix1 j) * (Ideal.ofBits .f32 0x3F800000#32 + x3 (ix2 b j)) + x2 (ix2 b j)

/-- One entry of the layer's activation: the squared rectifier of the first product. -/
def actAt (x0 : Vec Ideal S2x2048x1024 .f32) (x1 : Vec Ideal S1024 .f32) (x2 x3 : Vec Ideal S2x1024 .f32) (x5 : Vec Ideal S1024x4096 .f32)
    (b : Fin 2) (s : Fin 2048) (j : Fin 4096) : EReal :=
  max (∑ q : Fin 1024, hAt x0 x1 x2 x3 b s q * x5 (ix2 q j)) 0 * max (∑ q : Fin 1024, hAt x0 x1 x2 x3 b s q * x5 (ix2 q j)) 0

/-- One entry of the layer's second product. -/
def ffAt (x0 : Vec Ideal S2x2048x1024 .f32) (x1 : Vec Ideal S1024 .f32) (x2 x3 : Vec Ideal S2x1024 .f32) (x5 : Vec Ideal S1024x4096 .f32) (x6 : Vec Ideal S4096x1024 .f32)
    (b : Fin 2) (s : Fin 2048) (j : Fin 1024) : EReal :=
  ∑ q : Fin 4096, actAt x0 x1 x2 x3 x5 b s q * x6 (ix2 q j)

/-- One entry of the layer's output: the input and the gated second product. -/
def outAt (x0 : Vec Ideal S2x2048x1024 .f32) (x1 : Vec Ideal S1024 .f32) (x2 x3 x4 : Vec Ideal S2x1024 .f32) (x5 : Vec Ideal S1024x4096 .f32) (x6 : Vec Ideal S4096x1024 .f32)
    (b : Fin 2) (s : Fin 2048) (j : Fin 1024) : EReal :=
  x0 (ix3 b s j) + x4 (ix2 b j) * ffAt x0 x1 x2 x3 x5 x6 b s j

/-- The sequence a row of the flattened input belongs to. -/
def seqOf (r : Fin 4096) : Fin 2 := ⟨r.val / 2048, by omega⟩

/-- The place of a row of the flattened input in its sequence. -/
def posOf (r : Fin 4096) : Fin 2048 := ⟨r.val % 2048, by omega⟩

/-! ## The reference, read at an index -/

/-- The reference's normalised and modulated input. -/
theorem ref20 (x0 : Vec Ideal S2x2048x1024 .f32) (x1 : Vec Ideal S1024 .f32) (x2 x3 : Vec Ideal S2x1024 .f32) (b : Fin 2) (s : Fin 2048) (j : Fin 1024) :
    MlpRefIdeal.Read.val_main_v20 (F := Ideal) x0 x1 x2 x3 (ix3 b s j) = hAt x0 x1 x2 x3 b s j := by
  rw [MlpRefIdeal.Read.val_main_v20_apply, MlpRefIdeal.Read.val_main_v17_apply, MlpRefIdeal.Read.val_main_v12_apply, MlpRefIdeal.Read.val_main_v9_apply,
    MlpRefIdeal.Read.val_main_v8_apply, MlpRefIdeal.Read.val_main_v7_apply, MlpRefIdeal.Read.val_main_v6_apply, MlpRefIdeal.Read.val_main_v4_apply,
    MlpRefIdeal.Read.val_main_v2_apply, MlpRefIdeal.Read.val_main_v1_apply, MlpRefIdeal.Read.val_main_cst_apply, MlpRefIdeal.Read.val_main_v3_apply,
    MlpRefIdeal.Read.val_main_cst_0_apply, MlpRefIdeal.Read.val_main_v5_apply, MlpRefIdeal.Read.val_main_cst_1_apply, MlpRefIdeal.Read.val_main_v11_apply,
    MlpRefIdeal.Read.val_main_v10_apply, MlpRefIdeal.Read.val_main_v16_apply, MlpRefIdeal.Read.val_main_v15_apply, MlpRefIdeal.Read.val_main_v14_apply,
    MlpRefIdeal.Read.val_main_cst_2_apply, MlpRefIdeal.Read.val_main_v13_apply, MlpRefIdeal.Read.val_main_v19_apply, MlpRefIdeal.Read.val_main_v18_apply]
  have h0 : FloatOps.ofBits (F := Ideal) .f32 0x00000000#32 = (0 : EReal) := Ideal.ofBits_zero_f32
  rw [h0, zero_add]
  refine congrArg₂ (fun x y : EReal => x + y) (congrArg₂ (fun x y : EReal => x * y) (congrArg₂ (fun x y : EReal => x * y)
    (congrArg (fun y : EReal => x0 (ix3 b s j) * Ideal.rsqrt (Ideal.div y (Ideal.ofBits .f32 0x44800000#32) + Ideal.ofBits .f32 0x358637BD#32)) (Finset.sum_congr rfl fun q _ => ?_))
    (congrArg x1 (funext fun d => ?_))) (congrArg (fun y : EReal => Ideal.ofBits .f32 0x3F800000#32 + y) (congrArg x3 (funext fun d => ?_)))) (congrArg x2 (funext fun d => ?_))
  · rw [MlpRefIdeal.Read.val_main_v0_apply]
    refine congrArg (fun i => (x0 i * x0 i : EReal)) (funext fun d => ?_)
    fin_cases d <;> rfl
  · fin_cases d <;> rfl
  · fin_cases d <;> rfl
  · fin_cases d <;> rfl

/-- The reference's activation. -/
theorem ref23 (x0 : Vec Ideal S2x2048x1024 .f32) (x1 : Vec Ideal S1024 .f32) (x2 x3 : Vec Ideal S2x1024 .f32) (x5 : Vec Ideal S1024x4096 .f32) (b : Fin 2) (s : Fin 2048) (j : Fin 4096) :
    MlpRefIdeal.Read.val_main_v23 (F := Ideal) x0 x1 x2 x3 x5 (ix3 b s j) = actAt x0 x1 x2 x3 x5 b s j := by
  rw [MlpRefIdeal.Read.val_main_v23_apply, MlpRefIdeal.Read.val_main_v22_apply, MlpRefIdeal.Read.val_main_call0_v0_apply, MlpRefIdeal.Read.val_main_call0_cst_apply,
    MlpRefIdeal.Read.val_main_v21_apply]
  have h0 : FloatOps.ofBits (F := Ideal) .f32 0x00000000#32 = (0 : EReal) := Ideal.ofBits_zero_f32
  rw [h0]
  refine congrArg (fun y : EReal => max y 0 * max y 0) (Finset.sum_congr rfl fun q _ => congrArg₂ (fun x y : EReal => x * y) ?_ (congrArg x5 (funext fun d => ?_)))
  · refine (congrArg (MlpRefIdeal.Read.val_main_v20 (F := Ideal) x0 x1 x2 x3) (funext fun d => ?_)).trans (ref20 x0 x1 x2 x3 b s q)
    fin_cases d <;> rfl
  · fin_cases d <;> rfl

/-- The reference's second product. -/
theorem ref24 (x0 : Vec Ideal S2x2048x1024 .f32) (x1 : Vec Ideal S1024 .f32) (x2 x3 : Vec Ideal S2x1024 .f32) (x5 : Vec Ideal S1024x4096 .f32) (x6 : Vec Ideal S4096x1024 .f32)
    (b : Fin 2) (s : Fin 2048) (j : Fin 1024) :
    MlpRefIdeal.Read.val_main_v24 (F := Ideal) x0 x1 x2 x3 x5 x6 (ix3 b s j) = ffAt x0 x1 x2 x3 x5 x6 b s j := by
  rw [MlpRefIdeal.Read.val_main_v24_apply]
  refine Finset.sum_congr rfl fun q _ => congrArg₂ (fun x y : EReal => x * y) ?_ (congrArg x6 (funext fun d => ?_))
  · refine (congrArg (MlpRefIdeal.Read.val_main_v23 (F := Ideal) x0 x1 x2 x3 x5) (funext fun d => ?_)).trans (ref23 x0 x1 x2 x3 x5 b s q)
    fin_cases d <;> rfl
  · fin_cases d <;> rfl

/-- The reference's output. -/
theorem ref28 (x0 : Vec Ideal S2x2048x1024 .f32) (x1 : Vec Ideal S1024 .f32) (x2 x3 x4 : Vec Ideal S2x1024 .f32) (x5 : Vec Ideal S1024x4096 .f32) (x6 : Vec Ideal S4096x1024 .f32)
    (b : Fin 2) (s : Fin 2048) (j : Fin 1024) :
    MlpRefIdeal.Read.val_main_v28 (F := Ideal) x0 x1 x2 x3 x4 x5 x6 (ix3 b s j) = outAt x0 x1 x2 x3 x4 x5 x6 b s j := by
  rw [MlpRefIdeal.Read.val_main_v28_apply, MlpRefIdeal.Read.val_main_v27_apply, MlpRefIdeal.Read.val_main_v26_apply, MlpRefIdeal.Read.val_main_v25_apply, ref24]
  refine congrArg (fun y : EReal => x0 (ix3 b s j) + y * ffAt x0 x1 x2 x3 x5 x6 b s j) (congrArg x4 (funext fun d => ?_))
  fin_cases d <;> rfl

/-- The place of an entry of a flattened array of width 1024. -/
theorem flat_idx (r : Fin 4096) (j : Fin 1024) : MlpRefIdeal.Read.idx_main_v29 (ix2 r j) = ix3 (seqOf r) (posOf r) j := by
  have e0 : (r.val * 1024 + j.val) / 2097152 = r.val / 2048 := by omega
  have e1 : (r.val * 1024 + j.val) / 1024 % 2048 = r.val % 2048 := by omega
  have e2 : (r.val * 1024 + j.val) % 1024 = j.val := by omega
  funext d
  fin_cases d
  · exact Fin.ext e0
  · exact Fin.ext e1
  · exact Fin.ext e2

/-- The place of an entry of a flattened array of width 4096. -/
theorem flat_idx_wide (r : Fin 4096) (j : Fin 4096) : MlpRefIdeal.Read.idx_main_v31 (ix2 r j) = ix3 (seqOf r) (posOf r) j := by
  have e0 : (r.val * 4096 + j.val) / 8388608 = r.val / 2048 := by omega
  have e1 : (r.val * 4096 + j.val) / 4096 % 2048 = r.val % 2048 := by omega
  have e2 : (r.val * 4096 + j.val) % 4096 = j.val := by omega
  funext d
  fin_cases d
  · exact Fin.ext e0
  · exact Fin.ext e1
  · exact Fin.ext e2

/-- The reference's first result. -/
theorem ref30 (x0 : Vec Ideal S2x2048x1024 .f32) (x1 : Vec Ideal S1024 .f32) (x2 x3 : Vec Ideal S2x1024 .f32) (r : Fin 4096) (j : Fin 1024) :
    MlpRefIdeal.Read.val_main_v30 (F := Ideal) x0 x1 x2 x3 (ix2 r j) = hAt x0 x1 x2 x3 (seqOf r) (posOf r) j := by
  rw [MlpRefIdeal.Read.val_main_v30_apply, MlpRefIdeal.Read.val_main_v29_apply]
  exact (congrArg (MlpRefIdeal.Read.val_main_v20 (F := Ideal) x0 x1 x2 x3) (flat_idx r j)).trans (ref20 x0 x1 x2 x3 _ _ j)

/-- The reference's second result. -/
theorem ref32 (x0 : Vec Ideal S2x2048x1024 .f32) (x1 : Vec Ideal S1024 .f32) (x2 x3 : Vec Ideal S2x1024 .f32) (x5 : Vec Ideal S1024x4096 .f32) (r : Fin 4096) (j : Fin 4096) :
    MlpRefIdeal.Read.val_main_v32 (F := Ideal) x0 x1 x2 x3 x5 (ix2 r j) = actAt x0 x1 x2 x3 x5 (seqOf r) (posOf r) j := by
  rw [MlpRefIdeal.Read.val_main_v32_apply, MlpRefIdeal.Read.val_main_v31_apply]
  exact (congrArg (MlpRefIdeal.Read.val_main_v23 (F := Ideal) x0 x1 x2 x3 x5) (flat_idx_wide r j)).trans (ref23 x0 x1 x2 x3 x5 _ _ j)

/-- The reference's third result. -/
theorem ref33 (x0 : Vec Ideal S2x2048x1024 .f32) (x1 : Vec Ideal S1024 .f32) (x2 x3 : Vec Ideal S2x1024 .f32) (x5 : Vec Ideal S1024x4096 .f32) (x6 : Vec Ideal S4096x1024 .f32)
    (r : Fin 4096) (j : Fin 1024) :
    MlpRefIdeal.Read.val_main_v33 (F := Ideal) x0 x1 x2 x3 x5 x6 (ix2 r j) = ffAt x0 x1 x2 x3 x5 x6 (seqOf r) (posOf r) j := by
  rw [MlpRefIdeal.Read.val_main_v33_apply]
  exact (congrArg (MlpRefIdeal.Read.val_main_v24 (F := Ideal) x0 x1 x2 x3 x5 x6) (flat_idx r j)).trans (ref24 x0 x1 x2 x3 x5 x6 _ _ j)

/-- The reference's fourth result. -/
theorem ref34 (x0 : Vec Ideal S2x2048x1024 .f32) (x1 : Vec Ideal S1024 .f32) (x2 x3 x4 : Vec Ideal S2x1024 .f32) (x5 : Vec Ideal S1024x4096 .f32) (x6 : Vec Ideal S4096x1024 .f32)
    (r : Fin 4096) (j : Fin 1024) :
    MlpRefIdeal.Read.val_main_v34 (F := Ideal) x0 x1 x2 x3 x4 x5 x6 (ix2 r j) = outAt x0 x1 x2 x3 x4 x5 x6 (seqOf r) (posOf r) j := by
  rw [MlpRefIdeal.Read.val_main_v34_apply]
  exact (congrArg (MlpRefIdeal.Read.val_main_v28 (F := Ideal) x0 x1 x2 x3 x4 x5 x6) (flat_idx r j)).trans (ref28 x0 x1 x2 x3 x4 x5 x6 _ _ j)

/-! ## What one step of the kernel computes -/

/-- One entry of a block of the activation. -/
theorem pay1_apply (H : Vec Ideal S1024x1024 .bf16) (W : Vec Ideal S1x1024x512 .bf16) (k : Fin 1024) (l : Fin 512) :
    k0_pay1 H W (ix2 k l) = max (∑ q : Fin 1024, H (ix2 k q) * W (ix3 0 q l)) 0 * max (∑ q : Fin 1024, H (ix2 k q) * W (ix3 0 q l)) 0 := by
  rw [← Ideal.ofBits_zero_f32]
  pointwise [k0_pay1]

/-- One entry of the accumulator of the second product: what it held and the block's product. -/
theorem pay2_apply (H : Vec Ideal S1024x1024 .bf16) (W : Vec Ideal S1x1024x512 .bf16) (P : Vec Ideal S1024x1024 .f32) (U : Vec Ideal S1x512x1024 .bf16) (x : S1024x1024.Idx) :
    k0_pay2 H W P U x = P x + ∑ q : Fin 512, k0_pay1 H W (ix2 (x 0) q) * U (ix3 0 q (x 1)) := by
  unfold k0_pay2
  generalize k0_pay1 H W = Y
  pointwise

/-- One entry of a block of the output. -/
theorem pay3_apply (P : Vec Ideal S1024x1024 .f32) (X : Vec Ideal S1024x1024 .f32) (g : Vec Ideal S1x1x1024 .f32) (k l : Fin 1024) :
    k0_pay3 P X g (ix2 k l) = X (ix2 k l) + g (ix3 0 0 l) * P (ix2 k l) := by
  pointwise [k0_pay3]

/-- One entry of a block of the normalised and modulated input. -/
theorem pay4_apply (X : Vec Ideal S1024x1024 .f32) (G SH SC : Vec Ideal S1x1x1024 .f32) (k l : Fin 1024) :
    k0_pay4 X G SH SC (ix2 k l)
      = X (ix2 k l) * Ideal.rsqrt (Ideal.div (∑ q : Fin 1024, X (ix2 k q) * X (ix2 k q)) (Ideal.ofBits .f32 0x44800000#32) + Ideal.ofBits .f32 0x358637BD#32)
        * G (ix3 0 0 l) * (Ideal.ofBits .f32 0x3F800000#32 + SC (ix3 0 0 l)) + SH (ix3 0 0 l) := by
  pointwise [k0_pay4]

/-- The block kept between steps is the block written out. -/
theorem pay5_eq (X : Vec Ideal S1024x1024 .f32) (G SH SC : Vec Ideal S1x1x1024 .f32) : k0_pay5 X G SH SC = k0_pay4 X G SH SC := by
  funext x
  unfold k0_pay5
  generalize k0_pay4 X G SH SC = Y
  pointwise

variable (m : (ℓ : Loc nD τ sig) → Buf (Elt Ideal) ℓ)

/-! ## What each step leaves -/

/-- At the first step of a row the block of the layer input is kept. -/
theorem keep_reset (c : Dev nD) (t : Fin cfg0.N) (h0 : t.val % 8 = 0) :
    (outsAt0 m c t.val t.isLt).2.2.2.2.2 = k0_pay5 (F := Ideal) (iblk m c 0 t) (iblk m c 3 t) (iblk m c 4 t) (iblk m c 5 t) := by
  rw [outsAt0_A m c t h0 (by omega)]
  dsimp only
  frame_open
  frame_out

/-- At the first step of a row the block of the layer input is written out. -/
theorem h_reset (c : Dev nD) (t : Fin cfg0.N) (h0 : t.val % 8 = 0) :
    (outsAt0 m c t.val t.isLt).1 = k0_pay4 (F := Ideal) (iblk m c 0 t) (iblk m c 3 t) (iblk m c 4 t) (iblk m c 5 t) := by
  rw [outsAt0_A m c t h0 (by omega)]
  dsimp only
  frame_open
  frame_out

/-- Past the first step of a row the kept block stays. -/
theorem keep_step (c : Dev nD) (t : Fin cfg0.N) (h0 : ¬t.val % 8 = 0) :
    (outsAt0 m c t.val t.isLt).2.2.2.2.2 = (outsAt0 m c (t.val - 1) (Nat.lt_of_le_of_lt (Nat.sub_le _ _) t.isLt)).2.2.2.2.2 := by
  by_cases h1 : t.val % 8 = 7
  · rw [outsAt0_C m c t h0 h1]
    rfl
  · rw [outsAt0_B m c t h0 h1]
    rfl

/-- Past the first step of a row the written block stays. -/
theorem h_step (c : Dev nD) (t : Fin cfg0.N) (h0 : ¬t.val % 8 = 0) :
    (outsAt0 m c t.val t.isLt).1 = (outsAt0 m c (t.val - 1) (Nat.lt_of_le_of_lt (Nat.sub_le _ _) t.isLt)).1 := by
  by_cases h1 : t.val % 8 = 7
  · rw [outsAt0_C m c t h0 h1]
    rfl
  · rw [outsAt0_B m c t h0 h1]
    rfl

/-- The written block of the layer input is the kept one. -/
theorem h_eq_keep (c : Dev nD) : ∀ (n : ℕ) (hn : n < cfg0.N), (outsAt0 m c n hn).1 = (outsAt0 m c n hn).2.2.2.2.2
  | 0, hn => (h_reset m c ⟨0, hn⟩ rfl).trans ((pay5_eq _ _ _ _).symm.trans (keep_reset m c ⟨0, hn⟩ rfl).symm)
  | n + 1, hn => by
    by_cases h0 : (n + 1) % 8 = 0
    · exact (h_reset m c ⟨n + 1, hn⟩ h0).trans ((pay5_eq _ _ _ _).symm.trans (keep_reset m c ⟨n + 1, hn⟩ h0).symm)
    · exact (h_step m c ⟨n + 1, hn⟩ h0).trans ((h_eq_keep c n (Nat.lt_of_succ_lt hn)).trans (keep_step m c ⟨n + 1, hn⟩ h0).symm)

/-- The activation's block at a step, from the kept block and the slab of the first weight. -/
theorem act_block (c : Dev nD) (t : Fin cfg0.N) :
    (outsAt0 m c t.val t.isLt).2.1 = k0_pay1 (F := Ideal) ((outsAt0 m c t.val t.isLt).2.2.2.2.2) (iblk m c 1 t) := by
  by_cases h0 : t.val % 8 = 0
  · rw [keep_reset m c t h0, outsAt0_A m c t h0 (by omega)]
    dsimp only
    frame_open
    frame_out
  · rw [keep_step m c t h0]
    by_cases h1 : t.val % 8 = 7
    · rw [outsAt0_C m c t h0 h1]
      dsimp only
      frame_open
      frame_out
      try simp only [read_unread_whole]
    · rw [outsAt0_B m c t h0 h1]
      dsimp only
      frame_open
      frame_out
      try simp only [read_unread_whole]

/-- At the first step of a row the accumulator starts from zero. -/
theorem acc_reset (c : Dev nD) (t : Fin cfg0.N) (h0 : t.val % 8 = 0) :
    (outsAt0 m c t.val t.isLt).2.2.2.2.1
      = k0_pay2 (F := Ideal) ((outsAt0 m c t.val t.isLt).2.2.2.2.2) (iblk m c 1 t) (k0_pay6 (F := Ideal)) (iblk m c 2 t) := by
  rw [keep_reset m c t h0, outsAt0_A m c t h0 (by omega)]
  dsimp only
  frame_open
  frame_out

/-- Past the first step of a row the accumulator takes the block's product on top of what it held. -/
theorem acc_step (c : Dev nD) (t : Fin cfg0.N) (h0 : ¬t.val % 8 = 0) :
    (outsAt0 m c t.val t.isLt).2.2.2.2.1
      = k0_pay2 (F := Ideal) ((outsAt0 m c t.val t.isLt).2.2.2.2.2) (iblk m c 1 t)
          (outsAt0 m c (t.val - 1) (Nat.lt_of_le_of_lt (Nat.sub_le _ _) t.isLt)).2.2.2.2.1 (iblk m c 2 t) := by
  rw [keep_step m c t h0]
  by_cases h1 : t.val % 8 = 7
  · rw [outsAt0_C m c t h0 h1]
    dsimp only
    frame_open
    frame_out
    try simp only [read_unread_whole]
  · rw [outsAt0_B m c t h0 h1]
    dsimp only
    frame_open
    frame_out
    try simp only [read_unread_whole]

/-- At the last step of a row the third output is the accumulator. -/
theorem ff_block (c : Dev nD) (t : Fin cfg0.N) (h1 : t.val % 8 = 7) :
    (outsAt0 m c t.val t.isLt).2.2.1 = (outsAt0 m c t.val t.isLt).2.2.2.2.1 := by
  rw [outsAt0_C m c t (by omega) h1]
  dsimp only
  frame_open
  frame_out

/-- At the last step of a row the fourth output is the input and the gated accumulator. -/
theorem out_block (c : Dev nD) (t : Fin cfg0.N) (h1 : t.val % 8 = 7) :
    (outsAt0 m c t.val t.isLt).2.2.2.1
      = k0_pay3 (F := Ideal) ((outsAt0 m c t.val t.isLt).2.2.2.2.1) (iblk m c 0 t) (iblk m c 6 t) := by
  rw [outsAt0_C m c t (by omega) h1]
  dsimp only
  frame_open
  frame_out

/-- The product one step adds to the second product. -/
def term (c : Dev nD) (t : Fin cfg0.N) (x : S1024x1024.Idx) : EReal :=
  ∑ q : Fin 512, (outsAt0 m c t.val t.isLt).2.1 (ix2 (x 0) q) * (iblk m c 2 t : Vec Ideal S1x512x1024 .bf16) (ix3 0 q (x 1))

/-- The accumulator at the last step of a row: the sum of the row's eight products. -/
theorem acc_sum (c : Dev nD) (t : Fin cfg0.N) (h1 : t.val % 8 = 7) (x : S1024x1024.Idx) :
    (outsAt0 m c t.val t.isLt).2.2.2.2.1 x = ∑ s : Fin 8, term m c ⟨8 * (t.val / 8) + s.val, Pipeline.run_point_lt_of_flush t h1 s⟩ x := by
  rw [Pipeline.eq_sum_fin_of_reset_step_apply_of_flush (fun n h => (outsAt0 m c n h).2.2.2.2.1) 8 (fun _ => (0 : EReal)) (fun t x => term m c t x)
    (fun t h x => by
      show (outsAt0 m c t.val t.isLt).2.2.2.2.1 x = _
      rw [acc_reset m c t h, pay2_apply, ← act_block m c t]
      refine congrArg (· + term m c t x) ?_
      pointwise [k0_pay6])
    (fun t h x => by
      show (outsAt0 m c t.val t.isLt).2.2.2.2.1 x = _
      rw [acc_step m c t h, pay2_apply, ← act_block m c t]
      rfl)
    t h1 x, zero_add]

/-! ## Where the blocks lie -/

/-- Where each window's block lies. -/
theorem idx : ∀ t : Fin cfg0.N, win0_0.index t = ![t.val / 8, 0] ∧ win0_1.index t = ![t.val % 8, 0, 0] ∧ win0_2.index t = ![t.val % 8, 0, 0]
    ∧ win0_3.index t = ![0, 0, 0] ∧ win0_4.index t = ![t.val / 16, 0, 0] ∧ win0_5.index t = ![t.val / 16, 0, 0] ∧ win0_6.index t = ![t.val / 16, 0, 0]
    ∧ win0_7.index t = ![t.val / 8, 0] ∧ win0_8.index t = ![t.val / 8, t.val % 8] ∧ win0_9.index t = ![t.val / 8, 0] ∧ win0_10.index t = ![t.val / 8, 0] :=
  (by decide +kernel : ∀ t : Fin grid0.N, _)

/-- A block of rows of the input, read at an index. -/
theorem blk0 (X : Vec Ideal S4096x1024 .f32) (t : Fin cfg0.N) (k l : Fin 1024) (r : Fin 4096) (h : r.val = t.val / 8 * 1024 + k.val) :
    ((cfg0.win 0).blk t).view.read (Elt Ideal) X (ix2 k l) = X (ix2 r l) := by
  obtain ⟨r, hr⟩ := r
  subst h
  blk_ext [idx t]

/-- A slab of the first weight, read at an index. -/
theorem blk1 (X : Vec Ideal S8x1024x512 .bf16) (t : Fin cfg0.N) (q : Fin 1024) (l : Fin 512) (h : t.val % 8 < 8) :
    ((cfg0.win 1).blk t).view.read (Elt Ideal) X (ix3 0 q l) = X (ix3 ⟨t.val % 8, h⟩ q l) := by
  blk_ext [idx t]

/-- A slab of the second weight, read at an index. -/
theorem blk2 (X : Vec Ideal S8x512x1024 .bf16) (t : Fin cfg0.N) (q : Fin 512) (l : Fin 1024) (h : t.val % 8 < 8) :
    ((cfg0.win 2).blk t).view.read (Elt Ideal) X (ix3 0 q l) = X (ix3 ⟨t.val % 8, h⟩ q l) := by
  blk_ext [idx t]

/-- The norm's gain, read at an index. -/
theorem blk3 (X : Vec Ideal S1x1x1024 .f32) (t : Fin cfg0.N) (l : Fin 1024) :
    ((cfg0.win 3).blk t).view.read (Elt Ideal) X (ix3 0 0 l) = X (ix3 0 0 l) := by
  blk_ext [idx t]

/-- A block of the shift, read at an index. -/
theorem blk4 (X : Vec Ideal S2x1x1024 .f32) (t : Fin cfg0.N) (l : Fin 1024) (h : t.val / 16 < 2) :
    ((cfg0.win 4).blk t).view.read (Elt Ideal) X (ix3 0 0 l) = X (ix3 ⟨t.val / 16, h⟩ 0 l) := by
  blk_ext [idx t]

/-- A block of the scale, read at an index. -/
theorem blk5 (X : Vec Ideal S2x1x1024 .f32) (t : Fin cfg0.N) (l : Fin 1024) (h : t.val / 16 < 2) :
    ((cfg0.win 5).blk t).view.read (Elt Ideal) X (ix3 0 0 l) = X (ix3 ⟨t.val / 16, h⟩ 0 l) := by
  blk_ext [idx t]

/-- A block of the gate, read at an index. -/
theorem blk6 (X : Vec Ideal S2x1x1024 .f32) (t : Fin cfg0.N) (l : Fin 1024) (h : t.val / 16 < 2) :
    ((cfg0.win 6).blk t).view.read (Elt Ideal) X (ix3 0 0 l) = X (ix3 ⟨t.val / 16, h⟩ 0 l) := by
  blk_ext [idx t]

/-- Where an entry of a block of the first result lies in its array. -/
theorem emb7 (X : Vec Ideal S4096x1024 .bf16) (t : Fin cfg0.N) (k l : Fin 1024) (r : Fin 4096) (h : r.val = t.val / 8 * 1024 + k.val) :
    ((cfg0.win 7).blk t).view.read (Elt Ideal) X (ix2 k l) = X (ix2 r l) := by
  obtain ⟨r, hr⟩ := r
  subst h
  blk_ext [idx t]

/-- Where an entry of a block of the second result lies in its array. -/
theorem emb8 (X : Vec Ideal S4096x4096 .bf16) (t : Fin cfg0.N) (k : Fin 1024) (l : Fin 512) (r j : Fin 4096) (h : r.val = t.val / 8 * 1024 + k.val) (h' : j.val = t.val % 8 * 512 + l.val) :
    ((cfg0.win 8).blk t).view.read (Elt Ideal) X (ix2 k l) = X (ix2 r j) := by
  obtain ⟨r, hr⟩ := r
  obtain ⟨j, hj⟩ := j
  subst h
  subst h'
  blk_ext [idx t]

/-- Where an entry of a block of the third result lies in its array. -/
theorem emb9 (X : Vec Ideal S4096x1024 .f32) (t : Fin cfg0.N) (k l : Fin 1024) (r : Fin 4096) (h : r.val = t.val / 8 * 1024 + k.val) :
    ((cfg0.win 9).blk t).view.read (Elt Ideal) X (ix2 k l) = X (ix2 r l) := by
  obtain ⟨r, hr⟩ := r
  subst h
  blk_ext [idx t]

/-- Where an entry of a block of the fourth result lies in its array. -/
theorem emb10 (X : Vec Ideal S4096x1024 .f32) (t : Fin cfg0.N) (k l : Fin 1024) (r : Fin 4096) (h : r.val = t.val / 8 * 1024 + k.val) :
    ((cfg0.win 10).blk t).view.read (Elt Ideal) X (ix2 k l) = X (ix2 r l) := by
  obtain ⟨r, hr⟩ := r
  subst h
  blk_ext [idx t]

/-! ## What the host part of the kernel prepares -/

/-- A matrix cut into column slabs, read at an index. -/
theorem slabs_cols (X : Vec Ideal S1024x4096 .f32) (s : Fin 8) (k : Fin 1024) (l : Fin 512) (h : s.val * 512 + l.val < 4096) :
    (truncf (F := Ideal) (φ := .f32) .bf16 (transpose S8x1024x512 [1, 0, 2] (shapeCast S1024x8x512 X shapeCasts_S1024x4096_S1024x8x512) transposes_S1024x8x512_S8x1024x512_1_0_2) bitsLt_bf16_f32
      : Vec Ideal S8x1024x512 .bf16) (ix3 s k l) = X (ix2 k ⟨s.val * 512 + l.val, h⟩) := by
  pointwise

/-- A matrix cut into row slabs, read at an index. -/
theorem slabs_rows (X : Vec Ideal S4096x1024 .f32) (s : Fin 8) (k : Fin 512) (l : Fin 1024) (h : s.val * 512 + k.val < 4096) :
    (truncf (F := Ideal) (φ := .f32) .bf16 (shapeCast S8x512x1024 X shapeCasts_S4096x1024_S8x512x1024) bitsLt_bf16_f32 : Vec Ideal S8x512x1024 .bf16) (ix3 s k l)
      = X (ix2 ⟨s.val * 512 + k.val, h⟩ l) := by
  pointwise

/-- The input as rows, read at an index. -/
theorem rows_apply (X : Vec Ideal S2x2048x1024 .f32) (r : Fin 4096) (q : Fin 1024) :
    (shapeCast S4096x1024 X shapeCasts_S2x2048x1024_S4096x1024 : Vec Ideal S4096x1024 .f32) (ix2 r q) = X (ix3 (seqOf r) (posOf r) q) := by
  unfold seqOf posOf
  pointwise

/-- A row per sequence with a middle axis of length one, read at an index. -/
theorem mid_apply (X : Vec Ideal S2x1024 .f32) (b : Fin 2) (l : Fin 1024) :
    (shapeCast S2x1x1024 X shapeCasts_S2x1024_S2x1x1024 : Vec Ideal S2x1x1024 .f32) (ix3 b 0 l) = X (ix2 b l) := by
  pointwise

/-- The gain with two axes of length one, read at an index. -/
theorem gain_apply (X : Vec Ideal S1024 .f32) (l : Fin 1024) :
    (shapeCast S1x1x1024 X shapeCasts_S1024_S1x1x1024 : Vec Ideal S1x1x1024 .f32) (ix3 0 0 l) = X (ix1 l) := by
  pointwise

/-- The layer's input, as the kernel's memory holds it. -/
abbrev a0 (c : Dev nD) : Vec Ideal S2x2048x1024 .f32 := m (c.tc.loc main_arg0)
/-- The norm's gain, as the kernel's memory holds it. -/
abbrev a1 (c : Dev nD) : Vec Ideal S1024 .f32 := m (c.tc.loc main_arg1)
/-- The shift, as the kernel's memory holds it. -/
abbrev a2 (c : Dev nD) : Vec Ideal S2x1024 .f32 := m (c.tc.loc main_arg2)
/-- The scale, as the kernel's memory holds it. -/
abbrev a3 (c : Dev nD) : Vec Ideal S2x1024 .f32 := m (c.tc.loc main_arg3)
/-- The gate, as the kernel's memory holds it. -/
abbrev a4 (c : Dev nD) : Vec Ideal S2x1024 .f32 := m (c.tc.loc main_arg4)
/-- The first weight, as the kernel's memory holds it. -/
abbrev a5 (c : Dev nD) : Vec Ideal S1024x4096 .f32 := m (c.tc.loc main_arg5)
/-- The second weight, as the kernel's memory holds it. -/
abbrev a6 (c : Dev nD) : Vec Ideal S4096x1024 .f32 := m (c.tc.loc main_arg6)

/-- The rows the host part prepares, read at an index. -/
theorem entry_x (c : Dev nD) (r : Fin 4096) (q : Fin 1024) :
    (V m c main_v9 : Vec Ideal S4096x1024 .f32) (ix2 r q) = a0 m c (ix3 (seqOf r) (posOf r) q) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact rows_apply _ r q

/-- The slabs of the first weight the host part prepares, read at an index. -/
theorem entry_w1 (c : Dev nD) (s : Fin 8) (k : Fin 1024) (l : Fin 512) (h : s.val * 512 + l.val < 4096) :
    (V m c main_v2 : Vec Ideal S8x1024x512 .bf16) (ix3 s k l) = a5 m c (ix2 k ⟨s.val * 512 + l.val, h⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_cols _ s k l h

/-- The slabs of the second weight the host part prepares, read at an index. -/
theorem entry_w2 (c : Dev nD) (s : Fin 8) (k : Fin 512) (l : Fin 1024) (h : s.val * 512 + k.val < 4096) :
    (V m c main_v4 : Vec Ideal S8x512x1024 .bf16) (ix3 s k l) = a6 m c (ix2 ⟨s.val * 512 + k.val, h⟩ l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_rows _ s k l h

/-- The gain the host part prepares, read at an index. -/
theorem entry_g (c : Dev nD) (l : Fin 1024) :
    (V m c main_v5 : Vec Ideal S1x1x1024 .f32) (ix3 0 0 l) = a1 m c (ix1 l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact gain_apply _ l

/-- The shift the host part prepares, read at an index. -/
theorem entry_sh (c : Dev nD) (b : Fin 2) (l : Fin 1024) :
    (V m c main_v6 : Vec Ideal S2x1x1024 .f32) (ix3 b 0 l) = a2 m c (ix2 b l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact mid_apply _ b l

/-- The scale the host part prepares, read at an index. -/
theorem entry_sc (c : Dev nD) (b : Fin 2) (l : Fin 1024) :
    (V m c main_v7 : Vec Ideal S2x1x1024 .f32) (ix3 b 0 l) = a3 m c (ix2 b l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact mid_apply _ b l

/-- The gate the host part prepares, read at an index. -/
theorem entry_gate (c : Dev nD) (b : Fin 2) (l : Fin 1024) :
    (V m c main_v8 : Vec Ideal S2x1x1024 .f32) (ix3 b 0 l) = a4 m c (ix2 b l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact mid_apply _ b l

/-! ## The values -/

/-- A block's sequence is its row's. -/
theorem seq_eq (t : Fin cfg0.N) (k : Fin 1024) (r : Fin 4096) (hr : r.val = t.val / 8 * 1024 + k.val) (h : t.val / 16 < 2) : (⟨t.val / 16, h⟩ : Fin 2) = seqOf r := by
  refine Fin.ext ?_
  show t.val / 16 = r.val / 2048
  omega

/-- One entry of the input's block at a step. -/
theorem x_point (c : Dev nD) (t : Fin cfg0.N) (k l : Fin 1024) (r : Fin 4096) (hr : r.val = t.val / 8 * 1024 + k.val) :
    (iblk m c 0 t : Vec Ideal S1024x1024 .f32) (ix2 k l) = a0 m c (ix3 (seqOf r) (posOf r) l) := by
  unfold iblk
  exact (blk0 _ t k l r hr).trans (entry_x m c r l)

/-- The block of the layer input a first step computes. -/
theorem h_fresh (c : Dev nD) (t : Fin cfg0.N) (k l : Fin 1024) (r : Fin 4096) (hr : r.val = t.val / 8 * 1024 + k.val) :
    k0_pay4 (F := Ideal) (iblk m c 0 t) (iblk m c 3 t) (iblk m c 4 t) (iblk m c 5 t) (ix2 k l)
      = hAt (a0 m c) (a1 m c) (a2 m c) (a3 m c) (seqOf r) (posOf r) l := by
  have ht : t.val < 32 := lt_of_lt_of_eq t.isLt N_0
  have hb : t.val / 16 < 2 := by omega
  rw [pay4_apply]
  unfold hAt
  refine congrArg₂ (fun x y : EReal => x + y) (congrArg₂ (fun x y : EReal => x * y) (congrArg₂ (fun x y : EReal => x * y) (congrArg₂ (fun x y : EReal => x * y) ?_
    (congrArg (fun y : EReal => Ideal.rsqrt (Ideal.div y (Ideal.ofBits .f32 0x44800000#32) + Ideal.ofBits .f32 0x358637BD#32)) (Finset.sum_congr rfl fun q _ => ?_)))
    ?_) (congrArg (fun y : EReal => Ideal.ofBits .f32 0x3F800000#32 + y) ?_)) ?_
  · exact x_point m c t k l r hr
  · exact congrArg (fun y : EReal => y * y) (x_point m c t k q r hr)
  · unfold iblk
    exact (blk3 _ t l).trans (entry_g m c l)
  · unfold iblk
    exact (blk5 _ t l hb).trans ((entry_sc m c _ l).trans (congrArg (fun b => a3 m c (ix2 b l)) (seq_eq t k r hr hb)))
  · unfold iblk
    exact (blk4 _ t l hb).trans ((entry_sh m c _ l).trans (congrArg (fun b => a2 m c (ix2 b l)) (seq_eq t k r hr hb)))

/-- The kept block at every step. -/
theorem keep_point (c : Dev nD) : ∀ (n : ℕ) (hn : n < cfg0.N) (k l : Fin 1024) (r : Fin 4096), r.val = n / 8 * 1024 + k.val →
    (outsAt0 m c n hn).2.2.2.2.2 (ix2 k l) = hAt (a0 m c) (a1 m c) (a2 m c) (a3 m c) (seqOf r) (posOf r) l
  | 0, hn, k, l, r, hr => by
    refine (congrFun (keep_reset m c ⟨0, hn⟩ rfl) (ix2 k l)).trans ?_
    rw [pay5_eq]
    exact h_fresh m c ⟨0, hn⟩ k l r hr
  | n + 1, hn, k, l, r, hr => by
    by_cases h0 : (n + 1) % 8 = 0
    · refine (congrFun (keep_reset m c ⟨n + 1, hn⟩ h0) (ix2 k l)).trans ?_
      rw [pay5_eq]
      exact h_fresh m c ⟨n + 1, hn⟩ k l r hr
    · exact (congrFun (keep_step m c ⟨n + 1, hn⟩ h0) (ix2 k l)).trans (keep_point c n (Nat.lt_of_succ_lt hn) k l r (by omega))

/-- The activation at every step. -/
theorem act_point (c : Dev nD) (t : Fin cfg0.N) (k : Fin 1024) (l : Fin 512) (r j : Fin 4096) (hr : r.val = t.val / 8 * 1024 + k.val) (hj : j.val = t.val % 8 * 512 + l.val) :
    (outsAt0 m c t.val t.isLt).2.1 (ix2 k l) = actAt (a0 m c) (a1 m c) (a2 m c) (a3 m c) (a5 m c) (seqOf r) (posOf r) j := by
  have h8 : t.val % 8 < 8 := Nat.mod_lt _ (by decide)
  rw [act_block, pay1_apply]
  unfold actAt
  refine congrArg (fun y : EReal => max y 0 * max y 0) (Finset.sum_congr rfl fun q _ => congrArg₂ (fun x y : EReal => x * y) ?_ ?_)
  · exact keep_point m c t.val t.isLt k q r hr
  · unfold iblk
    refine (blk1 _ t q l h8).trans ((entry_w1 m c ⟨t.val % 8, h8⟩ q l (by show t.val % 8 * 512 + l.val < 4096; omega)).trans ?_)
    exact congrArg (fun i => a5 m c (ix2 q i)) (Fin.ext hj.symm)

/-- The accumulator at the last step of a row. -/
theorem ff_point (c : Dev nD) (t : Fin cfg0.N) (h1 : t.val % 8 = 7) (k l : Fin 1024) (r : Fin 4096) (hr : r.val = t.val / 8 * 1024 + k.val) :
    (outsAt0 m c t.val t.isLt).2.2.2.2.1 (ix2 k l) = ffAt (a0 m c) (a1 m c) (a2 m c) (a3 m c) (a5 m c) (a6 m c) (seqOf r) (posOf r) l := by
  have hN : cfg0.N = 32 := N_0
  have ht : t.val < 32 := lt_of_lt_of_eq t.isLt hN
  rw [acc_sum m c t h1]
  unfold term ffAt
  refine Fin.sum_mul_add_congr fun s q hl => ?_
  have hs : 8 * (t.val / 8) + s.val < cfg0.N := by omega
  have es : (8 * (t.val / 8) + s.val) / 8 = t.val / 8 := by omega
  have es' : (8 * (t.val / 8) + s.val) % 8 = s.val := by omega
  refine congrArg₂ (fun x y : EReal => x * y) ?_ ?_
  · refine act_point m c ⟨8 * (t.val / 8) + s.val, hs⟩ k q r ⟨s.val * 512 + q.val, hl⟩ ?_ ?_
    · show r.val = (8 * (t.val / 8) + s.val) / 8 * 1024 + k.val
      omega
    · show s.val * 512 + q.val = (8 * (t.val / 8) + s.val) % 8 * 512 + q.val
      omega
  · unfold iblk
    refine (blk2 _ ⟨8 * (t.val / 8) + s.val, hs⟩ q l (Nat.mod_lt _ (by decide))).trans
      ((entry_w2 m c _ q l (by show (8 * (t.val / 8) + s.val) % 8 * 512 + q.val < 4096; omega)).trans ?_)
    refine congrArg (fun i => a6 m c (ix2 i l)) (Fin.ext ?_)
    show (8 * (t.val / 8) + s.val) % 8 * 512 + q.val = s.val * 512 + q.val
    omega

/-- The output at the last step of a row. -/
theorem out_point (c : Dev nD) (t : Fin cfg0.N) (h1 : t.val % 8 = 7) (k l : Fin 1024) (r : Fin 4096) (hr : r.val = t.val / 8 * 1024 + k.val) :
    (outsAt0 m c t.val t.isLt).2.2.2.1 (ix2 k l) = outAt (a0 m c) (a1 m c) (a2 m c) (a3 m c) (a4 m c) (a5 m c) (a6 m c) (seqOf r) (posOf r) l := by
  have ht : t.val < 32 := lt_of_lt_of_eq t.isLt N_0
  have hb : t.val / 16 < 2 := by omega
  rw [out_block m c t h1, pay3_apply, ff_point m c t h1 k l r hr, x_point m c t k l r hr]
  unfold outAt
  refine congrArg (fun y : EReal => a0 m c (ix3 (seqOf r) (posOf r) l) + y * ffAt (a0 m c) (a1 m c) (a2 m c) (a3 m c) (a5 m c) (a6 m c) (seqOf r) (posOf r) l) ?_
  unfold iblk
  exact (blk6 _ t l hb).trans ((entry_gate m c _ l).trans (congrArg (fun b => a4 m c (ix2 b l)) (seq_eq t k r hr hb)))

/-- The third result is written back at the last step of a row. -/
theorem last9 : ∀ t : Fin cfg0.N, (cfg0.win 9).flush t = true → t.val % 8 = 7 :=
  (by decide +kernel : ∀ t : Fin grid0.N, _)

/-- The fourth result is written back at the last step of a row. -/
theorem last10 : ∀ t : Fin cfg0.N, (cfg0.win 10).flush t = true → t.val % 8 = 7 :=
  (by decide +kernel : ∀ t : Fin grid0.N, _)

/-- The first result array is the reference's. -/
theorem value7 (c : Dev nD) : (dats m 0 c).arrAt 7 cfg0.N = MlpRefIdeal.Read.val_main_v30 (F := Ideal) (a0 m c) (a1 m c) (a2 m c) (a3 m c) := by
  have hp : ∀ (t : Fin cfg0.N) (hf : (cfg0.win 7).flush t = true) (k : Fin 1024) (l : Fin 1024) (r : Fin 4096) (hr : r.val = t.val / 8 * 1024 + k.val),
      (outsAt0 m c t.val t.isLt).1 (ix2 k l) = MlpRefIdeal.Read.val_main_v30 (F := Ideal) (a0 m c) (a1 m c) (a2 m c) (a3 m c) (ix2 r l) :=
    fun t hf k l r hr => ((congrFun (h_eq_keep m c t.val t.isLt) (ix2 k l)).trans (keep_point m c t.val t.isLt k l r hr)).trans (ref30 (a0 m c) (a1 m c) (a2 m c) (a3 m c) r l).symm
  generalize MlpRefIdeal.Read.val_main_v30 (F := Ideal) (a0 m c) (a1 m c) (a2 m c) (a3 m c) = G at hp ⊢
  refine (dats m 0 c).arrAt_eq_of_covers 7 _ (by decide +kernel) fun t hf y => ?_
  have ht : t.val < 32 := lt_of_lt_of_eq t.isLt N_0
  rw [after0_7]
  have e0 : (y 0).val < 1024 := (y 0).isLt
  have e1 : (y 1).val < 1024 := (y 1).isLt
  have h : t.val / 8 * 1024 + (y 0).val < 4096 := by omega
  have hq := hp t hf ⟨(y 0).val, e0⟩ ⟨(y 1).val, e1⟩ ⟨t.val / 8 * 1024 + (y 0).val, h⟩ rfl
  generalize (outsAt0 m c t.val t.isLt).1 = O at hq ⊢
  refine Eq.trans ?_ (hq.trans ?_)
  · refine congrArg O (funext fun a => ?_)
    fin_cases a <;> rfl
  · refine (emb7 G t ⟨(y 0).val, e0⟩ ⟨(y 1).val, e1⟩ ⟨t.val / 8 * 1024 + (y 0).val, h⟩ rfl).symm.trans (congrArg G (congrArg _ (funext fun a => ?_)))
    fin_cases a <;> rfl

/-- The second result array is the reference's. -/
theorem value8 (c : Dev nD) : (dats m 0 c).arrAt 8 cfg0.N = MlpRefIdeal.Read.val_main_v32 (F := Ideal) (a0 m c) (a1 m c) (a2 m c) (a3 m c) (a5 m c) := by
  have hp : ∀ (t : Fin cfg0.N) (hf : (cfg0.win 8).flush t = true) (k : Fin 1024) (l : Fin 512) (r j : Fin 4096) (hr : r.val = t.val / 8 * 1024 + k.val) (hj : j.val = t.val % 8 * 512 + l.val),
      (outsAt0 m c t.val t.isLt).2.1 (ix2 k l) = MlpRefIdeal.Read.val_main_v32 (F := Ideal) (a0 m c) (a1 m c) (a2 m c) (a3 m c) (a5 m c) (ix2 r j) :=
    fun t hf k l r j hr hj => (act_point m c t k l r j hr hj).trans (ref32 (a0 m c) (a1 m c) (a2 m c) (a3 m c) (a5 m c) r j).symm
  generalize MlpRefIdeal.Read.val_main_v32 (F := Ideal) (a0 m c) (a1 m c) (a2 m c) (a3 m c) (a5 m c) = G at hp ⊢
  refine (dats m 0 c).arrAt_eq_of_covers 8 _ (by decide +kernel) fun t hf y => ?_
  have ht : t.val < 32 := lt_of_lt_of_eq t.isLt N_0
  rw [after0_8]
  have e0 : (y 0).val < 1024 := (y 0).isLt
  have e1 : (y 1).val < 512 := (y 1).isLt
  have h : t.val / 8 * 1024 + (y 0).val < 4096 := by omega
  have h' : t.val % 8 * 512 + (y 1).val < 4096 := by omega
  have hq := hp t hf ⟨(y 0).val, e0⟩ ⟨(y 1).val, e1⟩ ⟨t.val / 8 * 1024 + (y 0).val, h⟩ ⟨t.val % 8 * 512 + (y 1).val, h'⟩ rfl rfl
  generalize (outsAt0 m c t.val t.isLt).2.1 = O at hq ⊢
  refine Eq.trans ?_ (hq.trans ?_)
  · refine congrArg O (funext fun a => ?_)
    fin_cases a <;> rfl
  · refine (emb8 G t ⟨(y 0).val, e0⟩ ⟨(y 1).val, e1⟩ ⟨t.val / 8 * 1024 + (y 0).val, h⟩ ⟨t.val % 8 * 512 + (y 1).val, h'⟩ rfl rfl).symm.trans (congrArg G (congrArg _ (funext fun a => ?_)))
    fin_cases a <;> rfl

/-- The third result array is the reference's. -/
theorem value9 (c : Dev nD) : (dats m 0 c).arrAt 9 cfg0.N = MlpRefIdeal.Read.val_main_v33 (F := Ideal) (a0 m c) (a1 m c) (a2 m c) (a3 m c) (a5 m c) (a6 m c) := by
  have hp : ∀ (t : Fin cfg0.N) (hf : (cfg0.win 9).flush t = true) (k : Fin 1024) (l : Fin 1024) (r : Fin 4096) (hr : r.val = t.val / 8 * 1024 + k.val),
      (outsAt0 m c t.val t.isLt).2.2.1 (ix2 k l) = MlpRefIdeal.Read.val_main_v33 (F := Ideal) (a0 m c) (a1 m c) (a2 m c) (a3 m c) (a5 m c) (a6 m c) (ix2 r l) :=
    fun t hf k l r hr => ((congrFun (ff_block m c t (last9 t hf)) (ix2 k l)).trans (ff_point m c t (last9 t hf) k l r hr)).trans (ref33 (a0 m c) (a1 m c) (a2 m c) (a3 m c) (a5 m c) (a6 m c) r l).symm
  generalize MlpRefIdeal.Read.val_main_v33 (F := Ideal) (a0 m c) (a1 m c) (a2 m c) (a3 m c) (a5 m c) (a6 m c) = G at hp ⊢
  refine (dats m 0 c).arrAt_eq_of_covers 9 _ (by decide +kernel) fun t hf y => ?_
  have ht : t.val < 32 := lt_of_lt_of_eq t.isLt N_0
  rw [after0_9]
  have e0 : (y 0).val < 1024 := (y 0).isLt
  have e1 : (y 1).val < 1024 := (y 1).isLt
  have h : t.val / 8 * 1024 + (y 0).val < 4096 := by omega
  have hq := hp t hf ⟨(y 0).val, e0⟩ ⟨(y 1).val, e1⟩ ⟨t.val / 8 * 1024 + (y 0).val, h⟩ rfl
  generalize (outsAt0 m c t.val t.isLt).2.2.1 = O at hq ⊢
  refine Eq.trans ?_ (hq.trans ?_)
  · refine congrArg O (funext fun a => ?_)
    fin_cases a <;> rfl
  · refine (emb9 G t ⟨(y 0).val, e0⟩ ⟨(y 1).val, e1⟩ ⟨t.val / 8 * 1024 + (y 0).val, h⟩ rfl).symm.trans (congrArg G (congrArg _ (funext fun a => ?_)))
    fin_cases a <;> rfl

/-- The fourth result array is the reference's. -/
theorem value10 (c : Dev nD) : (dats m 0 c).arrAt 10 cfg0.N = MlpRefIdeal.Read.val_main_v34 (F := Ideal) (a0 m c) (a1 m c) (a2 m c) (a3 m c) (a4 m c) (a5 m c) (a6 m c) := by
  have hp : ∀ (t : Fin cfg0.N) (hf : (cfg0.win 10).flush t = true) (k : Fin 1024) (l : Fin 1024) (r : Fin 4096) (hr : r.val = t.val / 8 * 1024 + k.val),
      (outsAt0 m c t.val t.isLt).2.2.2.1 (ix2 k l) = MlpRefIdeal.Read.val_main_v34 (F := Ideal) (a0 m c) (a1 m c) (a2 m c) (a3 m c) (a4 m c) (a5 m c) (a6 m c) (ix2 r l) :=
    fun t hf k l r hr => (out_point m c t (last10 t hf) k l r hr).trans (ref34 (a0 m c) (a1 m c) (a2 m c) (a3 m c) (a4 m c) (a5 m c) (a6 m c) r l).symm
  generalize MlpRefIdeal.Read.val_main_v34 (F := Ideal) (a0 m c) (a1 m c) (a2 m c) (a3 m c) (a4 m c) (a5 m c) (a6 m c) = G at hp ⊢
  refine (dats m 0 c).arrAt_eq_of_covers 10 _ (by decide +kernel) fun t hf y => ?_
  have ht : t.val < 32 := lt_of_lt_of_eq t.isLt N_0
  rw [after0_10]
  have e0 : (y 0).val < 1024 := (y 0).isLt
  have e1 : (y 1).val < 1024 := (y 1).isLt
  have h : t.val / 8 * 1024 + (y 0).val < 4096 := by omega
  have hq := hp t hf ⟨(y 0).val, e0⟩ ⟨(y 1).val, e1⟩ ⟨t.val / 8 * 1024 + (y 0).val, h⟩ rfl
  generalize (outsAt0 m c t.val t.isLt).2.2.2.1 = O at hq ⊢
  refine Eq.trans ?_ (hq.trans ?_)
  · refine congrArg O (funext fun a => ?_)
    fin_cases a <;> rfl
  · refine (emb10 G t ⟨(y 0).val, e0⟩ ⟨(y 1).val, e1⟩ ⟨t.val / 8 * 1024 + (y 0).val, h⟩ rfl).symm.trans (congrArg G (congrArg _ (funext fun a => ?_)))
    fin_cases a <;> rfl

/-- The kernel runs, leaves the four arrays its steps wrote and keeps its arguments. -/
theorem run_arrays (ρ : Dev nD → PrngReg) : θ_run defs (onTc (τ := τ) (main (F := Ideal))) ⟨m, fun _ => 0, ρ⟩ (fun r => ∀ c : Dev nD,
      r.2.mem ((c.tc : Thread nD τ).loc main_v10_0) = (dats m 0 c).arrAt 7 cfg0.N
      ∧ r.2.mem ((c.tc : Thread nD τ).loc main_v10_1) = (dats m 0 c).arrAt 8 cfg0.N
      ∧ r.2.mem ((c.tc : Thread nD τ).loc main_v10_2) = (dats m 0 c).arrAt 9 cfg0.N
      ∧ r.2.mem ((c.tc : Thread nD τ).loc main_v10_3) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7, (h.1 c).1 8, (h.1 c).1 9, (h.1 c).1 10, h.2 c⟩) (θ_run_and (run_main m ρ) (unchanged m ρ))

/-- The claim about the layer: both programs run from memories that agree on the arguments and end with the same four results. -/
theorem algebraic : algebraic_MlpIdeal_MlpRefIdeal := by
  intro m g m' g' _ h
  refine ⟨fun c => (dats m 0 c).arrAt 7 cfg0.N, fun c => (dats m 0 c).arrAt 8 cfg0.N, fun c => (dats m 0 c).arrAt 9 cfg0.N, fun c => (dats m 0 c).arrAt 10 cfg0.N, run_arrays m g, ?_⟩
  refine (θ_run MlpRefIdeal.defs _ _).mono (fun r hr c => ?_) (MlpRefIdeal.Value.run (F := Ideal) m' g')
  obtain ⟨h0, h1, h2, h3, h4, h5, h6⟩ := h c
  refine ⟨(hr c).1.trans ?_, (hr c).2.1.trans ?_, (hr c).2.2.1.trans ?_, (hr c).2.2.2.1.trans ?_, (hr c).2.2.2.2⟩
  · refine Eq.trans ?_ (value7 m c).symm
    show _ = MlpRefIdeal.Read.val_main_v30 (F := Ideal) (m (c.tc.loc main_arg0)) (m (c.tc.loc main_arg1)) (m (c.tc.loc main_arg2)) (m (c.tc.loc main_arg3))
    rw [← h0, ← h1, ← h2, ← h3]
    exact MlpRefIdeal.Read.val_main_v30_eq _ _ _ _
  · refine Eq.trans ?_ (value8 m c).symm
    show _ = MlpRefIdeal.Read.val_main_v32 (F := Ideal) (m (c.tc.loc main_arg0)) (m (c.tc.loc main_arg1)) (m (c.tc.loc main_arg2)) (m (c.tc.loc main_arg3)) (m (c.tc.loc main_arg5))
    rw [← h0, ← h1, ← h2, ← h3, ← h5]
    exact MlpRefIdeal.Read.val_main_v32_eq _ _ _ _ _
  · refine Eq.trans ?_ (value9 m c).symm
    show _ = MlpRefIdeal.Read.val_main_v33 (F := Ideal) (m (c.tc.loc main_arg0)) (m (c.tc.loc main_arg1)) (m (c.tc.loc main_arg2)) (m (c.tc.loc main_arg3)) (m (c.tc.loc main_arg5)) (m (c.tc.loc main_arg6))
    rw [← h0, ← h1, ← h2, ← h3, ← h5, ← h6]
    exact MlpRefIdeal.Read.val_main_v33_eq _ _ _ _ _ _
  · refine Eq.trans ?_ (value10 m c).symm
    show _ = MlpRefIdeal.Read.val_main_v34 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
    rw [← h0, ← h1, ← h2, ← h3, ← h4, ← h5, ← h6]
    exact MlpRefIdeal.Read.val_main_v34_eq _ _ _ _ _ _ _

end Cert.MlpIdeal.Val
end
-- ==== Proof.Dcore.lean ====
module

public import proofs.«01_k».proof.Defs
public import proofs.«01_k».proof.Proof.Gen.DcoreIdeal.Value
public import proofs.«01_k».proof.Proof.Gen.DcoreRefIdeal.Run
public import proofs.«01_k».proof.Proof.Gen.DcoreRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.DcoreIdeal.Val

open Cert.DcoreIdeal Cert.DcoreIdeal.Gen

variable (m : (ℓ : Loc nD τ sig) → Buf (Elt Ideal) ℓ)

/-- The factor two, as both programs write it. -/
def two : EReal := Ideal.ofBits .f32 0x40000000#32

/-- One entry of the gradient at the activation, from a block of the cotangent, of the second weight and of the saved activation. -/
theorem pay2_apply (D : Vec Ideal S1024x1024 .bf16) (W : Vec Ideal S1x512x1024 .bf16) (A : Vec Ideal S1024x512 .bf16) (x : S1024x512.Idx) :
    k0_pay2 D W A x = (∑ q : Fin 1024, D (ix2 (x 0) q) * W (ix3 0 (x 1) q)) * (two * Ideal.sqrt (A x)) := by
  unfold two
  pointwise [k0_pay2]

/-- One entry of the input gradient's accumulator: what it held and the block's product. -/
theorem pay3_apply (D : Vec Ideal S1024x1024 .bf16) (W : Vec Ideal S1x512x1024 .bf16) (A : Vec Ideal S1024x512 .bf16) (P : Vec Ideal S1024x1024 .f32)
    (U : Vec Ideal S1x1024x512 .bf16) (x : S1024x1024.Idx) :
    k0_pay3 D W A P U x = P x + ∑ q : Fin 512, k0_pay2 D W A (ix2 (x 0) q) * U (ix3 0 (x 1) q) := by
  unfold k0_pay3
  generalize k0_pay2 D W A = Y
  pointwise

/-- At every point the first output is the block's gradient at the activation. -/
theorem out_dpre (c : Dev nD) (t : Fin cfg0.N) :
    (outsAt0 m c t.val t.isLt).1 = k0_pay2 (F := Ideal) (iblk m c 0 t) (iblk m c 3 t) (iblk m c 1 t) := by
  by_cases h0 : t.val % 8 = 0
  · have h1 : ¬t.val % 8 = 7 := by omega
    rw [outsAt0_A m c t h0 h1]
    dsimp only
    frame_open
    frame_out
  · by_cases h1 : t.val % 8 = 7
    · rw [outsAt0_C m c t h0 h1]
      dsimp only
      frame_open
      frame_out
    · rw [outsAt0_B m c t h0 h1]
      dsimp only
      frame_open
      frame_out

/-- Past the first point of a row the accumulator takes the block's product on top of what it held. -/
theorem acc_step (c : Dev nD) (t : Fin cfg0.N) (h0 : ¬t.val % 8 = 0) :
    (outsAt0 m c t.val t.isLt).2.2
      = k0_pay3 (F := Ideal) (iblk m c 0 t) (iblk m c 3 t) (iblk m c 1 t) (outsAt0 m c (t.val - 1) (Nat.lt_of_le_of_lt (Nat.sub_le _ _) t.isLt)).2.2 (iblk m c 2 t) := by
  by_cases h1 : t.val % 8 = 7
  · rw [outsAt0_C m c t h0 h1]
    dsimp only
    frame_open
    frame_out
    simp only [read_unread_whole]
  · rw [outsAt0_B m c t h0 h1]
    dsimp only
    frame_open
    frame_out
    simp only [read_unread_whole]

/-- At the first point of a row the accumulator starts from zero. -/
theorem acc_reset (c : Dev nD) (t : Fin cfg0.N) (h0 : t.val % 8 = 0) :
    (outsAt0 m c t.val t.isLt).2.2
      = k0_pay3 (F := Ideal) (iblk m c 0 t) (iblk m c 3 t) (iblk m c 1 t) (k0_pay1 (F := Ideal)) (iblk m c 2 t) := by
  have h1 : ¬t.val % 8 = 7 := by omega
  rw [outsAt0_A m c t h0 h1]
  dsimp only
  frame_open
  frame_out

/-- At the last point of a row the second output is the accumulator. -/
theorem out_dh (c : Dev nD) (t : Fin cfg0.N) (h1 : t.val % 8 = 7) :
    (outsAt0 m c t.val t.isLt).2.1 = (outsAt0 m c t.val t.isLt).2.2 := by
  rw [outsAt0_C m c t (by omega) h1]
  dsimp only
  frame_open
  frame_out

/-- The product one point adds to the input gradient. -/
def term (c : Dev nD) (t : Fin cfg0.N) (x : S1024x1024.Idx) : EReal :=
  ∑ q : Fin 512, (outsAt0 m c t.val t.isLt).1 (ix2 (x 0) q) * (iblk m c 2 t : Vec Ideal S1x1024x512 .bf16) (ix3 0 (x 1) q)

/-- The second output at the last point of a row: the sum of the row's eight products. -/
theorem dh_sum (c : Dev nD) (t : Fin cfg0.N) (h1 : t.val % 8 = 7) (x : S1024x1024.Idx) :
    (outsAt0 m c t.val t.isLt).2.1 x = ∑ s : Fin 8, term m c ⟨8 * (t.val / 8) + s.val, Pipeline.run_point_lt_of_flush t h1 s⟩ x := by
  rw [out_dh m c t h1]
  rw [Pipeline.eq_sum_fin_of_reset_step_apply_of_flush (fun n h => (outsAt0 m c n h).2.2) 8 (fun _ => (0 : EReal)) (fun t x => term m c t x)
    (fun t h x => by
      show (outsAt0 m c t.val t.isLt).2.2 x = _
      rw [acc_reset m c t h, pay3_apply, ← out_dpre m c t]
      refine congrArg (· + term m c t x) ?_
      pointwise [k0_pay1])
    (fun t h x => by
      show (outsAt0 m c t.val t.isLt).2.2 x = _
      rw [acc_step m c t h, pay3_apply, ← out_dpre m c t]
      rfl)
    t h1 x, zero_add]

/-- Where each input's block lies. -/
theorem idx : ∀ t : Fin cfg0.N, win0_0.index t = ![t.val / 8, 0] ∧ win0_1.index t = ![t.val / 8, t.val % 8]
    ∧ win0_2.index t = ![t.val % 8, 0, 0] ∧ win0_3.index t = ![t.val % 8, 0, 0] :=
  (by decide +kernel : ∀ t : Fin grid0.N, _)

/-- A block of the cotangent, read at an index. -/
theorem blk0 (X : Vec Ideal S4096x1024 .bf16) (t : Fin cfg0.N) (k : Fin 1024) (l : Fin 1024) (h : t.val / 8 * 1024 + k.val < 4096) :
    ((cfg0.win 0).blk t).view.read (Elt Ideal) X (ix2 k l) = X (ix2 ⟨t.val / 8 * 1024 + k.val, h⟩ l) := by
  blk_ext [idx t]

/-- A block of the saved activation, read at an index. -/
theorem blk1 (X : Vec Ideal S4096x4096 .bf16) (t : Fin cfg0.N) (k : Fin 1024) (l : Fin 512) (h : t.val / 8 * 1024 + k.val < 4096) (h' : t.val % 8 * 512 + l.val < 4096) :
    ((cfg0.win 1).blk t).view.read (Elt Ideal) X (ix2 k l) = X (ix2 ⟨t.val / 8 * 1024 + k.val, h⟩ ⟨t.val % 8 * 512 + l.val, h'⟩) := by
  blk_ext [idx t]

/-- A slab of the first weight, read at an index. -/
theorem blk2 (X : Vec Ideal S8x1024x512 .bf16) (t : Fin cfg0.N) (k : Fin 1024) (l : Fin 512) (h : t.val % 8 < 8) :
    ((cfg0.win 2).blk t).view.read (Elt Ideal) X (ix3 0 k l) = X (ix3 ⟨t.val % 8, h⟩ k l) := by
  blk_ext [idx t]

/-- A slab of the second weight, read at an index. -/
theorem blk3 (X : Vec Ideal S8x512x1024 .bf16) (t : Fin cfg0.N) (k : Fin 512) (l : Fin 1024) (h : t.val % 8 < 8) :
    ((cfg0.win 3).blk t).view.read (Elt Ideal) X (ix3 0 k l) = X (ix3 ⟨t.val % 8, h⟩ k l) := by
  blk_ext [idx t]

/-- The cotangent the host part of the kernel prepares is the argument. -/
theorem entry_dff (c : Dev nD) : V m c (Pipeline.arrRef spec0 0) = m (c.tc.loc main_arg3) := by
  show V m c main_v6 = _
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- The activations the host part of the kernel prepares are the reference's. -/
theorem entry_act (c : Dev nD) : V m c (Pipeline.arrRef spec0 1)
    = DcoreRefIdeal.Read.val_main_v5 (F := Ideal) (m (c.tc.loc main_arg0)) (m (c.tc.loc main_arg1)) := by
  show V m c main_v7 = _
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- A matrix cut into column slabs, read at an index. -/
theorem slabs_cols (X : Vec Ideal S1024x4096 .f32) (s : Fin 8) (k : Fin 1024) (l : Fin 512) (h : s.val * 512 + l.val < 4096) :
    (truncf (F := Ideal) (φ := .f32) .bf16 (transpose S8x1024x512 [1, 0, 2] (shapeCast S1024x8x512 X shapeCasts_S1024x4096_S1024x8x512) transposes_S1024x8x512_S8x1024x512_1_0_2) bitsLt_bf16_f32
      : Vec Ideal S8x1024x512 .bf16) (ix3 s k l) = X (ix2 k ⟨s.val * 512 + l.val, h⟩) := by
  pointwise

/-- A matrix cut into row slabs, read at an index. -/
theorem slabs_rows (X : Vec Ideal S4096x1024 .f32) (s : Fin 8) (k : Fin 512) (l : Fin 1024) (h : s.val * 512 + k.val < 4096) :
    (truncf (F := Ideal) (φ := .f32) .bf16 (shapeCast S8x512x1024 X shapeCasts_S4096x1024_S8x512x1024) bitsLt_bf16_f32 : Vec Ideal S8x512x1024 .bf16) (ix3 s k l)
      = X (ix2 ⟨s.val * 512 + k.val, h⟩ l) := by
  pointwise

/-- The first weight, cut into column slabs, read at an index. -/
theorem entry_w1 (c : Dev nD) (s : Fin 8) (k : Fin 1024) (l : Fin 512) (h : s.val * 512 + l.val < 4096) :
    (V m c (Pipeline.arrRef spec0 2) : Vec Ideal S8x1024x512 .bf16) (ix3 s k l) = (m (c.tc.loc main_arg1) : Vec Ideal S1024x4096 .f32) (ix2 k ⟨s.val * 512 + l.val, h⟩) := by
  show (V m c main_v8 : Vec Ideal S8x1024x512 .bf16) _ = _
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_cols _ s k l h

/-- The second weight, cut into row slabs, read at an index. -/
theorem entry_w2 (c : Dev nD) (s : Fin 8) (k : Fin 512) (l : Fin 1024) (h : s.val * 512 + k.val < 4096) :
    (V m c (Pipeline.arrRef spec0 3) : Vec Ideal S8x512x1024 .bf16) (ix3 s k l) = (m (c.tc.loc main_arg2) : Vec Ideal S4096x1024 .f32) (ix2 ⟨s.val * 512 + k.val, h⟩ l) := by
  show (V m c main_v9 : Vec Ideal S8x512x1024 .bf16) _ = _
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_rows _ s k l h

/-- The square root of a square that is not negative. -/
theorem sqrt_sq (p : EReal) : Ideal.sqrt (max p 0 * max p 0) = max p 0 := by
  induction p using EReal.rec with
  | bot =>
    rw [max_eq_right bot_le, mul_zero]
    have := Ideal.sqrt_coe (r := 0)
    rw [if_neg (lt_irrefl _), Real.sqrt_zero] at this
    exact this
  | top =>
    rw [max_eq_left le_top, EReal.top_mul_top]
    rfl
  | coe r =>
    have e : max (r : EReal) 0 = ((max r 0 : ℝ) : EReal) := (Monotone.map_max EReal.coe_strictMono.monotone).symm
    rw [e, ← EReal.coe_mul, Ideal.sqrt_coe, if_neg (not_lt.mpr (mul_self_nonneg _)), Real.sqrt_mul_self (le_max_right _ _)]

/-- The derivative of the squared rectifier: where the pre-activation is not positive the factor is zero already. -/
theorem relu_grad (x w p : EReal) : x * (w * max p 0) = if 0 < p then x * (w * max p 0) else 0 := by
  split_ifs with h
  · rfl
  · rw [max_eq_right (not_lt.mp h), mul_zero, mul_zero]

/-- The reference's gradient at the pre-activation, as a function of the kernel's arguments. -/
abbrev refPre (c : Dev nD) : Vec Ideal S4096x4096 .f32 :=
  DcoreRefIdeal.Read.val_main_v12 (F := Ideal) (m (c.tc.loc main_arg0)) (m (c.tc.loc main_arg1)) (m (c.tc.loc main_arg2)) (m (c.tc.loc main_arg3))

/-- The reference's gradient at the pre-activation, read at an index, in the kernel's form. -/
theorem refPre_apply (x0 : Vec Ideal S4096x1024 .f32) (x1 : Vec Ideal S1024x4096 .f32) (x2 x3 : Vec Ideal S4096x1024 .f32) (a b : Fin 4096) :
    DcoreRefIdeal.Read.val_main_v12 (F := Ideal) x0 x1 x2 x3 (ix2 a b)
      = (∑ q : Fin 1024, x3 (ix2 a q) * x2 (ix2 b q)) * (two * Ideal.sqrt (DcoreRefIdeal.Read.val_main_v5 (F := Ideal) x0 x1 (ix2 a b))) := by
  rw [DcoreRefIdeal.Read.val_main_v12_apply, DcoreRefIdeal.Read.val_main_v3_apply, DcoreRefIdeal.Read.val_main_v10_apply, DcoreRefIdeal.Read.val_main_v9_apply,
    DcoreRefIdeal.Read.val_main_v7_apply, DcoreRefIdeal.Read.val_main_v6_apply, DcoreRefIdeal.Read.val_main_cst_1_apply, DcoreRefIdeal.Read.val_main_v11_apply, DcoreRefIdeal.Read.val_main_cst_2_apply,
    DcoreRefIdeal.Read.val_main_v5_apply, DcoreRefIdeal.Read.val_main_v1_apply, DcoreRefIdeal.Read.val_main_call0_v0_apply, DcoreRefIdeal.Read.val_main_call0_cst_apply,
    DcoreRefIdeal.Read.val_main_v2_apply, DcoreRefIdeal.Read.val_main_cst_apply]
  generalize DcoreRefIdeal.Read.val_main_v0 (F := Ideal) _ _ _ = p
  change EReal at p
  have e : (∑ k : Fin 1024, x3 (DcoreRefIdeal.Read.lidx_main_v9 (ix2 a b) k) * x2 (DcoreRefIdeal.Read.ridx_main_v9 (ix2 a b) k)) = ∑ q : Fin 1024, x3 (ix2 a q) * x2 (ix2 b q) := by
    refine Finset.sum_congr rfl fun q _ => congrArg₂ (fun x y : EReal => x * y) (congrArg x3 (funext fun d => ?_)) (congrArg x2 (funext fun d => ?_))
    · fin_cases d <;> rfl
    · fin_cases d <;> rfl
  rw [e]
  generalize (∑ q : Fin 1024, x3 (ix2 a q) * x2 (ix2 b q)) = S
  show Scalar.select (Ideal.cmp .ogt p (Ideal.ofBits .f32 0x00000000#32)) (S * (two * max p (Ideal.ofBits .f32 0x00000000#32))) (Ideal.ofBits .f32 0x00000000#32)
    = S * (two * Ideal.sqrt (max p (Ideal.ofBits .f32 0x00000000#32) * max p (Ideal.ofBits .f32 0x00000000#32)))
  rw [Ideal.ofBits_zero_f32, sqrt_sq, relu_grad S two p]
  show Scalar.select (BitVec.ofBool (decide (0 < p))) _ _ = _
  rw [Scalar.select_ofBool]
  simp only [decide_eq_true_eq]
  split_ifs <;> rfl

/-- The first output at a point, read at an index, is the reference's gradient at the pre-activation. -/
theorem dpre_apply (c : Dev nD) (t : Fin cfg0.N) (k : Fin 1024) (l : Fin 512) (h : t.val / 8 * 1024 + k.val < 4096) (h' : t.val % 8 * 512 + l.val < 4096) :
    (outsAt0 m c t.val t.isLt).1 (ix2 k l) = refPre m c (ix2 ⟨t.val / 8 * 1024 + k.val, h⟩ ⟨t.val % 8 * 512 + l.val, h'⟩) := by
  have h8 : t.val % 8 < 8 := Nat.mod_lt _ (by decide)
  have hD : ∀ q : Fin 1024, (iblk m c 0 t : Vec Ideal S1024x1024 .bf16) (ix2 k q) = (m (c.tc.loc main_arg3) : Vec Ideal S4096x1024 .f32) (ix2 ⟨t.val / 8 * 1024 + k.val, h⟩ q) := by
    intro q
    unfold iblk
    rw [entry_dff]
    exact blk0 _ t k q h
  have hW : ∀ q : Fin 1024, (iblk m c 3 t : Vec Ideal S1x512x1024 .bf16) (ix3 0 l q) = (m (c.tc.loc main_arg2) : Vec Ideal S4096x1024 .f32) (ix2 ⟨t.val % 8 * 512 + l.val, h'⟩ q) := by
    intro q
    unfold iblk
    exact (blk3 _ t l q h8).trans (entry_w2 m c ⟨t.val % 8, h8⟩ l q h')
  have hA : (iblk m c 1 t : Vec Ideal S1024x512 .bf16) (ix2 k l)
      = DcoreRefIdeal.Read.val_main_v5 (F := Ideal) (m (c.tc.loc main_arg0)) (m (c.tc.loc main_arg1)) (ix2 ⟨t.val / 8 * 1024 + k.val, h⟩ ⟨t.val % 8 * 512 + l.val, h'⟩) := by
    unfold iblk
    rw [entry_act]
    exact blk1 _ t k l h h'
  rw [out_dpre, pay2_apply]
  refine Eq.trans ?_ (refPre_apply _ _ _ _ _ _).symm
  refine congrArg₂ (fun x y : EReal => x * y) (Finset.sum_congr rfl fun q _ => congrArg₂ (fun x y : EReal => x * y) (hD q) (hW q)) (congrArg (fun y : EReal => two * Ideal.sqrt y) hA)

/-- The first output array is the reference's gradient at the pre-activation. -/
theorem value_dpre (c : Dev nD) : Value.G4 m c
    = DcoreRefIdeal.Read.val_main_v13 (F := Ideal) (m (c.tc.loc main_arg0)) (m (c.tc.loc main_arg1)) (m (c.tc.loc main_arg2)) (m (c.tc.loc main_arg3)) := by
  funext i
  rw [DcoreRefIdeal.Read.val_main_v13_apply]
  simp only [Ideal.truncf_def]
  have hN : cfg0.N = 32 := N_0
  have i0 := (i 0).isLt
  have i1 := (i 1).isLt
  change (i 0).val < 4096 at i0
  change (i 1).val < 4096 at i1
  have hp : Value.pt4Of i < cfg0.N := by
    show 8 * ((i 0).val / 1024 - 0) + 1 * ((i 1).val / 512 - 0) < cfg0.N
    omega
  have e8 : Value.pt4Of i / 8 = (i 0).val / 1024 := by
    show (8 * ((i 0).val / 1024 - 0) + 1 * ((i 1).val / 512 - 0)) / 8 = _
    omega
  have e8' : Value.pt4Of i % 8 = (i 1).val / 512 := by
    show (8 * ((i 0).val / 1024 - 0) + 1 * ((i 1).val / 512 - 0)) % 8 = _
    omega
  unfold Value.G4
  rw [dif_pos hp, ← Value.outsAt0_sweep m c (Value.pt4Of i) hp]
  have key := dpre_apply m c ⟨Value.pt4Of i, hp⟩ ⟨(i 0).val % 1024, Nat.mod_lt _ (by decide)⟩ ⟨(i 1).val % 512, Nat.mod_lt _ (by decide)⟩
    (by show Value.pt4Of i / 8 * 1024 + (i 0).val % 1024 < 4096; omega) (by show Value.pt4Of i % 8 * 512 + (i 1).val % 512 < 4096; omega)
  refine Eq.trans ?_ (key.trans (congrArg (refPre m c) (funext fun a => Fin.ext ?_)))
  · refine congrArg (outsAt0 m c (Value.pt4Of i) hp).1 (funext fun a => ?_)
    fin_cases a <;> rfl
  · fin_cases a
    · show Value.pt4Of i / 8 * 1024 + (i 0).val % 1024 = (i 0).val
      omega
    · show Value.pt4Of i % 8 * 512 + (i 1).val % 512 = (i 1).val
      omega

/-- The second output array is the reference's gradient at the layer's input. -/
theorem value_dh (c : Dev nD) : Value.G5 m c
    = DcoreRefIdeal.Read.val_main_v14 (F := Ideal) (m (c.tc.loc main_arg0)) (m (c.tc.loc main_arg1)) (m (c.tc.loc main_arg2)) (m (c.tc.loc main_arg3)) := by
  funext i
  rw [DcoreRefIdeal.Read.val_main_v14_apply]
  have hN : cfg0.N = 32 := N_0
  have i0 := (i 0).isLt
  have i1 := (i 1).isLt
  change (i 0).val < 4096 at i0
  change (i 1).val < 1024 at i1
  have hp : Value.pt5Of i < cfg0.N := by
    show 8 * Value.run5Of i + 7 < cfg0.N
    unfold Value.run5Of
    omega
  have e8 : Value.pt5Of i / 8 = (i 0).val / 1024 := by
    show (8 * Value.run5Of i + 7) / 8 = _
    unfold Value.run5Of
    omega
  have e8' : Value.pt5Of i % 8 = 7 := by
    show (8 * Value.run5Of i + 7) % 8 = _
    omega
  unfold Value.G5
  rw [dif_pos hp, ← Value.outsAt0_sweep m c (Value.pt5Of i) hp]
  refine (dh_sum m c ⟨Value.pt5Of i, hp⟩ e8' _).trans ?_
  unfold term
  refine Fin.sum_mul_add_congr fun s k hl => ?_
  have es : (8 * (Value.pt5Of i / 8) + s.val) / 8 = (i 0).val / 1024 := by omega
  have es' : (8 * (Value.pt5Of i / 8) + s.val) % 8 = s.val := by omega
  have hs : 8 * (Value.pt5Of i / 8) + s.val < cfg0.N := by omega
  refine congrArg₂ (fun x y : EReal => x * y) ?_ ?_
  · refine (dpre_apply m c ⟨8 * (Value.pt5Of i / 8) + s.val, hs⟩ ⟨(i 0).val % 1024, Nat.mod_lt _ (by decide)⟩ k
      (by show (8 * (Value.pt5Of i / 8) + s.val) / 8 * 1024 + (i 0).val % 1024 < 4096; omega)
      (by show (8 * (Value.pt5Of i / 8) + s.val) % 8 * 512 + k.val < 4096; omega)).trans (congrArg (refPre m c) (funext fun a => Fin.ext ?_))
    fin_cases a
    · show (8 * (Value.pt5Of i / 8) + s.val) / 8 * 1024 + (i 0).val % 1024 = (i 0).val
      omega
    · show (8 * (Value.pt5Of i / 8) + s.val) % 8 * 512 + k.val = s.val * 512 + k.val
      omega
  · unfold iblk
    refine (blk2 _ ⟨8 * (Value.pt5Of i / 8) + s.val, hs⟩ ⟨(i 1).val % 1024, Nat.mod_lt _ (by decide)⟩ k (Nat.mod_lt _ (by decide))).trans
      ((entry_w1 m c _ _ k (by show (8 * (Value.pt5Of i / 8) + s.val) % 8 * 512 + k.val < 4096; omega)).trans ?_)
    refine congrArg (m (c.tc.loc main_arg1)) (funext fun a => Fin.ext ?_)
    fin_cases a
    · show (i 1).val % 1024 = (i 1).val
      omega
    · show (8 * (Value.pt5Of i / 8) + s.val) % 8 * 512 + k.val = s.val * 512 + k.val
      omega

/-- The claim about this pass: both programs run from memories that agree on the arguments and end with the same two results. -/
theorem algebraic : algebraic_DcoreIdeal_DcoreRefIdeal := by
  intro m g m' g' _ h
  refine ⟨fun c => Value.G4 m c, fun c => Value.G5 m c, Value.run m g, ?_⟩
  refine (θ_run DcoreRefIdeal.defs _ _).mono (fun r hr c => ?_) (DcoreRefIdeal.Value.run (F := Ideal) m' g')
  refine ⟨(hr c).1.trans ?_, (hr c).2.1.trans ?_, (hr c).2.2⟩
  · refine Eq.trans ?_ (value_dpre m c).symm
    rw [← (h c).1, ← (h c).2.1, ← (h c).2.2.1, ← (h c).2.2.2]
    exact DcoreRefIdeal.Read.val_main_v13_eq _ _ _ _
  · refine Eq.trans ?_ (value_dh m c).symm
    rw [← (h c).1, ← (h c).2.1, ← (h c).2.2.1, ← (h c).2.2.2]
    exact DcoreRefIdeal.Read.val_main_v14_eq _ _ _ _

end Cert.DcoreIdeal.Val
end
-- ==== Proof.Dw1.lean ====
module

public import proofs.«01_k».proof.Defs
public import proofs.«01_k».proof.Proof.Gen.Dw1Ideal.Value
public import proofs.«01_k».proof.Proof.Gen.Dw1RefIdeal.Run
public import proofs.«01_k».proof.Proof.Gen.Dw1RefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Dw1Ideal.Val

open Cert.Dw1Ideal Cert.Dw1Ideal.Gen

variable (m : (ℓ : Loc nD τ sig) → Buf (Elt Ideal) ℓ)

/-- What a row block of `h` and a row block of `dpre` add to entry `(s, r, l)` of the weight gradient. -/
def term (a : Vec Ideal S1024x1024 .bf16) (b : Vec Ideal S1024x4096 .bf16) (j : S8x1024x512.Idx) : EReal :=
  ∑ k : Fin 1024, a (ix2 k (j 1)) * b (ix2 k ⟨512 * (j 0).val + (j 2).val, by
    have h0 : (j 0).val < 8 := (j 0).isLt; have h2 : (j 2).val < 512 := (j 2).isLt; omega⟩)

/-- One slab's payload at an index: what the slab held and the product of the two blocks there. -/
theorem pay_apply (A : Vec Ideal S1024x1024 .bf16) (B : Vec Ideal S1024x512 .bf16) (P : Vec Ideal S1x1024x512 .f32) (x : S1x1024x512.Idx) :
    k0_pay4 A B P x = P x + ∑ k : Fin 1024, A (ix2 k (x 1)) * B (ix2 k (x 2)) := by
  pointwise [k0_pay4]

/-- One slab's store, read at an index: what the slab held there and its product. -/
theorem slab_apply (s o : ℕ) (ho : o = 512 * s) (P : Vec Ideal S8x1024x512 .f32) (A : Vec Ideal S1024x1024 .bf16) (B : Vec Ideal S1024x4096 .bf16)
    (inb : ∀ a, (![s, 0, 0] : Fin 3 → ℕ) a + (![1, 1024, 512] : Fin 3 → ℕ) a ≤ S8x1024x512.size a)
    (inb' : ∀ a, (![0, o] : Fin 2 → ℕ) a + (![1024, 512] : Fin 2 → ℕ) a ≤ S1024x4096.size a)
    (x : S1x1024x512.Idx) (j : S8x1024x512.Idx) (h0 : (j 0).val = s + (x 0).val) (h1 : (j 1).val = (x 1).val) (h2 : (j 2).val = (x 2).val) :
    k0_pay4 A (View.ld B (Rect.unit (s := S1024x4096) ![0, o] ![1024, 512] inb'))
        (View.ld P (Rect.unit (s := S8x1024x512) ![s, 0, 0] ![1, 1024, 512] inb)) x =
      P j + term A B j := by
  have hx : (x 0).val = 0 := by have : (x 0).val < 1 := (x 0).isLt; omega
  rw [pay_apply]
  unfold term
  congr 1
  · refine congrArg P (funext fun a => Fin.ext ?_)
    fin_cases a
    · show s + 1 * (x 0).val = (j 0).val
      omega
    · exact (Nat.zero_add _).trans ((Nat.one_mul _).trans h1.symm)
    · exact (Nat.zero_add _).trans ((Nat.one_mul _).trans h2.symm)
  · refine Finset.sum_congr rfl fun k _ => ?_
    congr 1
    · refine congrArg A (funext fun a => Fin.ext ?_)
      fin_cases a
      · rfl
      · exact h1.symm
    · refine congrArg B (funext fun a => Fin.ext ?_)
      fin_cases a
      · exact (Nat.zero_add _).trans (Nat.one_mul _)
      · show o + 1 * (x 2).val = 512 * (j 0).val + (j 2).val
        omega

/-- At a point in the middle of the grid every slab of the accumulator takes its product on top of what it held. -/
theorem scr_B (c : Dev nD) (t : Fin cfg0.N) (h0 : ¬t.val % 4 = 0) (h1 : ¬t.val % 4 = 3) (j : S8x1024x512.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t h0 h1]
  dsimp only
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- At a last step of the sum the scratch gains the point's term. -/
theorem scr_C (c : Dev nD) (t : Fin cfg0.N) (h0 : ¬t.val % 4 = 0) (h1 : t.val % 4 = 3) (j : S8x1024x512.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- The narrowed accumulator, read back whole after the eight stores, is what they left. -/
theorem trunc_apply (v : View sig .tc .vmem S8x1024x512 .f32) (L : List (View.Piece (Elt Ideal) S8x1024x512 .f32)) (j : S8x1024x512.Idx) :
    k0_pay2 (F := Ideal) (v.readCov L (Rect.unit (s := S8x1024x512) ![0, 0, 0] ![8, 1024, 512] inb_S8x1024x512_S8x1024x512_0_0_0).toLoadRect) j
      = View.canon L j := by
  rw [View.readCov_eq_canon']
  unfold k0_pay2
  refine congrArg (View.canon L) (funext fun a => Fin.ext ?_)
  fin_cases a <;> exact (Nat.zero_add _).trans (Nat.one_mul _)

/-- At the last point the output is the accumulator, narrowed. -/
theorem out_C (c : Dev nD) (t : Fin cfg0.N) (h0 : ¬t.val % 4 = 0) (h1 : t.val % 4 = 3) (j : S8x1024x512.Idx) :
    (outsAt0 m c t.val t.isLt).1 j = (outsAt0 m c t.val t.isLt).2 j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  exact trunc_apply _ _ j

/-- At the first point the accumulator starts from zero and takes the first row block's product. -/
theorem scr_A (c : Dev nD) (t : Fin cfg0.N) (h0 : t.val % 4 = 0) (h1 : ¬t.val % 4 = 3) (j : S8x1024x512.Idx) :
    (outsAt0 m c t.val t.isLt).2 j = 0 + term (iblk m c 0 t) (iblk m c 1 t) j := by
  rw [outsAt0_A m c t h0 h1]
  dsimp only
  frame_open
  generalize iblk m c 0 t = A
  generalize iblk m c 1 t = B
  simp (disch := decide) only [↓ View.readCov_skip, ↓ View.readCov_cons_toLoadRect, ↓ View.readCov_fill]
  frame_out
  have hz : ∀ i, k0_pay3 (F := Ideal) i = 0 := fun i => by pointwise [k0_pay3]
  generalize k0_pay3 (F := Ideal) = Z at hz ⊢
  refine View.canon_append_of_piecesOf (Val := Elt Ideal) (s := S8x1024x512) (e := .f32) (fun j => (0 + term A B j : EReal)) [_] [_, _, _, _, _, _, _, _] ⟨?_, ?_, ?_, ?_, ?_, ?_, ?_, ?_, trivial⟩ j
    (View.cover_of_tiledL (s := S8x1024x512) _ S1x1024x512.size (by sl_kernel_rfl) j)
  all_goals intro x
  all_goals rw [← hz (Rect.emb _ x)]
  all_goals refine slab_apply _ _ (by decide) Z A B _ _ x _ ?_ ?_ ?_
  all_goals first
    | exact congrArg (_ + ·) (Nat.one_mul _)
    | exact (Nat.zero_add _).trans (Nat.one_mul _)

/-- Where each window's block lies. -/
theorem idx : ∀ t : Fin cfg0.N, win0_0.index t = ![t.val, 0] ∧ win0_1.index t = ![t.val, 0] :=
  (by decide +kernel : ∀ t : Fin grid0.N, _)

/-- The output array, read at an index: the sum over the four row blocks. -/
theorem G2_apply (c : Dev nD) (j : S8x1024x512.Idx) :
    Value.G2 m c j = ∑ t : Fin cfg0.N, term (iblk m c 0 t) (iblk m c 1 t) j := by
  have hN : cfg0.N = 4 := N_0
  have e1 : Value.G2 m c j = (outsAt0 m c t0_3.val t0_3.isLt).1 j := by
    rw [Value.G2_last, Value.outsAt0_sweep]; rfl
  rw [e1, out_C m c t0_3 (by decide) (by decide),
    Pipeline.eq_sum_fin_of_reset_step_apply_last (fun n h => (outsAt0 m c n h).2) 4 (fun _ => 0)
      (fun t j => term (iblk m c 0 t) (iblk m c 1 t) j)
      (fun t h j => scr_A m c t h (by omega) j)
      (fun t h j => by
        by_cases h3 : t.val % 4 = 3
        · exact scr_C m c t h h3 j
        · exact scr_B m c t h h3 j)
      (le_of_eq hN) t0_3 rfl j, zero_add]

end Cert.Dw1Ideal.Val

namespace Cert.Dw1.Val

/-- The weight gradient of the first MLP product: the kernel's slabs, summed over row blocks, are the reference's contraction over all rows. -/
theorem value (m : (ℓ : Loc Dw1Ideal.nD Dw1Ideal.τ Dw1Ideal.sig) → Buf (Elt Ideal) ℓ) (c : Dev Dw1Ideal.nD) :
    Dw1Ideal.Value.G2 m c = Dw1RefIdeal.Read.val_main_v6 (F := Ideal) (m (c.tc.loc Dw1Ideal.main_arg0)) (m (c.tc.loc Dw1Ideal.main_arg1)) := by
  funext j
  rw [Dw1Ideal.Val.G2_apply]
  rw [Dw1RefIdeal.Read.val_main_v6_apply, Dw1RefIdeal.Read.val_main_v5_apply, Dw1RefIdeal.Read.val_main_v4_apply,
    Dw1RefIdeal.Read.val_main_v3_apply, Dw1RefIdeal.Read.val_main_v2_apply]
  simp only [Ideal.truncf_def]
  unfold Dw1Ideal.Val.term
  idx_vars j
  refine Fin.sum_mul_add_congr fun t k hl => ?_
  rw [mul_comm]
  congr 1 <;> blk_ext [Dw1Ideal.Gen.iblk, Dw1Ideal.Gen.V, Dw1Ideal.Val.idx t]

/-- The claim about this product: both programs run from memories that agree on the arguments and end with the same result. -/
theorem algebraic : algebraic_Dw1Ideal_Dw1RefIdeal := by
  intro m g m' g' _ h
  refine ⟨fun c => Dw1Ideal.Value.G2 m c, Dw1Ideal.Value.run m g, ?_⟩
  refine (θ_run Dw1RefIdeal.defs _ _).mono (fun r hr c => ?_) (Dw1RefIdeal.Value.run (F := Ideal) m' g')
  refine ⟨(hr c).1.trans ?_, (hr c).2⟩
  refine Eq.trans ?_ (value m c).symm
  rw [← (h c).1, ← (h c).2]
  exact Dw1RefIdeal.Read.val_main_v6_eq _ _

end Cert.Dw1.Val
end
-- ==== Proof.Dw2.lean ====
module

public import proofs.«01_k».proof.Defs
public import proofs.«01_k».proof.Proof.Gen.Dw2Ideal.Value
public import proofs.«01_k».proof.Proof.Gen.Dw2RefIdeal.Run
public import proofs.«01_k».proof.Proof.Gen.Dw2RefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.Dw2Ideal.Val

open Cert.Dw2Ideal Cert.Dw2Ideal.Gen

variable (m : (ℓ : Loc nD τ sig) → Buf (Elt Ideal) ℓ)

/-- What a row block of `act` and a row block of `dff` add to entry `(s, r, l)` of the weight gradient. -/
def term (a : Vec Ideal S1024x4096 .bf16) (b : Vec Ideal S1024x1024 .bf16) (j : S8x512x1024.Idx) : EReal :=
  ∑ k : Fin 1024, a (ix2 k ⟨512 * (j 0).val + (j 1).val, by
    have h0 : (j 0).val < 8 := (j 0).isLt; have h1 : (j 1).val < 512 := (j 1).isLt; omega⟩) * b (ix2 k (j 2))

/-- One slab's payload at an index: what the slab held and the product of the two blocks there. -/
theorem pay_apply (A : Vec Ideal S1024x512 .bf16) (B : Vec Ideal S1024x1024 .bf16) (P : Vec Ideal S1x512x1024 .f32) (x : S1x512x1024.Idx) :
    k0_pay4 A B P x = P x + ∑ k : Fin 1024, A (ix2 k (x 1)) * B (ix2 k (x 2)) := by
  pointwise [k0_pay4]

/-- One slab's store, read at an index: what the slab held there and its product. -/
theorem slab_apply (s o : ℕ) (ho : o = 512 * s) (P : Vec Ideal S8x512x1024 .f32) (A : Vec Ideal S1024x4096 .bf16) (B : Vec Ideal S1024x1024 .bf16)
    (inb : ∀ a, (![s, 0, 0] : Fin 3 → ℕ) a + (![1, 512, 1024] : Fin 3 → ℕ) a ≤ S8x512x1024.size a)
    (inb' : ∀ a, (![0, o] : Fin 2 → ℕ) a + (![1024, 512] : Fin 2 → ℕ) a ≤ S1024x4096.size a)
    (x : S1x512x1024.Idx) (j : S8x512x1024.Idx) (h0 : (j 0).val = s + (x 0).val) (h1 : (j 1).val = (x 1).val) (h2 : (j 2).val = (x 2).val) :
    k0_pay4 (View.ld A (Rect.unit (s := S1024x4096) ![0, o] ![1024, 512] inb')) B
        (View.ld P (Rect.unit (s := S8x512x1024) ![s, 0, 0] ![1, 512, 1024] inb)) x =
      P j + term A B j := by
  have hx : (x 0).val = 0 := by have : (x 0).val < 1 := (x 0).isLt; omega
  rw [pay_apply]
  unfold term
  congr 1
  · refine congrArg P (funext fun a => Fin.ext ?_)
    fin_cases a
    · show s + 1 * (x 0).val = (j 0).val
      omega
    · exact (Nat.zero_add _).trans ((Nat.one_mul _).trans h1.symm)
    · exact (Nat.zero_add _).trans ((Nat.one_mul _).trans h2.symm)
  · refine Finset.sum_congr rfl fun k _ => ?_
    congr 1
    · refine congrArg A (funext fun a => Fin.ext ?_)
      fin_cases a
      · exact (Nat.zero_add _).trans (Nat.one_mul _)
      · show o + 1 * (x 1).val = 512 * (j 0).val + (j 1).val
        omega
    · refine congrArg B (funext fun a => Fin.ext ?_)
      fin_cases a
      · rfl
      · exact h2.symm

/-- At a point in the middle of the grid every slab of the accumulator takes its product on top of what it held. -/
theorem scr_B (c : Dev nD) (t : Fin cfg0.N) (h0 : ¬t.val % 4 = 0) (h1 : ¬t.val % 4 = 3) (j : S8x512x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t h0 h1]
  dsimp only
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- At a last step of the sum the scratch gains the point's term. -/
theorem scr_C (c : Dev nD) (t : Fin cfg0.N) (h0 : ¬t.val % 4 = 0) (h1 : t.val % 4 = 3) (j : S8x512x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- The narrowed accumulator, read back whole after the eight stores, is what they left. -/
theorem trunc_apply (v : View sig .tc .vmem S8x512x1024 .f32) (L : List (View.Piece (Elt Ideal) S8x512x1024 .f32)) (j : S8x512x1024.Idx) :
    k0_pay2 (F := Ideal) (v.readCov L (Rect.unit (s := S8x512x1024) ![0, 0, 0] ![8, 512, 1024] inb_S8x512x1024_S8x512x1024_0_0_0).toLoadRect) j
      = View.canon L j := by
  rw [View.readCov_eq_canon']
  unfold k0_pay2
  refine congrArg (View.canon L) (funext fun a => Fin.ext ?_)
  fin_cases a <;> exact (Nat.zero_add _).trans (Nat.one_mul _)

/-- At the last point the output is the accumulator, narrowed. -/
theorem out_C (c : Dev nD) (t : Fin cfg0.N) (h0 : ¬t.val % 4 = 0) (h1 : t.val % 4 = 3) (j : S8x512x1024.Idx) :
    (outsAt0 m c t.val t.isLt).1 j = (outsAt0 m c t.val t.isLt).2 j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  exact trunc_apply _ _ j

/-- At the first point the accumulator starts from zero and takes the first row block's product. -/
theorem scr_A (c : Dev nD) (t : Fin cfg0.N) (h0 : t.val % 4 = 0) (h1 : ¬t.val % 4 = 3) (j : S8x512x1024.Idx) :
    (outsAt0 m c t.val t.isLt).2 j = 0 + term (iblk m c 0 t) (iblk m c 1 t) j := by
  rw [outsAt0_A m c t h0 h1]
  dsimp only
  frame_open
  generalize iblk m c 0 t = A
  generalize iblk m c 1 t = B
  simp (disch := decide) only [↓ View.readCov_skip, ↓ View.readCov_cons_toLoadRect, ↓ View.readCov_fill]
  frame_out
  have hz : ∀ i, k0_pay3 (F := Ideal) i = 0 := fun i => by pointwise [k0_pay3]
  generalize k0_pay3 (F := Ideal) = Z at hz ⊢
  refine View.canon_append_of_piecesOf (Val := Elt Ideal) (s := S8x512x1024) (e := .f32) (fun j => (0 + term A B j : EReal)) [_] [_, _, _, _, _, _, _, _] ⟨?_, ?_, ?_, ?_, ?_, ?_, ?_, ?_, trivial⟩ j
    (View.cover_of_tiledL (s := S8x512x1024) _ S1x512x1024.size (by sl_kernel_rfl) j)
  all_goals intro x
  all_goals rw [← hz (Rect.emb _ x)]
  all_goals refine slab_apply _ _ (by decide) Z A B _ _ x _ ?_ ?_ ?_
  all_goals first
    | exact congrArg (_ + ·) (Nat.one_mul _)
    | exact (Nat.zero_add _).trans (Nat.one_mul _)

/-- Where each window's block lies. -/
theorem idx : ∀ t : Fin cfg0.N, win0_0.index t = ![t.val, 0] ∧ win0_1.index t = ![t.val, 0] :=
  (by decide +kernel : ∀ t : Fin grid0.N, _)

/-- The output array, read at an index: the sum over the four row blocks. -/
theorem G2_apply (c : Dev nD) (j : S8x512x1024.Idx) :
    Value.G2 m c j = ∑ t : Fin cfg0.N, term (iblk m c 0 t) (iblk m c 1 t) j := by
  have hN : cfg0.N = 4 := N_0
  have e1 : Value.G2 m c j = (outsAt0 m c t0_3.val t0_3.isLt).1 j := by
    rw [Value.G2_last, Value.outsAt0_sweep]; rfl
  rw [e1, out_C m c t0_3 (by decide) (by decide),
    Pipeline.eq_sum_fin_of_reset_step_apply_last (fun n h => (outsAt0 m c n h).2) 4 (fun _ => 0)
      (fun t j => term (iblk m c 0 t) (iblk m c 1 t) j)
      (fun t h j => scr_A m c t h (by omega) j)
      (fun t h j => by
        by_cases h3 : t.val % 4 = 3
        · exact scr_C m c t h h3 j
        · exact scr_B m c t h h3 j)
      (le_of_eq hN) t0_3 rfl j, zero_add]

end Cert.Dw2Ideal.Val

namespace Cert.Dw2.Val

/-- A block of the first window, read at an index. -/
theorem blk0 (X : Vec Ideal Dw2Ideal.S4096x4096 .bf16) (t : Fin Dw2Ideal.cfg0.N) (k : Fin 1024) (l : Fin 4096) (h : t.val * 1024 + k.val < 4096) :
    ((Dw2Ideal.cfg0.win 0).blk t).view.read (Elt Ideal) X (ix2 k l) = X (ix2 ⟨t.val * 1024 + k.val, h⟩ l) := by
  blk_ext [Dw2Ideal.Val.idx t]

/-- The activations the host part of the kernel prepares are the reference's. -/
theorem entry_act (m : (ℓ : Loc Dw2Ideal.nD Dw2Ideal.τ Dw2Ideal.sig) → Buf (Elt Ideal) ℓ) (c : Dev Dw2Ideal.nD) :
    Dw2Ideal.Gen.V m c (Pipeline.arrRef Dw2Ideal.spec0 0)
      = Dw2RefIdeal.Read.val_main_v3 (F := Ideal) (m (c.tc.loc Dw2Ideal.main_arg0)) (m (c.tc.loc Dw2Ideal.main_arg1)) := by
  show Dw2Ideal.Gen.V m c Dw2Ideal.main_v3 = _
  unfold Dw2Ideal.Gen.V
  simp only [Dw2Ideal.Gen.hostOps0, Dw2Ideal.Gen.hostOps0_1, Dw2Ideal.Gen.hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- A block of the second window, read at an index. -/
theorem blk1 (X : Vec Ideal Dw2Ideal.S4096x1024 .bf16) (t : Fin Dw2Ideal.cfg0.N) (k : Fin 1024) (l : Fin 1024) (h : t.val * 1024 + k.val < 4096) :
    ((Dw2Ideal.cfg0.win 1).blk t).view.read (Elt Ideal) X (ix2 k l) = X (ix2 ⟨t.val * 1024 + k.val, h⟩ l) := by
  blk_ext [Dw2Ideal.Val.idx t]

/-- The cotangent the host part of the kernel prepares is the argument. -/
theorem entry_dff (m : (ℓ : Loc Dw2Ideal.nD Dw2Ideal.τ Dw2Ideal.sig) → Buf (Elt Ideal) ℓ) (c : Dev Dw2Ideal.nD) :
    Dw2Ideal.Gen.V m c (Pipeline.arrRef Dw2Ideal.spec0 1) = m (c.tc.loc Dw2Ideal.main_arg2) := by
  show Dw2Ideal.Gen.V m c Dw2Ideal.main_v4 = _
  unfold Dw2Ideal.Gen.V
  simp only [Dw2Ideal.Gen.hostOps0, Dw2Ideal.Gen.hostOps0_1, Dw2Ideal.Gen.hostOps0_2, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- The weight gradient of the second MLP product: the kernel's slabs, summed over row blocks, are the reference's contraction over all rows. -/
theorem value (m : (ℓ : Loc Dw2Ideal.nD Dw2Ideal.τ Dw2Ideal.sig) → Buf (Elt Ideal) ℓ) (c : Dev Dw2Ideal.nD) :
    Dw2Ideal.Value.G2 m c = Dw2RefIdeal.Read.val_main_v8 (F := Ideal) (m (c.tc.loc Dw2Ideal.main_arg0)) (m (c.tc.loc Dw2Ideal.main_arg1)) (m (c.tc.loc Dw2Ideal.main_arg2)) := by
  funext j
  rw [Dw2Ideal.Val.G2_apply]
  rw [Dw2RefIdeal.Read.val_main_v8_apply, Dw2RefIdeal.Read.val_main_v7_apply, Dw2RefIdeal.Read.val_main_v6_apply,
    Dw2RefIdeal.Read.val_main_v5_apply]
  simp only [Ideal.truncf_def]
  unfold Dw2Ideal.Val.term
  idx_vars j
  refine Fin.sum_mul_add_congr fun t k hl => ?_
  refine (mul_comm _ _).trans (congrArg₂ (fun x y : EReal => x * y) ?_ ?_)
  · unfold Dw2Ideal.Gen.iblk
    rw [entry_dff m c]
    generalize m (c.tc.loc Dw2Ideal.main_arg2) = X
    refine (blk1 X t k j2 hl).trans (congrArg X (funext fun a => Fin.ext ?_))
    have h2 := j2.isLt
    fin_cases a
    · rfl
    · show j2.val = ((j0.val * 512 + j1.val) * 1024 + j2.val) % 1024
      omega
  · unfold Dw2Ideal.Gen.iblk
    rw [entry_act m c]
    generalize Dw2RefIdeal.Read.val_main_v3 (F := Ideal) _ _ = X
    refine (blk0 X t k _ hl).trans (congrArg X (funext fun a => Fin.ext ?_))
    have h2 := j2.isLt
    fin_cases a
    · rfl
    · show 512 * j0.val + j1.val = ((j0.val * 512 + j1.val) * 1024 + j2.val) / 1024
      omega

/-- The claim about this product: both programs run from memories that agree on the arguments and end with the same result. -/
theorem algebraic : algebraic_Dw2Ideal_Dw2RefIdeal := by
  intro m g m' g' _ h
  refine ⟨fun c => Dw2Ideal.Value.G2 m c, Dw2Ideal.Value.run m g, ?_⟩
  refine (θ_run Dw2RefIdeal.defs _ _).mono (fun r hr c => ?_) (Dw2RefIdeal.Value.run (F := Ideal) m' g')
  refine ⟨(hr c).1.trans ?_, (hr c).2⟩
  refine Eq.trans ?_ (value m c).symm
  rw [← (h c).1, ← (h c).2.1, ← (h c).2.2]
  exact Dw2RefIdeal.Read.val_main_v8_eq _ _ _

end Cert.Dw2.Val
end
-- ==== Proof.KvDw.lean ====
module

public import proofs.«01_k».proof.Defs
public import proofs.«01_k».proof.Proof.Gen.KvDw.Frame
public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.KvDwIdeal.Val

open Cert.KvDwIdeal Cert.KvDwIdeal.Gen

variable (m : (ℓ : Loc nD τ sig) → Buf (Elt Ideal) ℓ)

/-- What a row block of the input and a row block of the cotangent add to entry `(s, r, l)` of the weight gradient. -/
def term (a : Vec Ideal S1024x1024 .bf16) (b : Vec Ideal S1024x2048 .bf16) (j : S8x1024x256.Idx) : EReal :=
  ∑ k : Fin 1024, a (ix2 k (j 1)) * b (ix2 k ⟨256 * (j 0).val + (j 2).val, by
    have h0 : (j 0).val < 8 := (j 0).isLt; have h2 : (j 2).val < 256 := (j 2).isLt; omega⟩)

/-- One slab's payload at an index: what the slab held and the product of the two blocks there. -/
theorem pay_apply (A : Vec Ideal S1024x1024 .bf16) (B : Vec Ideal S1024x256 .bf16) (P : Vec Ideal S1x1024x256 .f32) (x : S1x1024x256.Idx) :
    k0_pay4 A B P x = P x + ∑ k : Fin 1024, A (ix2 k (x 1)) * B (ix2 k (x 2)) := by
  pointwise [k0_pay4]

/-- One slab's store, read at an index: what the slab held there and its product. -/
theorem slab_apply (s o : ℕ) (ho : o = 256 * s) (P : Vec Ideal S8x1024x256 .f32) (A : Vec Ideal S1024x1024 .bf16) (B : Vec Ideal S1024x2048 .bf16)
    (inb : ∀ a, (![s, 0, 0] : Fin 3 → ℕ) a + (![1, 1024, 256] : Fin 3 → ℕ) a ≤ S8x1024x256.size a)
    (inb' : ∀ a, (![0, o] : Fin 2 → ℕ) a + (![1024, 256] : Fin 2 → ℕ) a ≤ S1024x2048.size a)
    (x : S1x1024x256.Idx) (j : S8x1024x256.Idx) (h0 : (j 0).val = s + (x 0).val) (h1 : (j 1).val = (x 1).val) (h2 : (j 2).val = (x 2).val) :
    k0_pay4 A (View.ld B (Rect.unit (s := S1024x2048) ![0, o] ![1024, 256] inb'))
        (View.ld P (Rect.unit (s := S8x1024x256) ![s, 0, 0] ![1, 1024, 256] inb)) x =
      P j + term A B j := by
  have hx : (x 0).val = 0 := by have : (x 0).val < 1 := (x 0).isLt; omega
  rw [pay_apply]
  unfold term
  congr 1
  · refine congrArg P (funext fun a => Fin.ext ?_)
    fin_cases a
    · show s + 1 * (x 0).val = (j 0).val
      omega
    · exact (Nat.zero_add _).trans ((Nat.one_mul _).trans h1.symm)
    · exact (Nat.zero_add _).trans ((Nat.one_mul _).trans h2.symm)
  · refine Finset.sum_congr rfl fun k _ => ?_
    congr 1
    · refine congrArg A (funext fun a => Fin.ext ?_)
      fin_cases a
      · rfl
      · exact h1.symm
    · refine congrArg B (funext fun a => Fin.ext ?_)
      fin_cases a
      · exact (Nat.zero_add _).trans (Nat.one_mul _)
      · show o + 1 * (x 2).val = 256 * (j 0).val + (j 2).val
        omega

/-- At a point in the middle of the grid every slab of the accumulator takes its product on top of what it held. -/
theorem scr_B (c : Dev nD) (t : Fin cfg0.N) (h0 : ¬t.val % 4 = 0) (h1 : ¬t.val % 4 = 3) (j : S8x1024x256.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t h0 h1]
  dsimp only
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- At a last step of the sum the scratch gains the point's term. -/
theorem scr_C (c : Dev nD) (t : Fin cfg0.N) (h0 : ¬t.val % 4 = 0) (h1 : t.val % 4 = 3) (j : S8x1024x256.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- The narrowed accumulator, read back whole after the eight stores, is what they left. -/
theorem trunc_apply (v : View sig .tc .vmem S8x1024x256 .f32) (L : List (View.Piece (Elt Ideal) S8x1024x256 .f32)) (j : S8x1024x256.Idx) :
    k0_pay2 (F := Ideal) (v.readCov L (Rect.unit (s := S8x1024x256) ![0, 0, 0] ![8, 1024, 256] inb_S8x1024x256_S8x1024x256_0_0_0).toLoadRect) j
      = View.canon L j := by
  rw [View.readCov_eq_canon']
  unfold k0_pay2
  refine congrArg (View.canon L) (funext fun a => Fin.ext ?_)
  fin_cases a <;> exact (Nat.zero_add _).trans (Nat.one_mul _)

/-- At the last point the output is the accumulator, narrowed. -/
theorem out_C (c : Dev nD) (t : Fin cfg0.N) (h0 : ¬t.val % 4 = 0) (h1 : t.val % 4 = 3) (j : S8x1024x256.Idx) :
    (outsAt0 m c t.val t.isLt).1 j = (outsAt0 m c t.val t.isLt).2 j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  exact trunc_apply _ _ j

/-- At the first point the accumulator starts from zero and takes the first row block's product. -/
theorem scr_A (c : Dev nD) (t : Fin cfg0.N) (h0 : t.val % 4 = 0) (h1 : ¬t.val % 4 = 3) (j : S8x1024x256.Idx) :
    (outsAt0 m c t.val t.isLt).2 j = 0 + term (iblk m c 0 t) (iblk m c 1 t) j := by
  rw [outsAt0_A m c t h0 h1]
  dsimp only
  frame_open
  generalize iblk m c 0 t = A
  generalize iblk m c 1 t = B
  simp (disch := decide) only [↓ View.readCov_skip, ↓ View.readCov_cons_toLoadRect, ↓ View.readCov_fill]
  frame_out
  have hz : ∀ i, k0_pay3 (F := Ideal) i = 0 := fun i => by pointwise [k0_pay3]
  generalize k0_pay3 (F := Ideal) = Z at hz ⊢
  refine View.canon_append_of_piecesOf (Val := Elt Ideal) (s := S8x1024x256) (e := .f32) (fun j => (0 + term A B j : EReal)) [_] [_, _, _, _, _, _, _, _] ⟨?_, ?_, ?_, ?_, ?_, ?_, ?_, ?_, trivial⟩ j
    (View.cover_of_tiledL (s := S8x1024x256) _ S1x1024x256.size (by sl_kernel_rfl) j)
  all_goals intro x
  all_goals rw [← hz (Rect.emb _ x)]
  all_goals refine slab_apply _ _ (by decide) Z A B _ _ x _ ?_ ?_ ?_
  all_goals first
    | exact congrArg (_ + ·) (Nat.one_mul _)
    | exact (Nat.zero_add _).trans (Nat.one_mul _)

/-- Where each window's block lies. -/
theorem idx : ∀ t : Fin cfg0.N, win0_0.index t = ![t.val, 0] ∧ win0_1.index t = ![t.val, 0] :=
  (by decide +kernel : ∀ t : Fin grid0.N, _)

/-- The output array, read at an index: the sum over the four row blocks. -/
theorem G2_apply (c : Dev nD) (j : S8x1024x256.Idx) :
    Value.G2 m c j = ∑ t : Fin cfg0.N, term (iblk m c 0 t) (iblk m c 1 t) j := by
  have hN : cfg0.N = 4 := N_0
  have e1 : Value.G2 m c j = (outsAt0 m c t0_3.val t0_3.isLt).1 j := by
    rw [Value.G2_last, Value.outsAt0_sweep]; rfl
  rw [e1, out_C m c t0_3 (by decide) (by decide),
    Pipeline.eq_sum_fin_of_reset_step_apply_last (fun n h => (outsAt0 m c n h).2) 4 (fun _ => 0)
      (fun t j => term (iblk m c 0 t) (iblk m c 1 t) j)
      (fun t h j => scr_A m c t h (by omega) j)
      (fun t h j => by
        by_cases h3 : t.val % 4 = 3
        · exact scr_C m c t h h3 j
        · exact scr_B m c t h h3 j)
      (le_of_eq hN) t0_3 rfl j, zero_add]

end Cert.KvDwIdeal.Val

namespace Cert.KvDw.Val

/-- The weight gradient of a projection held in column slabs: the kernel's slabs, summed over row blocks, are the reference's contraction over all rows. -/
theorem value (m : (ℓ : Loc KvDwIdeal.nD KvDwIdeal.τ KvDwIdeal.sig) → Buf (Elt Ideal) ℓ) (c : Dev KvDwIdeal.nD) :
    KvDwIdeal.Value.G2 m c = KvDwRefIdeal.Read.val_main_v6 (F := Ideal) (m (c.tc.loc KvDwIdeal.main_arg0)) (m (c.tc.loc KvDwIdeal.main_arg1)) := by
  funext j
  rw [KvDwIdeal.Val.G2_apply]
  rw [KvDwRefIdeal.Read.val_main_v6_apply, KvDwRefIdeal.Read.val_main_v5_apply, KvDwRefIdeal.Read.val_main_v4_apply,
    KvDwRefIdeal.Read.val_main_v3_apply, KvDwRefIdeal.Read.val_main_v2_apply]
  simp only [Ideal.truncf_def]
  unfold KvDwIdeal.Val.term
  idx_vars j
  refine Fin.sum_mul_add_congr fun t k hl => ?_
  rw [mul_comm]
  congr 1 <;> blk_ext [KvDwIdeal.Gen.iblk, KvDwIdeal.Gen.V, KvDwIdeal.Val.idx t]

/-- The claim about this product: both programs run from memories that agree on the arguments and end with the same result. -/
theorem algebraic : algebraic_KvDwIdeal_KvDwRefIdeal := by
  intro m g m' g' _ h
  refine ⟨fun c => KvDwIdeal.Value.G2 m c, KvDwIdeal.Value.run m g, ?_⟩
  refine (θ_run KvDwRefIdeal.defs _ _).mono (fun r hr c => ?_) (KvDwRefIdeal.Value.run (F := Ideal) m' g')
  refine ⟨(hr c).1.trans ?_, (hr c).2⟩
  refine Eq.trans ?_ (value m c).symm
  rw [← (h c).1, ← (h c).2]
  exact KvDwRefIdeal.Read.val_main_v6_eq _ _

end Cert.KvDw.Val
end
-- ==== Proof.OqDw.lean ====
module

public import proofs.«01_k».proof.Defs
public import proofs.«01_k».proof.Proof.Gen.OqDw.Frame
public import proofs.«01_k».proof.Proof.Gen.OqDwIdeal.Value
public import proofs.«01_k».proof.Proof.Gen.OqDwRefIdeal.Run
public import proofs.«01_k».proof.Proof.Gen.OqDwRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.OqDwIdeal.Val

open Cert.OqDwIdeal Cert.OqDwIdeal.Gen

variable (m : (ℓ : Loc nD τ sig) → Buf (Elt Ideal) ℓ)

/-- What a row block of the input and a row block of the cotangent add to entry `(s, r, l)` of the weight gradient. -/
def term (a : Vec Ideal S1024x1024 .bf16) (b : Vec Ideal S1024x1024 .bf16) (j : S8x128x1024.Idx) : EReal :=
  ∑ k : Fin 1024, a (ix2 k ⟨128 * (j 0).val + (j 1).val, by
    have h0 : (j 0).val < 8 := (j 0).isLt; have h1 : (j 1).val < 128 := (j 1).isLt; omega⟩) * b (ix2 k (j 2))

/-- One slab's payload at an index: what the slab held and the product of the two blocks there. -/
theorem pay_apply (A : Vec Ideal S1024x128 .bf16) (B : Vec Ideal S1024x1024 .bf16) (P : Vec Ideal S1x128x1024 .f32) (x : S1x128x1024.Idx) :
    k0_pay4 A B P x = P x + ∑ k : Fin 1024, A (ix2 k (x 1)) * B (ix2 k (x 2)) := by
  pointwise [k0_pay4]

/-- One slab's store, read at an index: what the slab held there and its product. -/
theorem slab_apply (s o : ℕ) (ho : o = 128 * s) (P : Vec Ideal S8x128x1024 .f32) (A : Vec Ideal S1024x1024 .bf16) (B : Vec Ideal S1024x1024 .bf16)
    (inb : ∀ a, (![s, 0, 0] : Fin 3 → ℕ) a + (![1, 128, 1024] : Fin 3 → ℕ) a ≤ S8x128x1024.size a)
    (inb' : ∀ a, (![0, o] : Fin 2 → ℕ) a + (![1024, 128] : Fin 2 → ℕ) a ≤ S1024x1024.size a)
    (x : S1x128x1024.Idx) (j : S8x128x1024.Idx) (h0 : (j 0).val = s + (x 0).val) (h1 : (j 1).val = (x 1).val) (h2 : (j 2).val = (x 2).val) :
    k0_pay4 (View.ld A (Rect.unit (s := S1024x1024) ![0, o] ![1024, 128] inb')) B
        (View.ld P (Rect.unit (s := S8x128x1024) ![s, 0, 0] ![1, 128, 1024] inb)) x =
      P j + term A B j := by
  have hx : (x 0).val = 0 := by have : (x 0).val < 1 := (x 0).isLt; omega
  rw [pay_apply]
  unfold term
  congr 1
  · refine congrArg P (funext fun a => Fin.ext ?_)
    fin_cases a
    · show s + 1 * (x 0).val = (j 0).val
      omega
    · exact (Nat.zero_add _).trans ((Nat.one_mul _).trans h1.symm)
    · exact (Nat.zero_add _).trans ((Nat.one_mul _).trans h2.symm)
  · refine Finset.sum_congr rfl fun k _ => ?_
    congr 1
    · refine congrArg A (funext fun a => Fin.ext ?_)
      fin_cases a
      · exact (Nat.zero_add _).trans (Nat.one_mul _)
      · show o + 1 * (x 1).val = 128 * (j 0).val + (j 1).val
        omega
    · refine congrArg B (funext fun a => Fin.ext ?_)
      fin_cases a
      · rfl
      · exact h2.symm

/-- At a point in the middle of the grid every slab of the accumulator takes its product on top of what it held. -/
theorem scr_B (c : Dev nD) (t : Fin cfg0.N) (h0 : ¬t.val % 4 = 0) (h1 : ¬t.val % 4 = 3) (j : S8x128x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_B m c t h0 h1]
  dsimp only
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- At a last step of the sum the scratch gains the point's term. -/
theorem scr_C (c : Dev nD) (t : Fin cfg0.N) (h0 : ¬t.val % 4 = 0) (h1 : t.val % 4 = 3) (j : S8x128x1024.Idx) :
    (outsAt0 m c t.val t.isLt).2 j
      = (outsAt0 m c (t.val - 1) (Nat.lt_of_le_of_lt (Nat.sub_le _ _) t.isLt)).2 j + term (iblk m c 0 t) (iblk m c 1 t) j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  simp only [read_unread_whole]
  idx_vars j
  canon_tiles x h
  all_goals refine slab_apply _ _ (by decide) P A B _ _ x _ ?_ ?_ ?_ <;> omega

/-- The narrowed accumulator, read back whole after the eight stores, is what they left. -/
theorem trunc_apply (v : View sig .tc .vmem S8x128x1024 .f32) (L : List (View.Piece (Elt Ideal) S8x128x1024 .f32)) (j : S8x128x1024.Idx) :
    k0_pay2 (F := Ideal) (v.readCov L (Rect.unit (s := S8x128x1024) ![0, 0, 0] ![8, 128, 1024] inb_S8x128x1024_S8x128x1024_0_0_0).toLoadRect) j
      = View.canon L j := by
  rw [View.readCov_eq_canon']
  unfold k0_pay2
  refine congrArg (View.canon L) (funext fun a => Fin.ext ?_)
  fin_cases a <;> exact (Nat.zero_add _).trans (Nat.one_mul _)

/-- At the last point the output is the accumulator, narrowed. -/
theorem out_C (c : Dev nD) (t : Fin cfg0.N) (h0 : ¬t.val % 4 = 0) (h1 : t.val % 4 = 3) (j : S8x128x1024.Idx) :
    (outsAt0 m c t.val t.isLt).1 j = (outsAt0 m c t.val t.isLt).2 j := by
  rw [outsAt0_C m c t h0 h1]
  dsimp only
  frame_open
  generalize (outsAt0 m c (t.val - 1) (Nat.lt_of_le_of_lt (Nat.sub_le _ _) t.isLt)).2 = P
  generalize iblk m c 0 t = A
  generalize iblk m c 1 t = B
  frame_out
  exact trunc_apply _ _ j

/-- At the first point the accumulator starts from zero and takes the first row block's product. -/
theorem scr_A (c : Dev nD) (t : Fin cfg0.N) (h0 : t.val % 4 = 0) (h1 : ¬t.val % 4 = 3) (j : S8x128x1024.Idx) :
    (outsAt0 m c t.val t.isLt).2 j = 0 + term (iblk m c 0 t) (iblk m c 1 t) j := by
  rw [outsAt0_A m c t h0 h1]
  dsimp only
  frame_open
  generalize iblk m c 0 t = A
  generalize iblk m c 1 t = B
  simp (disch := decide) only [↓ View.readCov_skip, ↓ View.readCov_cons_toLoadRect, ↓ View.readCov_fill]
  frame_out
  have hz : ∀ i, k0_pay3 (F := Ideal) i = 0 := fun i => by pointwise [k0_pay3]
  generalize k0_pay3 (F := Ideal) = Z at hz ⊢
  refine View.canon_append_of_piecesOf (Val := Elt Ideal) (s := S8x128x1024) (e := .f32) (fun j => (0 + term A B j : EReal)) [_] [_, _, _, _, _, _, _, _] ⟨?_, ?_, ?_, ?_, ?_, ?_, ?_, ?_, trivial⟩ j
    (View.cover_of_tiledL (s := S8x128x1024) _ S1x128x1024.size (by sl_kernel_rfl) j)
  all_goals intro x
  all_goals rw [← hz (Rect.emb _ x)]
  all_goals refine slab_apply _ _ (by decide) Z A B _ _ x _ ?_ ?_ ?_
  all_goals first
    | exact congrArg (_ + ·) (Nat.one_mul _)
    | exact (Nat.zero_add _).trans (Nat.one_mul _)

/-- Where each window's block lies. -/
theorem idx : ∀ t : Fin cfg0.N, win0_0.index t = ![t.val, 0] ∧ win0_1.index t = ![t.val, 0] :=
  (by decide +kernel : ∀ t : Fin grid0.N, _)

/-- The output array, read at an index: the sum over the four row blocks. -/
theorem G2_apply (c : Dev nD) (j : S8x128x1024.Idx) :
    Value.G2 m c j = ∑ t : Fin cfg0.N, term (iblk m c 0 t) (iblk m c 1 t) j := by
  have hN : cfg0.N = 4 := N_0
  have e1 : Value.G2 m c j = (outsAt0 m c t0_3.val t0_3.isLt).1 j := by
    rw [Value.G2_last, Value.outsAt0_sweep]; rfl
  rw [e1, out_C m c t0_3 (by decide) (by decide),
    Pipeline.eq_sum_fin_of_reset_step_apply_last (fun n h => (outsAt0 m c n h).2) 4 (fun _ => 0)
      (fun t j => term (iblk m c 0 t) (iblk m c 1 t) j)
      (fun t h j => scr_A m c t h (by omega) j)
      (fun t h j => by
        by_cases h3 : t.val % 4 = 3
        · exact scr_C m c t h h3 j
        · exact scr_B m c t h h3 j)
      (le_of_eq hN) t0_3 rfl j, zero_add]

end Cert.OqDwIdeal.Val

namespace Cert.OqDw.Val

/-- The weight gradient of a projection held in row slabs: the kernel's slabs, summed over row blocks, are the reference's contraction over all rows. -/
theorem value (m : (ℓ : Loc OqDwIdeal.nD OqDwIdeal.τ OqDwIdeal.sig) → Buf (Elt Ideal) ℓ) (c : Dev OqDwIdeal.nD) :
    OqDwIdeal.Value.G2 m c = OqDwRefIdeal.Read.val_main_v5 (F := Ideal) (m (c.tc.loc OqDwIdeal.main_arg0)) (m (c.tc.loc OqDwIdeal.main_arg1)) := by
  funext j
  rw [OqDwIdeal.Val.G2_apply]
  rw [OqDwRefIdeal.Read.val_main_v5_apply, OqDwRefIdeal.Read.val_main_v4_apply, OqDwRefIdeal.Read.val_main_v3_apply, OqDwRefIdeal.Read.val_main_v2_apply]
  simp only [Ideal.truncf_def]
  unfold OqDwIdeal.Val.term
  idx_vars j
  refine Fin.sum_mul_add_congr fun t k hl => ?_
  rw [mul_comm]
  congr 1 <;> blk_ext [OqDwIdeal.Gen.iblk, OqDwIdeal.Gen.V, OqDwIdeal.Val.idx t]

/-- The claim about this product: both programs run from memories that agree on the arguments and end with the same result. -/
theorem algebraic : algebraic_OqDwIdeal_OqDwRefIdeal := by
  intro m g m' g' _ h
  refine ⟨fun c => OqDwIdeal.Value.G2 m c, OqDwIdeal.Value.run m g, ?_⟩
  refine (θ_run OqDwRefIdeal.defs _ _).mono (fun r hr c => ?_) (OqDwRefIdeal.Value.run (F := Ideal) m' g')
  refine ⟨(hr c).1.trans ?_, (hr c).2⟩
  refine Eq.trans ?_ (value m c).symm
  rw [← (h c).1, ← (h c).2]
  exact OqDwRefIdeal.Read.val_main_v5_eq _ _

end Cert.OqDw.Val
end
-- ==== Proof.OqDx.lean ====
module

public import proofs.«01_k».proof.Defs
public import proofs.«01_k».proof.Proof.Gen.OqDx.Frame
public import proofs.«01_k».proof.Proof.Gen.OqDxIdeal.Value
public import proofs.«01_k».proof.Proof.Gen.OqDxRefIdeal.Run
public import proofs.«01_k».proof.Proof.Gen.OqDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.OqDxIdeal.Val

open Cert.OqDxIdeal Cert.OqDxIdeal.Gen

variable (m : (ℓ : Loc nD τ sig) → Buf (Elt Ideal) ℓ)

/-- The payload at an index: a row of the cotangent times a row of the weight. -/
theorem pay_apply (A : Vec Ideal S2048x1024 .bf16) (W : Vec Ideal S1x1024x1024 .bf16) (x : S2048x1024.Idx) :
    k0_pay1 A W x = ∑ q : Fin 1024, A (ix2 (x 0) q) * W (ix3 0 (x 1) q) := by
  pointwise [k0_pay1]

/-- Where each window's block lies. -/
theorem idx : ∀ t : Fin cfg0.N, win0_0.index t = ![t.val, 0] ∧ win0_1.index t = ![0, 0, 0] ∧ win0_2.index t = ![t.val, 0] :=
  (by decide +kernel : ∀ t : Fin grid0.N, _)

/-- A block of the cotangent, read at an index. -/
theorem blk0 (X : Vec Ideal S4096x1024 .bf16) (t : Fin cfg0.N) (k : Fin 2048) (l : Fin 1024) (h : t.val * 2048 + k.val < 4096) :
    ((cfg0.win 0).blk t).view.read (Elt Ideal) X (ix2 k l) = X (ix2 ⟨t.val * 2048 + k.val, h⟩ l) := by
  blk_ext [idx t]

/-- The weight's one block, read at an index. -/
theorem blk1 (X : Vec Ideal S1x1024x1024 .bf16) (t : Fin cfg0.N) (k : Fin 1024) (l : Fin 1024) :
    ((cfg0.win 1).blk t).view.read (Elt Ideal) X (ix3 0 k l) = X (ix3 0 k l) := by
  blk_ext [idx t]

/-- Where an entry of an output block lies in the output array. -/
theorem emb2 (X : Vec Ideal S4096x1024 .f32) (t : Fin cfg0.N) (k : Fin 2048) (l : Fin 1024) (h : t.val * 2048 + k.val < 4096) :
    ((cfg0.win 2).blk t).view.read (Elt Ideal) X (ix2 k l) = X (ix2 ⟨t.val * 2048 + k.val, h⟩ l) := by
  blk_ext [idx t]

/-- The cotangent the host part of the kernel prepares is the argument. -/
theorem entry_d (c : Dev nD) : V m c (Pipeline.arrRef spec0 0) = m (c.tc.loc main_arg1) := by
  show V m c main_v0 = _
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- A matrix under a leading axis of length one, read at an index. -/
theorem lead_apply (X : Vec Ideal S1024x1024 .f32) (k l : Fin 1024) :
    (truncf (F := Ideal) (φ := .f32) .bf16 (shapeCast S1x1024x1024 X shapeCasts_S1024x1024_S1x1024x1024) bitsLt_bf16_f32 : Vec Ideal S1x1024x1024 .bf16) (ix3 0 k l)
      = X (ix2 k l) := by
  pointwise

/-- The weight the host part of the kernel prepares, read at an index. -/
theorem entry_w (c : Dev nD) (k l : Fin 1024) :
    (V m c (Pipeline.arrRef spec0 1) : Vec Ideal S1x1024x1024 .bf16) (ix3 0 k l) = (m (c.tc.loc main_arg0) : Vec Ideal S1024x1024 .f32) (ix2 k l) := by
  show (V m c main_v2 : Vec Ideal S1x1024x1024 .bf16) _ = _
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact lead_apply _ k l

/-- The reference's product, read at an index. -/
theorem ref_apply (x0 : Vec Ideal S1024x1024 .f32) (x1 : Vec Ideal S4096x1024 .f32) (a : Fin 4096) (b : Fin 1024) :
    OqDxRefIdeal.Read.val_main_v2 (F := Ideal) x0 x1 (ix2 a b) = ∑ q : Fin 1024, x1 (ix2 a q) * x0 (ix2 b q) := by
  rw [OqDxRefIdeal.Read.val_main_v2_apply]
  refine Finset.sum_congr rfl fun q _ => congrArg₂ (fun x y : EReal => x * y) (congrArg x1 (funext fun d => ?_)) (congrArg x0 (funext fun d => ?_))
  · fin_cases d <;> rfl
  · fin_cases d <;> rfl

/-- What a point leaves in the output's block. -/
theorem out_apply (A : Vec Ideal S2048x1024 .bf16) (W : Vec Ideal S1x1024x1024 .bf16) : out0_2 A W = k0_pay1 A W := by
  frame_open
  frame_out

/-- One entry of what a point leaves is the reference's product at the entry's place in the array. -/
theorem point (c : Dev nD) (t : Fin cfg0.N) (k : Fin 2048) (l : Fin 1024) (h : t.val * 2048 + k.val < 4096) :
    k0_pay1 (F := Ideal) (iblk m c 0 t) (iblk m c 1 t) (ix2 k l)
      = OqDxRefIdeal.Read.val_main_v2 (F := Ideal) (m (c.tc.loc main_arg0)) (m (c.tc.loc main_arg1)) (ix2 ⟨t.val * 2048 + k.val, h⟩ l) := by
  rw [pay_apply]
  refine Eq.trans ?_ (ref_apply _ _ _ _).symm
  refine Finset.sum_congr rfl fun q _ => congrArg₂ (fun x y : EReal => x * y) ?_ ?_
  · unfold iblk
    rw [entry_d]
    exact blk0 _ t k q h
  · unfold iblk
    exact (blk1 _ t l q).trans (entry_w m c l q)

/-- The output array is the reference's product. -/
theorem value (c : Dev nD) : (dats m 0 c).arrAt 2 cfg0.N
    = OqDxRefIdeal.Read.val_main_v2 (F := Ideal) (m (c.tc.loc main_arg0)) (m (c.tc.loc main_arg1)) := by
  generalize hG : OqDxRefIdeal.Read.val_main_v2 (F := Ideal) (m (c.tc.loc main_arg0)) (m (c.tc.loc main_arg1)) = G
  have hp := point m c
  rw [hG] at hp
  refine (dats m 0 c).arrAt_eq_of_covers 2 _ (by decide +kernel) fun t hf y => ?_
  have ht : t.val < 2 := lt_of_lt_of_eq t.isLt N_0
  rw [after0_2, out_apply]
  have e0 : (y 0).val < 2048 := (y 0).isLt
  have e1 : (y 1).val < 1024 := (y 1).isLt
  have h : t.val * 2048 + (y 0).val < 4096 := by omega
  refine Eq.trans ?_ ((hp t ⟨(y 0).val, e0⟩ ⟨(y 1).val, e1⟩ h).trans ?_)
  · refine congrArg (k0_pay1 (F := Ideal) (iblk m c 0 t) (iblk m c 1 t)) (funext fun a => ?_)
    fin_cases a <;> rfl
  · refine (emb2 G t ⟨(y 0).val, e0⟩ ⟨(y 1).val, e1⟩ h).symm.trans (congrArg G (congrArg _ (funext fun a => ?_)))
    fin_cases a <;> rfl

/-- The claim about this product: both programs run from memories that agree on the arguments and end with the same result. -/
theorem algebraic : algebraic_OqDxIdeal_OqDxRefIdeal := by
  intro m g m' g' _ h
  refine ⟨fun c => (dats m 0 c).arrAt 2 cfg0.N, Value.run_blocks m g, ?_⟩
  refine (θ_run OqDxRefIdeal.defs _ _).mono (fun r hr c => ?_) (OqDxRefIdeal.Value.run (F := Ideal) m' g')
  refine ⟨(hr c).1.trans ?_, (hr c).2⟩
  refine Eq.trans ?_ (value m c).symm
  rw [← (h c).1, ← (h c).2]
  exact OqDxRefIdeal.Read.val_main_v2_eq _ _

end Cert.OqDxIdeal.Val
end
-- ==== Proof.KvDx.lean ====
module

public import proofs.«01_k».proof.Defs
public import proofs.«01_k».proof.Proof.Gen.KvDx.Frame
public import proofs.«01_k».proof.Proof.Gen.KvDxIdeal.Value
public import proofs.«01_k».proof.Proof.Gen.KvDxRefIdeal.Run
public import proofs.«01_k».proof.Proof.Gen.KvDxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.KvDxIdeal.Val

open Cert.KvDxIdeal Cert.KvDxIdeal.Gen

variable (m : (ℓ : Loc nD τ sig) → Buf (Elt Ideal) ℓ)

/-- Eight slabs side by side, read at an index. -/
theorem slabs_apply (B : Vec Ideal S8x1024x256 .bf16) (k : Fin 1024) (q : Fin 2048) :
    (concatenate S1024x2048 1 [⟨S1024x256, shapeCast S1024x256 (View.ld B r0_0) shapeCasts_S1x1024x256_S1024x256⟩, ⟨S1024x256, shapeCast S1024x256 (View.ld B r0_1) shapeCasts_S1x1024x256_S1024x256⟩,
        ⟨S1024x256, shapeCast S1024x256 (View.ld B r0_2) shapeCasts_S1x1024x256_S1024x256⟩, ⟨S1024x256, shapeCast S1024x256 (View.ld B r0_3) shapeCasts_S1x1024x256_S1024x256⟩,
        ⟨S1024x256, shapeCast S1024x256 (View.ld B r0_4) shapeCasts_S1x1024x256_S1024x256⟩, ⟨S1024x256, shapeCast S1024x256 (View.ld B r0_5) shapeCasts_S1x1024x256_S1024x256⟩,
        ⟨S1024x256, shapeCast S1024x256 (View.ld B r0_6) shapeCasts_S1x1024x256_S1024x256⟩, ⟨S1024x256, shapeCast S1024x256 (View.ld B r0_7) shapeCasts_S1x1024x256_S1024x256⟩]
        concatenates_S1024x256_S1024x256_S1024x256_S1024x256_S1024x256_S1024x256_S1024x256_S1024x256_S1024x2048_d1 : Vec Ideal S1024x2048 .bf16) (ix2 k q)
      = B (ix3 ⟨q.val / 256, by omega⟩ k ⟨q.val % 256, by omega⟩) := by
  pointwise
  have e : ∀ (a : Fin 8) (b : Fin 256), a.val = q.val / 256 → b.val = q.val % 256 → B (ix3 a k b) = B (ix3 ⟨q.val / 256, by omega⟩ k ⟨q.val % 256, by omega⟩) := by
    intro a b ha hb
    rw [show a = ⟨q.val / 256, by omega⟩ from Fin.ext ha, show b = ⟨q.val % 256, by omega⟩ from Fin.ext hb]
  by_cases h0 : q.val < 256
  · rw [dif_pos h0]
    exact e 0 _ (by show 0 = q.val / 256; omega) (by show q.val = q.val % 256; omega)
  rw [dif_neg h0]
  by_cases h1 : q.val - 256 < 256
  · rw [dif_pos h1]
    exact e 1 _ (by show 1 = q.val / 256; omega) (by show q.val - 256 = q.val % 256; omega)
  rw [dif_neg h1]
  by_cases h2 : q.val - 256 - 256 < 256
  · rw [dif_pos h2]
    exact e 2 _ (by show 2 = q.val / 256; omega) (by show q.val - 256 - 256 = q.val % 256; omega)
  rw [dif_neg h2]
  by_cases h3 : q.val - 256 - 256 - 256 < 256
  · rw [dif_pos h3]
    exact e 3 _ (by show 3 = q.val / 256; omega) (by show q.val - 256 - 256 - 256 = q.val % 256; omega)
  rw [dif_neg h3]
  by_cases h4 : q.val - 256 - 256 - 256 - 256 < 256
  · rw [dif_pos h4]
    exact e 4 _ (by show 4 = q.val / 256; omega) (by show q.val - 256 - 256 - 256 - 256 = q.val % 256; omega)
  rw [dif_neg h4]
  by_cases h5 : q.val - 256 - 256 - 256 - 256 - 256 < 256
  · rw [dif_pos h5]
    exact e 5 _ (by show 5 = q.val / 256; omega) (by show q.val - 256 - 256 - 256 - 256 - 256 = q.val % 256; omega)
  rw [dif_neg h5]
  by_cases h6 : q.val - 256 - 256 - 256 - 256 - 256 - 256 < 256
  · rw [dif_pos h6]
    exact e 6 _ (by show 6 = q.val / 256; omega) (by show q.val - 256 - 256 - 256 - 256 - 256 - 256 = q.val % 256; omega)
  rw [dif_neg h6]
  exact e 7 _ (by show 7 = q.val / 256; omega) (by show q.val - 256 - 256 - 256 - 256 - 256 - 256 - 256 = q.val % 256; omega)

/-- The payload at an index: a row of the cotangent times a row of the weight. -/
theorem pay_apply (D : Vec Ideal S512x2048 .bf16) (B : Vec Ideal S8x1024x256 .bf16) (k : Fin 512) (l : Fin 1024) :
    k0_pay1 (View.ld B r0_0) (View.ld B r0_1) (View.ld B r0_2) (View.ld B r0_3) (View.ld B r0_4) (View.ld B r0_5) (View.ld B r0_6) (View.ld B r0_7) D (ix2 k l)
      = ∑ q : Fin 2048, D (ix2 k q) * B (ix3 ⟨q.val / 256, by omega⟩ l ⟨q.val % 256, by omega⟩) := by
  have hs := slabs_apply B
  unfold k0_pay1
  generalize (concatenate S1024x2048 1 _ _ : Vec Ideal S1024x2048 .bf16) = C at hs ⊢
  simp only [← hs]
  pointwise

/-- Where each window's block lies. -/
theorem idx : ∀ t : Fin cfg0.N, win0_0.index t = ![t.val, 0] ∧ win0_1.index t = ![0, 0, 0] ∧ win0_2.index t = ![t.val, 0] :=
  (by decide +kernel : ∀ t : Fin grid0.N, _)

/-- A block of the cotangent, read at an index. -/
theorem blk0 (X : Vec Ideal S4096x2048 .bf16) (t : Fin cfg0.N) (k : Fin 512) (l : Fin 2048) (h : t.val * 512 + k.val < 4096) :
    ((cfg0.win 0).blk t).view.read (Elt Ideal) X (ix2 k l) = X (ix2 ⟨t.val * 512 + k.val, h⟩ l) := by
  blk_ext [idx t]

/-- The weight's one block, read at an index. -/
theorem blk1 (X : Vec Ideal S8x1024x256 .bf16) (t : Fin cfg0.N) (s : Fin 8) (k : Fin 1024) (l : Fin 256) :
    ((cfg0.win 1).blk t).view.read (Elt Ideal) X (ix3 s k l) = X (ix3 s k l) := by
  blk_ext [idx t]

/-- Where an entry of an output block lies in the output array. -/
theorem emb2 (X : Vec Ideal S4096x1024 .f32) (t : Fin cfg0.N) (k : Fin 512) (l : Fin 1024) (h : t.val * 512 + k.val < 4096) :
    ((cfg0.win 2).blk t).view.read (Elt Ideal) X (ix2 k l) = X (ix2 ⟨t.val * 512 + k.val, h⟩ l) := by
  blk_ext [idx t]

/-- The cotangent the host part of the kernel prepares is the argument. -/
theorem entry_d (c : Dev nD) : V m c (Pipeline.arrRef spec0 0) = m (c.tc.loc main_arg1) := by
  show V m c main_v3 = _
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- A matrix cut into column slabs, read at an index. -/
theorem slabs_cols (X : Vec Ideal S1024x2048 .f32) (s : Fin 8) (k : Fin 1024) (l : Fin 256) (h : s.val * 256 + l.val < 2048) :
    (truncf (F := Ideal) (φ := .f32) .bf16 (transpose S8x1024x256 [1, 0, 2] (shapeCast S1024x8x256 X shapeCasts_S1024x2048_S1024x8x256) transposes_S1024x8x256_S8x1024x256_1_0_2) bitsLt_bf16_f32
      : Vec Ideal S8x1024x256 .bf16) (ix3 s k l) = X (ix2 k ⟨s.val * 256 + l.val, h⟩) := by
  pointwise

/-- The weight the host part of the kernel prepares, read at an index. -/
theorem entry_w (c : Dev nD) (k : Fin 1024) (q : Fin 2048) :
    (V m c (Pipeline.arrRef spec0 1) : Vec Ideal S8x1024x256 .bf16) (ix3 ⟨q.val / 256, by omega⟩ k ⟨q.val % 256, by omega⟩)
      = (m (c.tc.loc main_arg0) : Vec Ideal S1024x2048 .f32) (ix2 k q) := by
  show (V m c main_v2 : Vec Ideal S8x1024x256 .bf16) _ = _
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  refine (slabs_cols _ _ k _ (by show q.val / 256 * 256 + q.val % 256 < 2048; omega)).trans ?_
  refine congrArg (m (c.tc.loc main_arg0)) (congrArg (ix2 k) (Fin.ext ?_))
  show q.val / 256 * 256 + q.val % 256 = q.val
  omega

/-- The reference's product, read at an index. -/
theorem ref_apply (x0 : Vec Ideal S1024x2048 .f32) (x1 : Vec Ideal S4096x2048 .f32) (a : Fin 4096) (b : Fin 1024) :
    KvDxRefIdeal.Read.val_main_v2 (F := Ideal) x0 x1 (ix2 a b) = ∑ q : Fin 2048, x1 (ix2 a q) * x0 (ix2 b q) := by
  rw [KvDxRefIdeal.Read.val_main_v2_apply]
  refine Finset.sum_congr rfl fun q _ => congrArg₂ (fun x y : EReal => x * y) (congrArg x1 (funext fun d => ?_)) (congrArg x0 (funext fun d => ?_))
  · fin_cases d <;> rfl
  · fin_cases d <;> rfl

/-- What a point leaves in the output's block, read at an index. -/
theorem out_apply (D : Vec Ideal S512x2048 .bf16) (B : Vec Ideal S8x1024x256 .bf16) (k : Fin 512) (l : Fin 1024) :
    out0_2 D B (ix2 k l) = ∑ q : Fin 2048, D (ix2 k q) * B (ix3 ⟨q.val / 256, by omega⟩ l ⟨q.val % 256, by omega⟩) := by
  unfold out0_2
  frame_out
  exact pay_apply D B k l

/-- One entry of what a point leaves is the reference's product at the entry's place in the array. -/
theorem point (c : Dev nD) (t : Fin cfg0.N) (k : Fin 512) (l : Fin 1024) (h : t.val * 512 + k.val < 4096) :
    out0_2 (F := Ideal) (iblk m c 0 t) (iblk m c 1 t) (ix2 k l)
      = KvDxRefIdeal.Read.val_main_v2 (F := Ideal) (m (c.tc.loc main_arg0)) (m (c.tc.loc main_arg1)) (ix2 ⟨t.val * 512 + k.val, h⟩ l) := by
  refine (out_apply _ _ k l).trans (Eq.trans ?_ (ref_apply _ _ _ _).symm)
  refine Finset.sum_congr rfl fun q _ => congrArg₂ (fun x y : EReal => x * y) ?_ ?_
  · unfold iblk
    rw [entry_d]
    exact blk0 _ t k q h
  · unfold iblk
    exact (blk1 _ t _ l _).trans (entry_w m c l q)

/-- The output array is the reference's product. -/
theorem value (c : Dev nD) : (dats m 0 c).arrAt 2 cfg0.N
    = KvDxRefIdeal.Read.val_main_v2 (F := Ideal) (m (c.tc.loc main_arg0)) (m (c.tc.loc main_arg1)) := by
  generalize hG : KvDxRefIdeal.Read.val_main_v2 (F := Ideal) (m (c.tc.loc main_arg0)) (m (c.tc.loc main_arg1)) = G
  have hp := point m c
  rw [hG] at hp
  refine (dats m 0 c).arrAt_eq_of_covers 2 _ (by decide +kernel) fun t hf y => ?_
  have ht : t.val < 8 := lt_of_lt_of_eq t.isLt N_0
  rw [after0_2]
  have e0 : (y 0).val < 512 := (y 0).isLt
  have e1 : (y 1).val < 1024 := (y 1).isLt
  have h : t.val * 512 + (y 0).val < 4096 := by omega
  refine Eq.trans ?_ ((hp t ⟨(y 0).val, e0⟩ ⟨(y 1).val, e1⟩ h).trans ?_)
  · generalize out0_2 (F := Ideal) (iblk m c 0 t) (iblk m c 1 t) = O
    refine congrArg O (funext fun a => ?_)
    fin_cases a <;> rfl
  · refine (emb2 G t ⟨(y 0).val, e0⟩ ⟨(y 1).val, e1⟩ h).symm.trans (congrArg G (congrArg _ (funext fun a => ?_)))
    fin_cases a <;> rfl

/-- The claim about this product: both programs run from memories that agree on the arguments and end with the same result. -/
theorem algebraic : algebraic_KvDxIdeal_KvDxRefIdeal := by
  intro m g m' g' _ h
  refine ⟨fun c => (dats m 0 c).arrAt 2 cfg0.N, Value.run_blocks m g, ?_⟩
  refine (θ_run KvDxRefIdeal.defs _ _).mono (fun r hr c => ?_) (KvDxRefIdeal.Value.run (F := Ideal) m' g')
  refine ⟨(hr c).1.trans ?_, (hr c).2⟩
  refine Eq.trans ?_ (value m c).symm
  rw [← (h c).1, ← (h c).2]
  exact KvDxRefIdeal.Read.val_main_v2_eq _ _

end Cert.KvDxIdeal.Val
end
-- ==== Proof.GluUp.lean ====
module

public import proofs.«01_k».proof.Defs
public import proofs.«01_k».proof.Proof.Gen.GluUp.Frame
public import proofs.«01_k».proof.Proof.Gen.GluUpIdeal.Value
public import proofs.«01_k».proof.Proof.Gen.GluUpRefIdeal.Run
public import proofs.«01_k».proof.Proof.Gen.GluUpRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.GluUpIdeal.Val

open Cert.GluUpIdeal Cert.GluUpIdeal.Gen

variable (m : (ℓ : Loc nD τ sig) → Buf (Elt Ideal) ℓ)

/-- An entry of the product of the sequence with the up-projection's weight. -/
def up (X : Vec Ideal S2x2048x1024 .f32) (W : Vec Ideal S1024x2048 .f32) (r : Fin 4096) (j : Fin 2048) : EReal :=
  ∑ q : Fin 1024, X (ix3 ⟨r.val / 2048, by omega⟩ ⟨r.val % 2048, by omega⟩ q) * W (ix2 q j)

/-- An entry of the gated result: the residual and the gate times the value half times the logistic of the other half. -/
def gated (X : Vec Ideal S2x2048x1024 .f32) (W : Vec Ideal S1024x2048 .f32) (R : Vec Ideal S2x2048x1024 .f32) (g : Vec Ideal S2x1024 .f32)
    (r : Fin 4096) (j : Fin 1024) : EReal :=
  R (ix3 ⟨r.val / 2048, by omega⟩ ⟨r.val % 2048, by omega⟩ j)
    + g (ix2 ⟨r.val / 2048, by omega⟩ j) * (up X W r ⟨j.val, by omega⟩ * Ideal.logistic (up X W r ⟨1024 + j.val, by omega⟩))

/-- The first product of the body at an index. -/
theorem pay2_apply (A : Vec Ideal S1024x1024 .bf16) (W : Vec Ideal S1x1024x256 .bf16) (k : Fin 1024) (l : Fin 256) :
    k0_pay2 A W (ix2 k l) = ∑ q : Fin 1024, A (ix2 k q) * W (ix3 0 q l) := by
  pointwise [k0_pay2, k0_pay1]

/-- The second product of the body at an index. -/
theorem pay3_apply (A : Vec Ideal S1024x1024 .bf16) (W : Vec Ideal S1x1024x256 .bf16) (k : Fin 1024) (l : Fin 256) :
    k0_pay3 A W (ix2 k l) = ∑ q : Fin 1024, A (ix2 k q) * W (ix3 0 q l) := by
  pointwise [k0_pay3, k0_pay1]

/-- The gated result of the body at an index. -/
theorem pay4_apply (A : Vec Ideal S1024x1024 .bf16) (V : Vec Ideal S1x1024x256 .bf16) (G : Vec Ideal S1x1024x256 .bf16)
    (X : Vec Ideal S1024x256 .f32) (g : Vec Ideal S1x1x256 .f32) (k : Fin 1024) (l : Fin 256) :
    k0_pay4 A V G X g (ix2 k l)
      = X (ix2 k l) + g (ix3 0 0 l) * (k0_pay2 A V (ix2 k l) * Ideal.logistic (k0_pay3 A G (ix2 k l))) := by
  unfold k0_pay4
  generalize k0_pay2 A V = y
  generalize k0_pay3 A G = z
  pointwise

/-- Where each window's block lies. -/
theorem idx : ∀ t : Fin cfg0.N, win0_0.index t = ![t.val / 4, 0] ∧ win0_1.index t = ![t.val % 4, 0, 0] ∧ win0_2.index t = ![4 + t.val % 4, 0, 0]
    ∧ win0_3.index t = ![t.val / 4, t.val % 4] ∧ win0_4.index t = ![t.val / 8, 0, t.val % 4]
    ∧ win0_5.index t = ![t.val / 4, t.val % 4] ∧ win0_6.index t = ![t.val / 4, t.val % 4] ∧ win0_7.index t = ![t.val / 4, t.val % 4] :=
  (by decide +kernel : ∀ t : Fin grid0.N, _)

/-- A block of rows of the sequence, read at an index. -/
theorem blk0 (X : Vec Ideal S4096x1024 .bf16) (t : Fin cfg0.N) (k : Fin 1024) (q : Fin 1024) (h : t.val / 4 * 1024 + k.val < 4096) :
    ((cfg0.win 0).blk t).view.read (Elt Ideal) X (ix2 k q) = X (ix2 ⟨t.val / 4 * 1024 + k.val, h⟩ q) := by
  blk_ext [idx t]

/-- A slab of the value half of the weight, read at an index. -/
theorem blk1 (X : Vec Ideal S8x1024x256 .bf16) (t : Fin cfg0.N) (q : Fin 1024) (l : Fin 256) (h : t.val % 4 < 8) :
    ((cfg0.win 1).blk t).view.read (Elt Ideal) X (ix3 0 q l) = X (ix3 ⟨t.val % 4, h⟩ q l) := by
  blk_ext [idx t]

/-- A slab of the other half of the weight, read at an index. -/
theorem blk2 (X : Vec Ideal S8x1024x256 .bf16) (t : Fin cfg0.N) (q : Fin 1024) (l : Fin 256) (h : 4 + t.val % 4 < 8) :
    ((cfg0.win 2).blk t).view.read (Elt Ideal) X (ix3 0 q l) = X (ix3 ⟨4 + t.val % 4, h⟩ q l) := by
  blk_ext [idx t]

/-- A block of the residual, read at an index. -/
theorem blk3 (X : Vec Ideal S4096x1024 .f32) (t : Fin cfg0.N) (k : Fin 1024) (l : Fin 256) (h : t.val / 4 * 1024 + k.val < 4096)
    (h' : t.val % 4 * 256 + l.val < 1024) :
    ((cfg0.win 3).blk t).view.read (Elt Ideal) X (ix2 k l) = X (ix2 ⟨t.val / 4 * 1024 + k.val, h⟩ ⟨t.val % 4 * 256 + l.val, h'⟩) := by
  blk_ext [idx t]

/-- A block of the gate, read at an index. -/
theorem blk4 (X : Vec Ideal S2x1x1024 .f32) (t : Fin cfg0.N) (l : Fin 256) (h : t.val / 8 < 2) (h' : t.val % 4 * 256 + l.val < 1024) :
    ((cfg0.win 4).blk t).view.read (Elt Ideal) X (ix3 0 0 l) = X (ix3 ⟨t.val / 8, h⟩ 0 ⟨t.val % 4 * 256 + l.val, h'⟩) := by
  blk_ext [idx t]

/-- Where an entry of a block of the first result lies in its array. -/
theorem emb5 (X : Vec Ideal S4096x1024 .f32) (t : Fin cfg0.N) (k : Fin 1024) (l : Fin 256) (h : t.val / 4 * 1024 + k.val < 4096)
    (h' : t.val % 4 * 256 + l.val < 1024) :
    ((cfg0.win 5).blk t).view.read (Elt Ideal) X (ix2 k l) = X (ix2 ⟨t.val / 4 * 1024 + k.val, h⟩ ⟨t.val % 4 * 256 + l.val, h'⟩) := by
  blk_ext [idx t]

/-- Where an entry of a block of the second result lies in its array. -/
theorem emb6 (X : Vec Ideal S4096x1024 .f32) (t : Fin cfg0.N) (k : Fin 1024) (l : Fin 256) (h : t.val / 4 * 1024 + k.val < 4096)
    (h' : t.val % 4 * 256 + l.val < 1024) :
    ((cfg0.win 6).blk t).view.read (Elt Ideal) X (ix2 k l) = X (ix2 ⟨t.val / 4 * 1024 + k.val, h⟩ ⟨t.val % 4 * 256 + l.val, h'⟩) := by
  blk_ext [idx t]

/-- Where an entry of a block of the third result lies in its array. -/
theorem emb7 (X : Vec Ideal S4096x1024 .f32) (t : Fin cfg0.N) (k : Fin 1024) (l : Fin 256) (h : t.val / 4 * 1024 + k.val < 4096)
    (h' : t.val % 4 * 256 + l.val < 1024) :
    ((cfg0.win 7).blk t).view.read (Elt Ideal) X (ix2 k l) = X (ix2 ⟨t.val / 4 * 1024 + k.val, h⟩ ⟨t.val % 4 * 256 + l.val, h'⟩) := by
  blk_ext [idx t]

/-- A matrix cut into column slabs, read at an index. -/
theorem slabs_cols (X : Vec Ideal S1024x2048 .f32) (s : Fin 8) (k : Fin 1024) (l : Fin 256) (h : s.val * 256 + l.val < 2048) :
    (truncf (F := Ideal) (φ := .f32) .bf16 (transpose S8x1024x256 [1, 0, 2] (shapeCast S1024x8x256 X shapeCasts_S1024x2048_S1024x8x256) transposes_S1024x8x256_S8x1024x256_1_0_2) bitsLt_bf16_f32
      : Vec Ideal S8x1024x256 .bf16) (ix3 s k l) = X (ix2 k ⟨s.val * 256 + l.val, h⟩) := by
  pointwise

/-- The sequence as rows, read at an index. -/
theorem rows_apply (X : Vec Ideal S2x2048x1024 .f32) (r : Fin 4096) (q : Fin 1024) :
    (shapeCast S4096x1024 (truncf (F := Ideal) (φ := .f32) .bf16 X bitsLt_bf16_f32 : Vec Ideal S2x2048x1024 .bf16) shapeCasts_S2x2048x1024_S4096x1024 : Vec Ideal S4096x1024 .bf16) (ix2 r q)
      = X (ix3 ⟨r.val / 2048, by omega⟩ ⟨r.val % 2048, by omega⟩ q) := by
  pointwise

/-- The residual as rows, read at an index. -/
theorem rows32_apply (X : Vec Ideal S2x2048x1024 .f32) (r : Fin 4096) (q : Fin 1024) :
    (shapeCast S4096x1024 X shapeCasts_S2x2048x1024_S4096x1024 : Vec Ideal S4096x1024 .f32) (ix2 r q)
      = X (ix3 ⟨r.val / 2048, by omega⟩ ⟨r.val % 2048, by omega⟩ q) := by
  pointwise

/-- The gate with a middle axis of length one, read at an index. -/
theorem mid_apply (X : Vec Ideal S2x1024 .f32) (b : Fin 2) (l : Fin 1024) :
    (shapeCast S2x1x1024 X shapeCasts_S2x1024_S2x1x1024 : Vec Ideal S2x1x1024 .f32) (ix3 b 0 l) = X (ix2 b l) := by
  pointwise

/-- The sequence the host part of the kernel prepares, read at an index. -/
theorem entry_x (c : Dev nD) (r : Fin 4096) (q : Fin 1024) :
    (V m c main_v5 : Vec Ideal S4096x1024 .bf16) (ix2 r q)
      = (m (c.tc.loc main_arg0) : Vec Ideal S2x2048x1024 .f32) (ix3 ⟨r.val / 2048, by omega⟩ ⟨r.val % 2048, by omega⟩ q) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact rows_apply _ r q

/-- The weight the host part of the kernel prepares, read at an index. -/
theorem entry_w (c : Dev nD) (s : Fin 8) (k : Fin 1024) (l : Fin 256) (h : s.val * 256 + l.val < 2048) :
    (V m c main_v2 : Vec Ideal S8x1024x256 .bf16) (ix3 s k l)
      = (m (c.tc.loc main_arg1) : Vec Ideal S1024x2048 .f32) (ix2 k ⟨s.val * 256 + l.val, h⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_cols _ s k l h

/-- The residual the host part of the kernel prepares, read at an index. -/
theorem entry_r (c : Dev nD) (r : Fin 4096) (q : Fin 1024) :
    (V m c main_v6 : Vec Ideal S4096x1024 .f32) (ix2 r q)
      = (m (c.tc.loc main_arg2) : Vec Ideal S2x2048x1024 .f32) (ix3 ⟨r.val / 2048, by omega⟩ ⟨r.val % 2048, by omega⟩ q) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact rows32_apply _ r q

/-- The gate the host part of the kernel prepares, read at an index. -/
theorem entry_g (c : Dev nD) (b : Fin 2) (l : Fin 1024) :
    (V m c main_v4 : Vec Ideal S2x1x1024 .f32) (ix3 b 0 l) = (m (c.tc.loc main_arg3) : Vec Ideal S2x1024 .f32) (ix2 b l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact mid_apply _ b l

/-- The reference's whole product, read at an index. -/
theorem ref_up (x0 : Vec Ideal S2x2048x1024 .f32) (x1 : Vec Ideal S1024x2048 .f32) (r : Fin 4096) (j : Fin 2048) (i : GluUpRefIdeal.S2x2048x2048.Idx)
    (h0 : (i 0).val = r.val / 2048) (h1 : (i 1).val = r.val % 2048) (h2 : (i 2).val = j.val) :
    GluUpRefIdeal.Read.val_main_v0 (F := Ideal) x0 x1 i = up x0 x1 r j := by
  rw [GluUpRefIdeal.Read.val_main_v0_apply]
  unfold up
  refine Finset.sum_congr rfl fun q _ => congrArg₂ (fun x y : EReal => x * y) (congrArg x0 (funext fun d => ?_)) (congrArg x1 (funext fun d => ?_))
  · fin_cases d
    · exact Fin.ext h0
    · exact Fin.ext h1
    · rfl
  · fin_cases d
    · rfl
    · exact Fin.ext h2

/-- The reference's value half as rows, read at an index. -/
theorem ref14 (x0 : Vec Ideal S2x2048x1024 .f32) (x1 : Vec Ideal S1024x2048 .f32) (r : Fin 4096) (j : Fin 1024) :
    GluUpRefIdeal.Read.val_main_v14 (F := Ideal) x0 x1 (ix2 r j) = up x0 x1 r ⟨j.val, by omega⟩ := by
  rw [GluUpRefIdeal.Read.val_main_v14_apply, GluUpRefIdeal.Read.val_main_v1_apply]
  refine ref_up x0 x1 r _ _ ?_ ?_ ?_
  · show (r.val * 1024 + j.val) / 2097152 = r.val / 2048; omega
  · show (r.val * 1024 + j.val) / 1024 % 2048 = r.val % 2048; omega
  · show (r.val * 1024 + j.val) % 1024 = j.val; omega

/-- The reference's other half as rows, read at an index. -/
theorem ref15 (x0 : Vec Ideal S2x2048x1024 .f32) (x1 : Vec Ideal S1024x2048 .f32) (r : Fin 4096) (j : Fin 1024) :
    GluUpRefIdeal.Read.val_main_v15 (F := Ideal) x0 x1 (ix2 r j) = up x0 x1 r ⟨1024 + j.val, by omega⟩ := by
  rw [GluUpRefIdeal.Read.val_main_v15_apply, GluUpRefIdeal.Read.val_main_v2_apply]
  refine ref_up x0 x1 r _ _ ?_ ?_ ?_
  · show (r.val * 1024 + j.val) / 2097152 = r.val / 2048; omega
  · show (r.val * 1024 + j.val) / 1024 % 2048 = r.val % 2048; omega
  · show 1024 + (r.val * 1024 + j.val) % 1024 = 1024 + j.val; omega

/-- The reference's logistic, written out, is the logistic. -/
theorem logistic_eq (z : EReal) :
    FloatOps.hostDivf (F := Ideal) (φ := .f32) (FloatOps.ofBits .f32 0x3F800000#32) (FloatOps.addf (F := Ideal) (φ := .f32) (FloatOps.ofBits .f32 0x3F800000#32) (FloatOps.hostUnary (F := Ideal) (φ := .f32) .exp (FloatOps.hostNegf (F := Ideal) (φ := .f32) z)))
      = Ideal.logistic z := by
  have h1 : FloatOps.ofBits (F := Ideal) .f32 0x3F800000#32 = (1 : EReal) := Ideal.ofBits_one_f32
  rw [h1]
  rfl

/-- The reference's gated result as rows, read at an index. -/
theorem ref16 (x0 : Vec Ideal S2x2048x1024 .f32) (x1 : Vec Ideal S1024x2048 .f32) (x2 : Vec Ideal S2x2048x1024 .f32) (x3 : Vec Ideal S2x1024 .f32) (r : Fin 4096) (j : Fin 1024) :
    GluUpRefIdeal.Read.val_main_v16 (F := Ideal) x0 x1 x2 x3 (ix2 r j) = gated x0 x1 x2 x3 r j := by
  have e0 : (r.val * 1024 + j.val) / 2097152 = r.val / 2048 := by omega
  have e1 : (r.val * 1024 + j.val) / 1024 % 2048 = r.val % 2048 := by omega
  have e2 : (r.val * 1024 + j.val) % 1024 = j.val := by omega
  rw [GluUpRefIdeal.Read.val_main_v16_apply, GluUpRefIdeal.Read.val_main_v13_apply, GluUpRefIdeal.Read.val_main_v12_apply,
    GluUpRefIdeal.Read.val_main_v11_apply, GluUpRefIdeal.Read.val_main_v3_apply, GluUpRefIdeal.Read.val_main_v10_apply,
    GluUpRefIdeal.Read.val_main_v1_apply, GluUpRefIdeal.Read.val_main_v9_apply, GluUpRefIdeal.Read.val_main_v8_apply,
    GluUpRefIdeal.Read.val_main_cst_0_apply, GluUpRefIdeal.Read.val_main_v7_apply, GluUpRefIdeal.Read.val_main_v6_apply,
    GluUpRefIdeal.Read.val_main_cst_apply, GluUpRefIdeal.Read.val_main_v5_apply, GluUpRefIdeal.Read.val_main_v4_apply,
    GluUpRefIdeal.Read.val_main_v2_apply]
  rw [logistic_eq]
  refine congrArg₂ (fun x y : EReal => x + y) (congrArg x2 (funext fun d => ?_)) (congrArg₂ (fun x y : EReal => x * y) (congrArg x3 (funext fun d => ?_))
    (congrArg₂ (fun x y : EReal => x * y) ?_ (congrArg Ideal.logistic ?_)))
  · fin_cases d
    · exact Fin.ext e0
    · exact Fin.ext e1
    · exact Fin.ext e2
  · fin_cases d
    · exact Fin.ext e0
    · exact Fin.ext e2
  · exact ref_up x0 x1 r _ _ e0 e1 e2
  · exact ref_up x0 x1 r _ _ e0 e1 (congrArg (1024 + ·) e2)

/-- What a point leaves in the first result's block. -/
theorem out5_apply (A : Vec Ideal S1024x1024 .bf16) (V : Vec Ideal S1x1024x256 .bf16) (G : Vec Ideal S1x1024x256 .bf16) (X : Vec Ideal S1024x256 .f32) (g : Vec Ideal S1x1x256 .f32) : out0_5 A V G X g = k0_pay2 A V := by
  frame_open
  frame_out

/-- What a point leaves in the second result's block. -/
theorem out6_apply (A : Vec Ideal S1024x1024 .bf16) (V : Vec Ideal S1x1024x256 .bf16) (G : Vec Ideal S1x1024x256 .bf16) (X : Vec Ideal S1024x256 .f32) (g : Vec Ideal S1x1x256 .f32) : out0_6 A V G X g = k0_pay3 A G := by
  frame_open
  frame_out

/-- What a point leaves in the third result's block. -/
theorem out7_apply (A : Vec Ideal S1024x1024 .bf16) (V : Vec Ideal S1x1024x256 .bf16) (G : Vec Ideal S1x1024x256 .bf16) (X : Vec Ideal S1024x256 .f32) (g : Vec Ideal S1x1x256 .f32) : out0_7 A V G X g = k0_pay4 A V G X g := by
  frame_open
  frame_out

/-- The body's first product at a point, over the whole arrays. -/
theorem val_point (c : Dev nD) (t : Fin cfg0.N) (k : Fin 1024) (l : Fin 256) (h : t.val / 4 * 1024 + k.val < 4096) (h' : t.val % 4 * 256 + l.val < 1024) :
    k0_pay2 (F := Ideal) (iblk m c 0 t) (iblk m c 1 t) (ix2 k l)
      = up (m (c.tc.loc main_arg0)) (m (c.tc.loc main_arg1)) ⟨t.val / 4 * 1024 + k.val, h⟩ ⟨t.val % 4 * 256 + l.val, by omega⟩ := by
  rw [pay2_apply]
  refine Finset.sum_congr rfl fun q _ => congrArg₂ (fun x y : EReal => x * y) ?_ ?_
  · unfold iblk
    exact (blk0 _ t k q h).trans (entry_x m c _ q)
  · unfold iblk
    exact (blk1 _ t q l (by omega)).trans (entry_w m c _ q l _)

/-- The body's second product at a point, over the whole arrays. -/
theorem gt_point (c : Dev nD) (t : Fin cfg0.N) (k : Fin 1024) (l : Fin 256) (h : t.val / 4 * 1024 + k.val < 4096) (h' : t.val % 4 * 256 + l.val < 1024) :
    k0_pay3 (F := Ideal) (iblk m c 0 t) (iblk m c 2 t) (ix2 k l)
      = up (m (c.tc.loc main_arg0)) (m (c.tc.loc main_arg1)) ⟨t.val / 4 * 1024 + k.val, h⟩ ⟨1024 + (t.val % 4 * 256 + l.val), by omega⟩ := by
  rw [pay3_apply]
  refine Finset.sum_congr rfl fun q _ => congrArg₂ (fun x y : EReal => x * y) ?_ ?_
  · unfold iblk
    exact (blk0 _ t k q h).trans (entry_x m c _ q)
  · unfold iblk
    refine (blk2 _ t q l (by omega)).trans ((entry_w m c _ q l (by show (4 + t.val % 4) * 256 + l.val < 2048; omega)).trans ?_)
    refine congrArg (m (c.tc.loc main_arg1)) (congrArg (ix2 q) (Fin.ext ?_))
    show (4 + t.val % 4) * 256 + l.val = 1024 + (t.val % 4 * 256 + l.val)
    omega

/-- The body's gated result at a point, over the whole arrays. -/
theorem x_point (c : Dev nD) (t : Fin cfg0.N) (k : Fin 1024) (l : Fin 256) (h : t.val / 4 * 1024 + k.val < 4096) (h' : t.val % 4 * 256 + l.val < 1024) :
    k0_pay4 (F := Ideal) (iblk m c 0 t) (iblk m c 1 t) (iblk m c 2 t) (iblk m c 3 t) (iblk m c 4 t) (ix2 k l)
      = gated (m (c.tc.loc main_arg0)) (m (c.tc.loc main_arg1)) (m (c.tc.loc main_arg2)) (m (c.tc.loc main_arg3))
          ⟨t.val / 4 * 1024 + k.val, h⟩ ⟨t.val % 4 * 256 + l.val, h'⟩ := by
  have ht : t.val < 16 := lt_of_lt_of_eq t.isLt N_0
  rw [pay4_apply]
  refine congrArg₂ (fun x y : EReal => x + y) ?_ (congrArg₂ (fun x y : EReal => x * y) ?_ (congrArg₂ (fun x y : EReal => x * y) ?_ (congrArg Ideal.logistic ?_)))
  · unfold iblk
    exact (blk3 _ t k l h h').trans (entry_r m c _ _)
  · unfold iblk
    refine (blk4 _ t l (by omega) h').trans ((entry_g m c _ _).trans ?_)
    refine congrArg (m (c.tc.loc main_arg3)) (congrArg (ix2 · _) (Fin.ext ?_))
    show t.val / 8 = (t.val / 4 * 1024 + k.val) / 2048
    omega
  · exact val_point m c t k l h h'
  · exact gt_point m c t k l h h'

/-- The first result array is the reference's. -/
theorem value5 (c : Dev nD) : (dats m 0 c).arrAt 5 cfg0.N
    = GluUpRefIdeal.Read.val_main_v14 (F := Ideal) (m (c.tc.loc main_arg0)) (m (c.tc.loc main_arg1)) := by
  have hp : ∀ (t : Fin cfg0.N) (k : Fin 1024) (l : Fin 256) (h : t.val / 4 * 1024 + k.val < 4096) (h' : t.val % 4 * 256 + l.val < 1024),
      k0_pay2 (F := Ideal) (iblk m c 0 t) (iblk m c 1 t) (ix2 k l)
        = GluUpRefIdeal.Read.val_main_v14 (F := Ideal) (m (c.tc.loc main_arg0)) (m (c.tc.loc main_arg1)) (ix2 ⟨t.val / 4 * 1024 + k.val, h⟩ ⟨t.val % 4 * 256 + l.val, h'⟩) :=
    fun t k l h h' => (val_point m c t k l h h').trans (ref14 (m (c.tc.loc main_arg0)) (m (c.tc.loc main_arg1)) ⟨t.val / 4 * 1024 + k.val, h⟩ ⟨t.val % 4 * 256 + l.val, h'⟩).symm
  generalize GluUpRefIdeal.Read.val_main_v14 (F := Ideal) (m (c.tc.loc main_arg0)) (m (c.tc.loc main_arg1)) = G at hp ⊢
  refine (dats m 0 c).arrAt_eq_of_covers 5 _ (by decide +kernel) fun t hf y => ?_
  have ht : t.val < 16 := lt_of_lt_of_eq t.isLt N_0
  rw [after0_5, out5_apply]
  have e0 : (y 0).val < 1024 := (y 0).isLt
  have e1 : (y 1).val < 256 := (y 1).isLt
  have h : t.val / 4 * 1024 + (y 0).val < 4096 := by omega
  have h' : t.val % 4 * 256 + (y 1).val < 1024 := by omega
  have hq := hp t ⟨(y 0).val, e0⟩ ⟨(y 1).val, e1⟩ h h'
  generalize k0_pay2 (F := Ideal) (iblk m c 0 t) (iblk m c 1 t) = O at hq ⊢
  refine Eq.trans ?_ (hq.trans ?_)
  · refine congrArg O (funext fun a => ?_)
    fin_cases a <;> rfl
  · refine (emb5 G t ⟨(y 0).val, e0⟩ ⟨(y 1).val, e1⟩ h h').symm.trans (congrArg G (congrArg _ (funext fun a => ?_)))
    fin_cases a <;> rfl

/-- The second result array is the reference's. -/
theorem value6 (c : Dev nD) : (dats m 0 c).arrAt 6 cfg0.N
    = GluUpRefIdeal.Read.val_main_v15 (F := Ideal) (m (c.tc.loc main_arg0)) (m (c.tc.loc main_arg1)) := by
  have hp : ∀ (t : Fin cfg0.N) (k : Fin 1024) (l : Fin 256) (h : t.val / 4 * 1024 + k.val < 4096) (h' : t.val % 4 * 256 + l.val < 1024),
      k0_pay3 (F := Ideal) (iblk m c 0 t) (iblk m c 2 t) (ix2 k l)
        = GluUpRefIdeal.Read.val_main_v15 (F := Ideal) (m (c.tc.loc main_arg0)) (m (c.tc.loc main_arg1)) (ix2 ⟨t.val / 4 * 1024 + k.val, h⟩ ⟨t.val % 4 * 256 + l.val, h'⟩) :=
    fun t k l h h' => (gt_point m c t k l h h').trans (ref15 (m (c.tc.loc main_arg0)) (m (c.tc.loc main_arg1)) ⟨t.val / 4 * 1024 + k.val, h⟩ ⟨t.val % 4 * 256 + l.val, h'⟩).symm
  generalize GluUpRefIdeal.Read.val_main_v15 (F := Ideal) (m (c.tc.loc main_arg0)) (m (c.tc.loc main_arg1)) = G at hp ⊢
  refine (dats m 0 c).arrAt_eq_of_covers 6 _ (by decide +kernel) fun t hf y => ?_
  have ht : t.val < 16 := lt_of_lt_of_eq t.isLt N_0
  rw [after0_6, out6_apply]
  have e0 : (y 0).val < 1024 := (y 0).isLt
  have e1 : (y 1).val < 256 := (y 1).isLt
  have h : t.val / 4 * 1024 + (y 0).val < 4096 := by omega
  have h' : t.val % 4 * 256 + (y 1).val < 1024 := by omega
  have hq := hp t ⟨(y 0).val, e0⟩ ⟨(y 1).val, e1⟩ h h'
  generalize k0_pay3 (F := Ideal) (iblk m c 0 t) (iblk m c 2 t) = O at hq ⊢
  refine Eq.trans ?_ (hq.trans ?_)
  · refine congrArg O (funext fun a => ?_)
    fin_cases a <;> rfl
  · refine (emb6 G t ⟨(y 0).val, e0⟩ ⟨(y 1).val, e1⟩ h h').symm.trans (congrArg G (congrArg _ (funext fun a => ?_)))
    fin_cases a <;> rfl

/-- The third result array is the reference's. -/
theorem value7 (c : Dev nD) : (dats m 0 c).arrAt 7 cfg0.N
    = GluUpRefIdeal.Read.val_main_v16 (F := Ideal) (m (c.tc.loc main_arg0)) (m (c.tc.loc main_arg1)) (m (c.tc.loc main_arg2)) (m (c.tc.loc main_arg3)) := by
  have hp : ∀ (t : Fin cfg0.N) (k : Fin 1024) (l : Fin 256) (h : t.val / 4 * 1024 + k.val < 4096) (h' : t.val % 4 * 256 + l.val < 1024),
      k0_pay4 (F := Ideal) (iblk m c 0 t) (iblk m c 1 t) (iblk m c 2 t) (iblk m c 3 t) (iblk m c 4 t) (ix2 k l)
        = GluUpRefIdeal.Read.val_main_v16 (F := Ideal) (m (c.tc.loc main_arg0)) (m (c.tc.loc main_arg1)) (m (c.tc.loc main_arg2)) (m (c.tc.loc main_arg3)) (ix2 ⟨t.val / 4 * 1024 + k.val, h⟩ ⟨t.val % 4 * 256 + l.val, h'⟩) :=
    fun t k l h h' => (x_point m c t k l h h').trans (ref16 (m (c.tc.loc main_arg0)) (m (c.tc.loc main_arg1)) (m (c.tc.loc main_arg2)) (m (c.tc.loc main_arg3)) ⟨t.val / 4 * 1024 + k.val, h⟩ ⟨t.val % 4 * 256 + l.val, h'⟩).symm
  generalize GluUpRefIdeal.Read.val_main_v16 (F := Ideal) (m (c.tc.loc main_arg0)) (m (c.tc.loc main_arg1)) (m (c.tc.loc main_arg2)) (m (c.tc.loc main_arg3)) = G at hp ⊢
  refine (dats m 0 c).arrAt_eq_of_covers 7 _ (by decide +kernel) fun t hf y => ?_
  have ht : t.val < 16 := lt_of_lt_of_eq t.isLt N_0
  rw [after0_7, out7_apply]
  have e0 : (y 0).val < 1024 := (y 0).isLt
  have e1 : (y 1).val < 256 := (y 1).isLt
  have h : t.val / 4 * 1024 + (y 0).val < 4096 := by omega
  have h' : t.val % 4 * 256 + (y 1).val < 1024 := by omega
  have hq := hp t ⟨(y 0).val, e0⟩ ⟨(y 1).val, e1⟩ h h'
  generalize k0_pay4 (F := Ideal) (iblk m c 0 t) (iblk m c 1 t) (iblk m c 2 t) (iblk m c 3 t) (iblk m c 4 t) = O at hq ⊢
  refine Eq.trans ?_ (hq.trans ?_)
  · refine congrArg O (funext fun a => ?_)
    fin_cases a <;> rfl
  · refine (emb7 G t ⟨(y 0).val, e0⟩ ⟨(y 1).val, e1⟩ h h').symm.trans (congrArg G (congrArg _ (funext fun a => ?_)))
    fin_cases a <;> rfl

/-- The claim about the up-projection and its gate: both programs run from memories that agree on the arguments and end with the same three results. -/
theorem algebraic : algebraic_GluUpIdeal_GluUpRefIdeal := by
  intro m g m' g' _ h
  refine ⟨fun c => (dats m 0 c).arrAt 5 cfg0.N, fun c => (dats m 0 c).arrAt 6 cfg0.N, fun c => (dats m 0 c).arrAt 7 cfg0.N, Value.run_blocks m g, ?_⟩
  refine (θ_run GluUpRefIdeal.defs _ _).mono (fun r hr c => ?_) (GluUpRefIdeal.Value.run (F := Ideal) m' g')
  obtain ⟨h0, h1, h2, h3⟩ := h c
  refine ⟨(hr c).1.trans ?_, (hr c).2.1.trans ?_, (hr c).2.2.1.trans ?_, (hr c).2.2.2⟩
  · refine Eq.trans ?_ (value5 m c).symm
    rw [← h0, ← h1]
    exact GluUpRefIdeal.Read.val_main_v14_eq _ _
  · refine Eq.trans ?_ (value6 m c).symm
    rw [← h0, ← h1]
    exact GluUpRefIdeal.Read.val_main_v15_eq _ _
  · refine Eq.trans ?_ (value7 m c).symm
    rw [← h0, ← h1, ← h2, ← h3]
    exact GluUpRefIdeal.Read.val_main_v16_eq _ _ _ _

end Cert.GluUpIdeal.Val
end
-- ==== Proof.OProj.lean ====
module

public import proofs.«01_k».proof.Defs
public import proofs.«01_k».proof.Proof.Gen.OProj.Frame
public import proofs.«01_k».proof.Proof.Gen.OProjIdeal.Value
public import proofs.«01_k».proof.Proof.Gen.OProjRefIdeal.Run
public import proofs.«01_k».proof.Proof.Gen.OProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.OProjIdeal.Val

open Cert.OProjIdeal Cert.OProjIdeal.Gen

variable (m : (ℓ : Loc nD τ sig) → Buf (Elt Ideal) ℓ)

/-- An entry of the product of the attention's result with the output weight. -/
def oAt (X : Vec Ideal S2x2048x1024 .f32) (W : Vec Ideal S1024x1024 .f32) (r : Fin 4096) (j : Fin 1024) : EReal :=
  ∑ q : Fin 1024, X (ix3 ⟨r.val / 2048, by omega⟩ ⟨r.val % 2048, by omega⟩ q) * W (ix2 q j)

/-- An entry of the residual plus the gate times the product. -/
def sumAt (X : Vec Ideal S2x2048x1024 .f32) (W : Vec Ideal S1024x1024 .f32) (R : Vec Ideal S2x2048x1024 .f32) (g : Vec Ideal S2x1024 .f32)
    (r : Fin 4096) (j : Fin 1024) : EReal :=
  R (ix3 ⟨r.val / 2048, by omega⟩ ⟨r.val % 2048, by omega⟩ j) + g (ix2 ⟨r.val / 2048, by omega⟩ j) * oAt X W r j

/-- The body's product at an index. -/
theorem pay1_apply (A : Vec Ideal S1024x1024 .bf16) (W : Vec Ideal S1x1024x1024 .bf16) (k l : Fin 1024) :
    k0_pay1 A W (ix2 k l) = ∑ q : Fin 1024, A (ix2 k q) * W (ix3 0 q l) := by
  pointwise [k0_pay1]

/-- The body's gated sum at an index. -/
theorem pay2_apply (A : Vec Ideal S1024x1024 .bf16) (W : Vec Ideal S1x1024x1024 .bf16) (X : Vec Ideal S1024x1024 .f32) (g : Vec Ideal S1x1x1024 .f32) (k l : Fin 1024) :
    k0_pay2 A W X g (ix2 k l) = X (ix2 k l) + g (ix3 0 0 l) * k0_pay1 A W (ix2 k l) := by
  unfold k0_pay2
  generalize k0_pay1 A W = y
  pointwise

/-- Where each window's block lies. -/
theorem idx : ∀ t : Fin cfg0.N, win0_0.index t = ![t.val, 0] ∧ win0_1.index t = ![0, 0, 0] ∧ win0_2.index t = ![t.val, 0]
    ∧ win0_3.index t = ![t.val / 2, 0, 0] ∧ win0_4.index t = ![t.val, 0] ∧ win0_5.index t = ![t.val, 0] :=
  (by decide +kernel : ∀ t : Fin grid0.N, _)

/-- A block of rows of the attention's result, read at an index. -/
theorem blk0 (X : Vec Ideal S4096x1024 .bf16) (t : Fin cfg0.N) (k q : Fin 1024) (h : t.val * 1024 + k.val < 4096) :
    ((cfg0.win 0).blk t).view.read (Elt Ideal) X (ix2 k q) = X (ix2 ⟨t.val * 1024 + k.val, h⟩ q) := by
  blk_ext [idx t]

/-- The weight's one block, read at an index. -/
theorem blk1 (X : Vec Ideal S1x1024x1024 .bf16) (t : Fin cfg0.N) (q l : Fin 1024) :
    ((cfg0.win 1).blk t).view.read (Elt Ideal) X (ix3 0 q l) = X (ix3 0 q l) := by
  blk_ext [idx t]

/-- A block of rows of the residual, read at an index. -/
theorem blk2 (X : Vec Ideal S4096x1024 .f32) (t : Fin cfg0.N) (k l : Fin 1024) (h : t.val * 1024 + k.val < 4096) :
    ((cfg0.win 2).blk t).view.read (Elt Ideal) X (ix2 k l) = X (ix2 ⟨t.val * 1024 + k.val, h⟩ l) := by
  blk_ext [idx t]

/-- A row of the gate, read at an index. -/
theorem blk3 (X : Vec Ideal S2x1x1024 .f32) (t : Fin cfg0.N) (l : Fin 1024) (h : t.val / 2 < 2) :
    ((cfg0.win 3).blk t).view.read (Elt Ideal) X (ix3 0 0 l) = X (ix3 ⟨t.val / 2, h⟩ 0 l) := by
  blk_ext [idx t]

/-- Where an entry of a block of the first result lies in its array. -/
theorem emb4 (X : Vec Ideal S4096x1024 .f32) (t : Fin cfg0.N) (k l : Fin 1024) (h : t.val * 1024 + k.val < 4096) :
    ((cfg0.win 4).blk t).view.read (Elt Ideal) X (ix2 k l) = X (ix2 ⟨t.val * 1024 + k.val, h⟩ l) := by
  blk_ext [idx t]

/-- Where an entry of a block of the second result lies in its array. -/
theorem emb5 (X : Vec Ideal S4096x1024 .f32) (t : Fin cfg0.N) (k l : Fin 1024) (h : t.val * 1024 + k.val < 4096) :
    ((cfg0.win 5).blk t).view.read (Elt Ideal) X (ix2 k l) = X (ix2 ⟨t.val * 1024 + k.val, h⟩ l) := by
  blk_ext [idx t]

/-- The attention's result as rows, read at an index. -/
theorem rows_apply (X : Vec Ideal S2x2048x1024 .f32) (r : Fin 4096) (q : Fin 1024) :
    (truncf (F := Ideal) (φ := .f32) .bf16 (shapeCast S4096x1024 X shapeCasts_S2x2048x1024_S4096x1024 : Vec Ideal S4096x1024 .f32) bitsLt_bf16_f32 : Vec Ideal S4096x1024 .bf16) (ix2 r q)
      = X (ix3 ⟨r.val / 2048, by omega⟩ ⟨r.val % 2048, by omega⟩ q) := by
  pointwise

/-- The residual as rows, read at an index. -/
theorem rows32_apply (X : Vec Ideal S2x2048x1024 .f32) (r : Fin 4096) (q : Fin 1024) :
    (shapeCast S4096x1024 X shapeCasts_S2x2048x1024_S4096x1024 : Vec Ideal S4096x1024 .f32) (ix2 r q)
      = X (ix3 ⟨r.val / 2048, by omega⟩ ⟨r.val % 2048, by omega⟩ q) := by
  pointwise

/-- The weight with a leading axis of length one, read at an index. -/
theorem lead_apply (X : Vec Ideal S1024x1024 .f32) (q l : Fin 1024) :
    (truncf (F := Ideal) (φ := .f32) .bf16 (shapeCast S1x1024x1024 X shapeCasts_S1024x1024_S1x1024x1024 : Vec Ideal S1x1024x1024 .f32) bitsLt_bf16_f32 : Vec Ideal S1x1024x1024 .bf16) (ix3 0 q l)
      = X (ix2 q l) := by
  pointwise

/-- The gate with a middle axis of length one, read at an index. -/
theorem mid_apply (X : Vec Ideal S2x1024 .f32) (b : Fin 2) (l : Fin 1024) :
    (shapeCast S2x1x1024 X shapeCasts_S2x1024_S2x1x1024 : Vec Ideal S2x1x1024 .f32) (ix3 b 0 l) = X (ix2 b l) := by
  pointwise

/-- The attention's result the host part of the kernel prepares, read at an index. -/
theorem entry_x (c : Dev nD) (r : Fin 4096) (q : Fin 1024) :
    (V m c main_v1 : Vec Ideal S4096x1024 .bf16) (ix2 r q)
      = (m (c.tc.loc main_arg0) : Vec Ideal S2x2048x1024 .f32) (ix3 ⟨r.val / 2048, by omega⟩ ⟨r.val % 2048, by omega⟩ q) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact rows_apply _ r q

/-- The weight the host part of the kernel prepares, read at an index. -/
theorem entry_w (c : Dev nD) (q l : Fin 1024) :
    (V m c main_v3 : Vec Ideal S1x1024x1024 .bf16) (ix3 0 q l) = (m (c.tc.loc main_arg1) : Vec Ideal S1024x1024 .f32) (ix2 q l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact lead_apply _ q l

/-- The residual the host part of the kernel prepares, read at an index. -/
theorem entry_r (c : Dev nD) (r : Fin 4096) (q : Fin 1024) :
    (V m c main_v4 : Vec Ideal S4096x1024 .f32) (ix2 r q)
      = (m (c.tc.loc main_arg2) : Vec Ideal S2x2048x1024 .f32) (ix3 ⟨r.val / 2048, by omega⟩ ⟨r.val % 2048, by omega⟩ q) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact rows32_apply _ r q

/-- The gate the host part of the kernel prepares, read at an index. -/
theorem entry_g (c : Dev nD) (b : Fin 2) (l : Fin 1024) :
    (V m c main_v5 : Vec Ideal S2x1x1024 .f32) (ix3 b 0 l) = (m (c.tc.loc main_arg3) : Vec Ideal S2x1024 .f32) (ix2 b l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact mid_apply _ b l

/-- The reference's product, read at an index. -/
theorem ref_o (x0 : Vec Ideal S2x2048x1024 .f32) (x1 : Vec Ideal S1024x1024 .f32) (r : Fin 4096) (j : Fin 1024) (i : OProjRefIdeal.S2x2048x1024.Idx)
    (h0 : (i 0).val = r.val / 2048) (h1 : (i 1).val = r.val % 2048) (h2 : (i 2).val = j.val) :
    OProjRefIdeal.Read.val_main_v0 (F := Ideal) x0 x1 i = oAt x0 x1 r j := by
  rw [OProjRefIdeal.Read.val_main_v0_apply]
  unfold oAt
  refine Finset.sum_congr rfl fun q _ => congrArg₂ (fun x y : EReal => x * y) (congrArg x0 (funext fun d => ?_)) (congrArg x1 (funext fun d => ?_))
  · fin_cases d
    · exact Fin.ext h0
    · exact Fin.ext h1
    · rfl
  · fin_cases d
    · rfl
    · exact Fin.ext h2

/-- The reference's product as rows, read at an index. -/
theorem ref5 (x0 : Vec Ideal S2x2048x1024 .f32) (x1 : Vec Ideal S1024x1024 .f32) (r : Fin 4096) (j : Fin 1024) :
    OProjRefIdeal.Read.val_main_v5 (F := Ideal) x0 x1 (ix2 r j) = oAt x0 x1 r j := by
  rw [OProjRefIdeal.Read.val_main_v5_apply]
  refine ref_o x0 x1 r _ _ ?_ ?_ ?_
  · show (r.val * 1024 + j.val) / 2097152 = r.val / 2048; omega
  · show (r.val * 1024 + j.val) / 1024 % 2048 = r.val % 2048; omega
  · show (r.val * 1024 + j.val) % 1024 = j.val; omega

/-- The reference's gated sum as rows, read at an index. -/
theorem ref6 (x0 : Vec Ideal S2x2048x1024 .f32) (x1 : Vec Ideal S1024x1024 .f32) (x2 : Vec Ideal S2x2048x1024 .f32) (x3 : Vec Ideal S2x1024 .f32) (r : Fin 4096) (j : Fin 1024) :
    OProjRefIdeal.Read.val_main_v6 (F := Ideal) x0 x1 x2 x3 (ix2 r j) = sumAt x0 x1 x2 x3 r j := by
  have e0 : (r.val * 1024 + j.val) / 2097152 = r.val / 2048 := by omega
  have e1 : (r.val * 1024 + j.val) / 1024 % 2048 = r.val % 2048 := by omega
  have e2 : (r.val * 1024 + j.val) % 1024 = j.val := by omega
  rw [OProjRefIdeal.Read.val_main_v6_apply, OProjRefIdeal.Read.val_main_v4_apply, OProjRefIdeal.Read.val_main_v3_apply,
    OProjRefIdeal.Read.val_main_v2_apply, OProjRefIdeal.Read.val_main_v1_apply]
  refine congrArg₂ (fun x y : EReal => x + y) (congrArg x2 (funext fun d => ?_)) (congrArg₂ (fun x y : EReal => x * y) (congrArg x3 (funext fun d => ?_)) ?_)
  · fin_cases d
    · exact Fin.ext e0
    · exact Fin.ext e1
    · exact Fin.ext e2
  · fin_cases d
    · exact Fin.ext e0
    · exact Fin.ext e2
  · exact ref_o x0 x1 r _ _ e0 e1 e2

/-- What a point leaves in the first result's block. -/
theorem out4_apply (A : Vec Ideal S1024x1024 .bf16) (W : Vec Ideal S1x1024x1024 .bf16) (X : Vec Ideal S1024x1024 .f32) (g : Vec Ideal S1x1x1024 .f32) : out0_4 A W X g = k0_pay1 A W := by
  frame_open
  frame_out

/-- What a point leaves in the second result's block. -/
theorem out5_apply (A : Vec Ideal S1024x1024 .bf16) (W : Vec Ideal S1x1024x1024 .bf16) (X : Vec Ideal S1024x1024 .f32) (g : Vec Ideal S1x1x1024 .f32) : out0_5 A W X g = k0_pay2 A W X g := by
  frame_open
  frame_out

/-- The body's product at a point, over the whole arrays. -/
theorem o_point (c : Dev nD) (t : Fin cfg0.N) (k l : Fin 1024) (h : t.val * 1024 + k.val < 4096) :
    k0_pay1 (F := Ideal) (iblk m c 0 t) (iblk m c 1 t) (ix2 k l)
      = oAt (m (c.tc.loc main_arg0)) (m (c.tc.loc main_arg1)) ⟨t.val * 1024 + k.val, h⟩ l := by
  rw [pay1_apply]
  refine Finset.sum_congr rfl fun q _ => congrArg₂ (fun x y : EReal => x * y) ?_ ?_
  · unfold iblk
    exact (blk0 _ t k q h).trans (entry_x m c _ q)
  · unfold iblk
    exact (blk1 _ t q l).trans (entry_w m c q l)

/-- The body's gated sum at a point, over the whole arrays. -/
theorem sum_point (c : Dev nD) (t : Fin cfg0.N) (k l : Fin 1024) (h : t.val * 1024 + k.val < 4096) :
    k0_pay2 (F := Ideal) (iblk m c 0 t) (iblk m c 1 t) (iblk m c 2 t) (iblk m c 3 t) (ix2 k l)
      = sumAt (m (c.tc.loc main_arg0)) (m (c.tc.loc main_arg1)) (m (c.tc.loc main_arg2)) (m (c.tc.loc main_arg3)) ⟨t.val * 1024 + k.val, h⟩ l := by
  have ht : t.val < 4 := lt_of_lt_of_eq t.isLt N_0
  rw [pay2_apply]
  refine congrArg₂ (fun x y : EReal => x + y) ?_ (congrArg₂ (fun x y : EReal => x * y) ?_ (o_point m c t k l h))
  · unfold iblk
    exact (blk2 _ t k l h).trans (entry_r m c _ _)
  · unfold iblk
    refine (blk3 _ t l (by omega)).trans ((entry_g m c _ _).trans ?_)
    refine congrArg (m (c.tc.loc main_arg3)) (congrArg (ix2 · _) (Fin.ext ?_))
    show t.val / 2 = (t.val * 1024 + k.val) / 2048
    omega

/-- The first result array is the reference's. -/
theorem value4 (c : Dev nD) : (dats m 0 c).arrAt 4 cfg0.N
    = OProjRefIdeal.Read.val_main_v5 (F := Ideal) (m (c.tc.loc main_arg0)) (m (c.tc.loc main_arg1)) := by
  have hp : ∀ (t : Fin cfg0.N) (k l : Fin 1024) (h : t.val * 1024 + k.val < 4096),
      k0_pay1 (F := Ideal) (iblk m c 0 t) (iblk m c 1 t) (ix2 k l)
        = OProjRefIdeal.Read.val_main_v5 (F := Ideal) (m (c.tc.loc main_arg0)) (m (c.tc.loc main_arg1)) (ix2 ⟨t.val * 1024 + k.val, h⟩ l) :=
    fun t k l h => (o_point m c t k l h).trans (ref5 (m (c.tc.loc main_arg0)) (m (c.tc.loc main_arg1)) ⟨t.val * 1024 + k.val, h⟩ l).symm
  generalize OProjRefIdeal.Read.val_main_v5 (F := Ideal) (m (c.tc.loc main_arg0)) (m (c.tc.loc main_arg1)) = G at hp ⊢
  refine (dats m 0 c).arrAt_eq_of_covers 4 _ (by decide +kernel) fun t hf y => ?_
  have ht : t.val < 4 := lt_of_lt_of_eq t.isLt N_0
  rw [after0_4, out4_apply]
  have e0 : (y 0).val < 1024 := (y 0).isLt
  have e1 : (y 1).val < 1024 := (y 1).isLt
  have h : t.val * 1024 + (y 0).val < 4096 := by omega
  have hq := hp t ⟨(y 0).val, e0⟩ ⟨(y 1).val, e1⟩ h
  generalize k0_pay1 (F := Ideal) (iblk m c 0 t) (iblk m c 1 t) = O at hq ⊢
  refine Eq.trans ?_ (hq.trans ?_)
  · refine congrArg O (funext fun a => ?_)
    fin_cases a <;> rfl
  · refine (emb4 G t ⟨(y 0).val, e0⟩ ⟨(y 1).val, e1⟩ h).symm.trans (congrArg G (congrArg _ (funext fun a => ?_)))
    fin_cases a <;> rfl

/-- The second result array is the reference's. -/
theorem value5 (c : Dev nD) : (dats m 0 c).arrAt 5 cfg0.N
    = OProjRefIdeal.Read.val_main_v6 (F := Ideal) (m (c.tc.loc main_arg0)) (m (c.tc.loc main_arg1)) (m (c.tc.loc main_arg2)) (m (c.tc.loc main_arg3)) := by
  have hp : ∀ (t : Fin cfg0.N) (k l : Fin 1024) (h : t.val * 1024 + k.val < 4096),
      k0_pay2 (F := Ideal) (iblk m c 0 t) (iblk m c 1 t) (iblk m c 2 t) (iblk m c 3 t) (ix2 k l)
        = OProjRefIdeal.Read.val_main_v6 (F := Ideal) (m (c.tc.loc main_arg0)) (m (c.tc.loc main_arg1)) (m (c.tc.loc main_arg2)) (m (c.tc.loc main_arg3)) (ix2 ⟨t.val * 1024 + k.val, h⟩ l) :=
    fun t k l h => (sum_point m c t k l h).trans (ref6 (m (c.tc.loc main_arg0)) (m (c.tc.loc main_arg1)) (m (c.tc.loc main_arg2)) (m (c.tc.loc main_arg3)) ⟨t.val * 1024 + k.val, h⟩ l).symm
  generalize OProjRefIdeal.Read.val_main_v6 (F := Ideal) (m (c.tc.loc main_arg0)) (m (c.tc.loc main_arg1)) (m (c.tc.loc main_arg2)) (m (c.tc.loc main_arg3)) = G at hp ⊢
  refine (dats m 0 c).arrAt_eq_of_covers 5 _ (by decide +kernel) fun t hf y => ?_
  have ht : t.val < 4 := lt_of_lt_of_eq t.isLt N_0
  rw [after0_5, out5_apply]
  have e0 : (y 0).val < 1024 := (y 0).isLt
  have e1 : (y 1).val < 1024 := (y 1).isLt
  have h : t.val * 1024 + (y 0).val < 4096 := by omega
  have hq := hp t ⟨(y 0).val, e0⟩ ⟨(y 1).val, e1⟩ h
  generalize k0_pay2 (F := Ideal) (iblk m c 0 t) (iblk m c 1 t) (iblk m c 2 t) (iblk m c 3 t) = O at hq ⊢
  refine Eq.trans ?_ (hq.trans ?_)
  · refine congrArg O (funext fun a => ?_)
    fin_cases a <;> rfl
  · refine (emb5 G t ⟨(y 0).val, e0⟩ ⟨(y 1).val, e1⟩ h).symm.trans (congrArg G (congrArg _ (funext fun a => ?_)))
    fin_cases a <;> rfl

/-- The claim about the output projection: both programs run from memories that agree on the arguments and end with the same two results. -/
theorem algebraic : algebraic_OProjIdeal_OProjRefIdeal := by
  intro m g m' g' _ h
  refine ⟨fun c => (dats m 0 c).arrAt 4 cfg0.N, fun c => (dats m 0 c).arrAt 5 cfg0.N, Value.run_blocks m g, ?_⟩
  refine (θ_run OProjRefIdeal.defs _ _).mono (fun r hr c => ?_) (OProjRefIdeal.Value.run (F := Ideal) m' g')
  obtain ⟨h0, h1, h2, h3⟩ := h c
  refine ⟨(hr c).1.trans ?_, (hr c).2.1.trans ?_, (hr c).2.2⟩
  · refine Eq.trans ?_ (value4 m c).symm
    rw [← h0, ← h1]
    exact OProjRefIdeal.Read.val_main_v5_eq _ _
  · refine Eq.trans ?_ (value5 m c).symm
    rw [← h0, ← h1, ← h2, ← h3]
    exact OProjRefIdeal.Read.val_main_v6_eq _ _ _ _

end Cert.OProjIdeal.Val
end
-- ==== Proof.VProj.lean ====
module

public import proofs.«01_k».proof.Defs
public import proofs.«01_k».proof.Proof.Gen.VProj.Frame
public import proofs.«01_k».proof.Proof.Gen.VProjIdeal.Value
public import proofs.«01_k».proof.Proof.Gen.VProjRefIdeal.Run
public import proofs.«01_k».proof.Proof.Gen.VProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.VProjIdeal.Val

open Cert.VProjIdeal Cert.VProjIdeal.Gen

variable (m : (ℓ : Loc nD τ sig) → Buf (Elt Ideal) ℓ)

/-- An entry of the values: a row of the input times a column of the second half of the weight. -/
def vAt (X : Vec Ideal S4096x1024 .f32) (W : Vec Ideal S1024x2048 .f32) (r : Fin 4096) (j : Fin 1024) : EReal :=
  ∑ q : Fin 1024, X (ix2 r q) * W (ix2 q ⟨1024 + j.val, by omega⟩)

/-- The body's product at an index. -/
theorem pay1_apply (A : Vec Ideal S2048x1024 .bf16) (W : Vec Ideal S1x1024x256 .bf16) (k : Fin 2048) (l : Fin 256) :
    k0_pay1 A W (ix2 k l) = ∑ q : Fin 1024, A (ix2 k q) * W (ix3 0 q l) := by
  pointwise [k0_pay1]

/-- Where each window's block lies. -/
theorem idx : ∀ t : Fin cfg0.N, win0_0.index t = ![t.val / 4, 0] ∧ win0_1.index t = ![4 + t.val % 4, 0, 0] ∧ win0_2.index t = ![t.val / 4, t.val % 4] :=
  (by decide +kernel : ∀ t : Fin grid0.N, _)

/-- A block of rows of the input, read at an index. -/
theorem blk0 (X : Vec Ideal S4096x1024 .bf16) (t : Fin cfg0.N) (k : Fin 2048) (q : Fin 1024) (h : t.val / 4 * 2048 + k.val < 4096) :
    ((cfg0.win 0).blk t).view.read (Elt Ideal) X (ix2 k q) = X (ix2 ⟨t.val / 4 * 2048 + k.val, h⟩ q) := by
  blk_ext [idx t]

/-- A slab of the second half of the weight, read at an index. -/
theorem blk1 (X : Vec Ideal S8x1024x256 .bf16) (t : Fin cfg0.N) (q : Fin 1024) (l : Fin 256) (h : 4 + t.val % 4 < 8) :
    ((cfg0.win 1).blk t).view.read (Elt Ideal) X (ix3 0 q l) = X (ix3 ⟨4 + t.val % 4, h⟩ q l) := by
  blk_ext [idx t]

/-- Where an entry of a block of the result lies in its array. -/
theorem emb2 (X : Vec Ideal S4096x1024 .bf16) (t : Fin cfg0.N) (k : Fin 2048) (l : Fin 256) (h : t.val / 4 * 2048 + k.val < 4096)
    (h' : t.val % 4 * 256 + l.val < 1024) :
    ((cfg0.win 2).blk t).view.read (Elt Ideal) X (ix2 k l) = X (ix2 ⟨t.val / 4 * 2048 + k.val, h⟩ ⟨t.val % 4 * 256 + l.val, h'⟩) := by
  blk_ext [idx t]

/-- A matrix cut into column slabs, read at an index. -/
theorem slabs_cols (X : Vec Ideal S1024x2048 .f32) (s : Fin 8) (k : Fin 1024) (l : Fin 256) (h : s.val * 256 + l.val < 2048) :
    (truncf (F := Ideal) (φ := .f32) .bf16 (transpose S8x1024x256 [1, 0, 2] (shapeCast S1024x8x256 X shapeCasts_S1024x2048_S1024x8x256) transposes_S1024x8x256_S8x1024x256_1_0_2) bitsLt_bf16_f32
      : Vec Ideal S8x1024x256 .bf16) (ix3 s k l) = X (ix2 k ⟨s.val * 256 + l.val, h⟩) := by
  pointwise

/-- The input the host part of the kernel prepares is the argument. -/
theorem entry_x (c : Dev nD) : V m c main_v0 = m (c.tc.loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- The weight the host part of the kernel prepares, read at an index. -/
theorem entry_w (c : Dev nD) (s : Fin 8) (k : Fin 1024) (l : Fin 256) (h : s.val * 256 + l.val < 2048) :
    (V m c main_v3 : Vec Ideal S8x1024x256 .bf16) (ix3 s k l)
      = (m (c.tc.loc main_arg1) : Vec Ideal S1024x2048 .f32) (ix2 k ⟨s.val * 256 + l.val, h⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_cols _ s k l h

/-- The reference's values, read at an index. -/
theorem ref3 (x0 : Vec Ideal S4096x1024 .f32) (x1 : Vec Ideal S1024x2048 .f32) (r : Fin 4096) (j : Fin 1024) :
    VProjRefIdeal.Read.val_main_v3 (F := Ideal) x0 x1 (ix2 r j) = vAt x0 x1 r j := by
  rw [VProjRefIdeal.Read.val_main_v3_apply, VProjRefIdeal.Read.val_main_v2_apply, VProjRefIdeal.Read.val_main_v0_apply]
  show (∑ q : Fin 1024, _ : EReal) = _
  unfold vAt
  refine Finset.sum_congr rfl fun q _ => congrArg₂ (fun x y : EReal => x * y) (congrArg x0 (funext fun d => ?_)) (congrArg x1 (funext fun d => ?_))
  · fin_cases d <;> rfl
  · fin_cases d <;> rfl

/-- What a point leaves in the result's block. -/
theorem out2_apply (A : Vec Ideal S2048x1024 .bf16) (W : Vec Ideal S1x1024x256 .bf16) : out0_2 A W = k0_pay1 A W := by
  frame_open
  frame_out

/-- The body's product at a point, over the whole arrays. -/
theorem point (c : Dev nD) (t : Fin cfg0.N) (k : Fin 2048) (l : Fin 256) (h : t.val / 4 * 2048 + k.val < 4096) (h' : t.val % 4 * 256 + l.val < 1024) :
    k0_pay1 (F := Ideal) (iblk m c 0 t) (iblk m c 1 t) (ix2 k l)
      = vAt (m (c.tc.loc main_arg0)) (m (c.tc.loc main_arg1)) ⟨t.val / 4 * 2048 + k.val, h⟩ ⟨t.val % 4 * 256 + l.val, h'⟩ := by
  rw [pay1_apply]
  refine Finset.sum_congr rfl fun q _ => congrArg₂ (fun x y : EReal => x * y) ?_ ?_
  · unfold iblk
    exact (blk0 _ t k q h).trans (congrFun (entry_x m c) _)
  · unfold iblk
    refine (blk1 _ t q l (by omega)).trans ((entry_w m c _ q l (by show (4 + t.val % 4) * 256 + l.val < 2048; omega)).trans ?_)
    refine congrArg (m (c.tc.loc main_arg1)) (congrArg (ix2 q) (Fin.ext ?_))
    show (4 + t.val % 4) * 256 + l.val = 1024 + (t.val % 4 * 256 + l.val)
    omega

/-- The result array is the reference's. -/
theorem value2 (c : Dev nD) : (dats m 0 c).arrAt 2 cfg0.N
    = VProjRefIdeal.Read.val_main_v3 (F := Ideal) (m (c.tc.loc main_arg0)) (m (c.tc.loc main_arg1)) := by
  have hp : ∀ (t : Fin cfg0.N) (k : Fin 2048) (l : Fin 256) (h : t.val / 4 * 2048 + k.val < 4096) (h' : t.val % 4 * 256 + l.val < 1024),
      k0_pay1 (F := Ideal) (iblk m c 0 t) (iblk m c 1 t) (ix2 k l)
        = VProjRefIdeal.Read.val_main_v3 (F := Ideal) (m (c.tc.loc main_arg0)) (m (c.tc.loc main_arg1)) (ix2 ⟨t.val / 4 * 2048 + k.val, h⟩ ⟨t.val % 4 * 256 + l.val, h'⟩) :=
    fun t k l h h' => (point m c t k l h h').trans (ref3 (m (c.tc.loc main_arg0)) (m (c.tc.loc main_arg1)) ⟨t.val / 4 * 2048 + k.val, h⟩ ⟨t.val % 4 * 256 + l.val, h'⟩).symm
  generalize VProjRefIdeal.Read.val_main_v3 (F := Ideal) (m (c.tc.loc main_arg0)) (m (c.tc.loc main_arg1)) = G at hp ⊢
  refine (dats m 0 c).arrAt_eq_of_covers 2 _ (by decide +kernel) fun t hf y => ?_
  have ht : t.val < 8 := lt_of_lt_of_eq t.isLt N_0
  rw [after0_2, out2_apply]
  have e0 : (y 0).val < 2048 := (y 0).isLt
  have e1 : (y 1).val < 256 := (y 1).isLt
  have h : t.val / 4 * 2048 + (y 0).val < 4096 := by omega
  have h' : t.val % 4 * 256 + (y 1).val < 1024 := by omega
  have hq := hp t ⟨(y 0).val, e0⟩ ⟨(y 1).val, e1⟩ h h'
  generalize k0_pay1 (F := Ideal) (iblk m c 0 t) (iblk m c 1 t) = O at hq ⊢
  refine Eq.trans ?_ (hq.trans ?_)
  · refine congrArg O (funext fun a => ?_)
    fin_cases a <;> rfl
  · refine (emb2 G t ⟨(y 0).val, e0⟩ ⟨(y 1).val, e1⟩ h h').symm.trans (congrArg G (congrArg _ (funext fun a => ?_)))
    fin_cases a <;> rfl

/-- The claim about the values' projection: both programs run from memories that agree on the arguments and end with the same result. -/
theorem algebraic : algebraic_VProjIdeal_VProjRefIdeal := by
  intro m g m' g' _ h
  refine ⟨fun c => (dats m 0 c).arrAt 2 cfg0.N, Value.run_blocks m g, ?_⟩
  refine (θ_run VProjRefIdeal.defs _ _).mono (fun r hr c => ?_) (VProjRefIdeal.Value.run (F := Ideal) m' g')
  refine ⟨(hr c).1.trans ?_, (hr c).2⟩
  refine Eq.trans ?_ (value2 m c).symm
  rw [← (h c).1, ← (h c).2]
  exact VProjRefIdeal.Read.val_main_v3_eq _ _

end Cert.VProjIdeal.Val
end
-- ==== Proof.KProj.lean ====
module

public import proofs.«01_k».proof.Defs
public import proofs.«01_k».proof.Proof.Gen.KProj.Frame
public import proofs.«01_k».proof.Proof.Gen.KProjIdeal.Value
public import proofs.«01_k».proof.Proof.Gen.KProjRefIdeal.Run
public import proofs.«01_k».proof.Proof.Gen.KProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.KProjIdeal.Val

open Cert.KProjIdeal Cert.KProjIdeal.Gen

variable (m : (ℓ : Loc nD τ sig) → Buf (Elt Ideal) ℓ)

/-- An entry of the keys before their norm: a row of the input times a column of the first half of the weight. -/
def kAt (X : Vec Ideal S4096x1024 .f32) (W : Vec Ideal S1024x2048 .f32) (r : Fin 4096) (j : Fin 1024) : EReal :=
  ∑ q : Fin 1024, X (ix2 r q) * W (ix2 q ⟨j.val, by omega⟩)

/-- An entry of the keys under their root-mean-square norm: the entry over the root of the mean of squares of its head, times the gain. -/
def normAt (X : Vec Ideal S4096x1024 .f32) (W : Vec Ideal S1024x2048 .f32) (g : Vec Ideal S64 .f32) (r : Fin 4096) (j : Fin 1024) : EReal :=
  kAt X W r j * Ideal.rsqrt (Ideal.div (∑ p : Fin 64, kAt X W r ⟨j.val / 64 * 64 + p.val, by omega⟩ * kAt X W r ⟨j.val / 64 * 64 + p.val, by omega⟩) (Ideal.ofBits .f32 0x42800000#32)
    + Ideal.ofBits .f32 0x358637BD#32) * g (ix1 ⟨j.val % 64, by omega⟩)

/-- The mask of the first 64 of 128 lanes, read at an index. -/
theorem mask_apply : ∀ q : Fin 128, k0_pay5 (ix2 0 q) = if q.val < 64 then 1#1 else 0#1 := by decide +kernel

/-- A sum over 128 lanes of the terms of the first 64 is the sum of those. -/
theorem sum_low (f : Fin 128 → EReal) : (∑ q : Fin 128, if q.val < 64 then f q else 0) = ∑ p : Fin 64, f ⟨p.val, by omega⟩ := by
  show (∑ q : Fin (64 + 64), if q.val < 64 then f q else 0) = _
  rw [Fin.sum_univ_add]
  have h1 : (∑ i : Fin 64, if (Fin.natAdd 64 i : Fin (64 + 64)).val < 64 then f (Fin.natAdd 64 i) else 0) = 0 :=
    Finset.sum_eq_zero fun i _ => if_neg (by show ¬ 64 + i.val < 64; omega)
  rw [h1, add_zero]
  refine Finset.sum_congr rfl fun i _ => ?_
  exact if_pos (show i.val < 64 from i.isLt)

/-- A sum over 128 lanes of the terms of the last 64 is the sum of those. -/
theorem sum_high (f : Fin 128 → EReal) : (∑ q : Fin 128, if q.val < 64 then 0 else f q) = ∑ p : Fin 64, f ⟨64 + p.val, by omega⟩ := by
  show (∑ q : Fin (64 + 64), if q.val < 64 then 0 else f q) = _
  rw [Fin.sum_univ_add]
  have h1 : (∑ i : Fin 64, if (Fin.castAdd 64 i : Fin (64 + 64)).val < 64 then 0 else f (Fin.castAdd 64 i)) = 0 :=
    Finset.sum_eq_zero fun i _ => if_pos (show i.val < 64 from i.isLt)
  rw [h1, zero_add]
  refine Finset.sum_congr rfl fun i _ => ?_
  exact if_neg (by show ¬ 64 + i.val < 64; omega)

/-- The sums over the masked lanes of each row. -/
def low (M : IVec S1x128 1) (Y : FVec Ideal S2048x128 .f32) : FVec Ideal S2048x1 .f32 :=
  shapeCast S2048x1 (multiReduction .add [1] S2048 (select (broadcastTo S2048x128 (shapeCast S1x128 M shapeCasts_S1x128_S1x128) broadcasts_S1x128_S2048x128) Y (broadcast S2048x128 (Scalar.ofBits (F := Ideal) .f32 0x00000000#32)))
    0x00000000#32 reduces_S2048x128_S2048 (.inl rfl) rfl) shapeCasts_S2048_S2048x1

/-- The sums over the lanes of each row that are not masked. -/
def high (M : IVec S1x128 1) (Y : FVec Ideal S2048x128 .f32) : FVec Ideal S2048x1 .f32 :=
  shapeCast S2048x1 (multiReduction .add [1] S2048 (select (broadcastTo S2048x128 (shapeCast S1x128 M shapeCasts_S1x128_S1x128) broadcasts_S1x128_S2048x128) (broadcast S2048x128 (Scalar.ofBits (F := Ideal) .f32 0x00000000#32)) Y)
    0x00000000#32 reduces_S2048x128_S2048 (.inl rfl) rfl) shapeCasts_S2048_S2048x1

/-- Each lane's sum: the one column at the masked lanes, the other elsewhere. -/
def pick (M : IVec S1x128 1) (u w : FVec Ideal S2048x1 .f32) : FVec Ideal S2048x128 .f32 :=
  select (broadcastTo S2048x128 (shapeCast S1x128 M shapeCasts_S1x128_S1x128) broadcasts_S1x128_S2048x128)
    (broadcastTo S2048x128 (shapeCast S2048x1 u shapeCasts_S2048x1_S2048x1) broadcasts_S2048x1_S2048x128)
    (broadcastTo S2048x128 (shapeCast S2048x1 w shapeCasts_S2048x1_S2048x1) broadcasts_S2048x1_S2048x128)

/-- The masked lanes' sums, read at an index. -/
theorem low_apply (Y : FVec Ideal S2048x128 .f32) (k : Fin 2048) : low k0_pay5 Y (ix2 k 0) = ∑ p : Fin 64, Y (ix2 k ⟨p.val, by omega⟩) := by
  have hM := mask_apply
  generalize k0_pay5 = M at hM ⊢
  pointwise [low]
  refine Eq.trans (Finset.sum_congr rfl fun q _ => ?_) (sum_low fun q => Y (ix2 k q))
  rw [hM q]
  by_cases h : q.val < 64 <;> simp [h, Scalar.select]

/-- The other lanes' sums, read at an index. -/
theorem high_apply (Y : FVec Ideal S2048x128 .f32) (k : Fin 2048) : high k0_pay5 Y (ix2 k 0) = ∑ p : Fin 64, Y (ix2 k ⟨64 + p.val, by omega⟩) := by
  have hM := mask_apply
  generalize k0_pay5 = M at hM ⊢
  pointwise [high]
  refine Eq.trans (Finset.sum_congr rfl fun q _ => ?_) (sum_high fun q => Y (ix2 k q))
  rw [hM q]
  by_cases h : q.val < 64 <;> simp [h, Scalar.select]

/-- Each lane's sum, read at an index. -/
theorem pick_apply (u w : FVec Ideal S2048x1 .f32) (k : Fin 2048) (l : Fin 128) :
    pick k0_pay5 u w (ix2 k l) = if l.val < 64 then u (ix2 k 0) else w (ix2 k 0) := by
  have hM := mask_apply
  generalize k0_pay5 = M at hM ⊢
  pointwise [pick]
  rw [hM l]
  by_cases h : l.val < 64 <;> simp [h, Scalar.select]

/-- The sum over its head, at each lane of a part of 128 lanes. -/
theorem part_apply (Y : FVec Ideal S2048x128 .f32) (k : Fin 2048) (l : Fin 128) :
    pick k0_pay5 (low k0_pay5 Y) (high k0_pay5 Y) (ix2 k l) = ∑ p : Fin 64, Y (ix2 k ⟨l.val / 64 * 64 + p.val, by omega⟩) := by
  rw [pick_apply, low_apply, high_apply]
  by_cases h : l.val < 64
  · rw [if_pos h]
    refine Finset.sum_congr rfl fun p _ => congrArg Y (congrArg (ix2 k) (Fin.ext ?_))
    show p.val = l.val / 64 * 64 + p.val
    omega
  · rw [if_neg h]
    refine Finset.sum_congr rfl fun p _ => congrArg Y (congrArg (ix2 k) (Fin.ext ?_))
    show 64 + p.val = l.val / 64 * 64 + p.val
    omega

/-- The body's product at an index. -/
theorem pay2_apply (A : Vec Ideal S2048x1024 .bf16) (W : Vec Ideal S1x1024x256 .bf16) (k : Fin 2048) (l : Fin 256) :
    k0_pay2 A W (ix2 k l) = ∑ q : Fin 1024, A (ix2 k q) * W (ix3 0 q l) := by
  pointwise [k0_pay2]

/-- The first part's sums, from the squares of the first 128 lanes. -/
theorem pay6_eq (A : Vec Ideal S2048x1024 .bf16) (W : Vec Ideal S1x1024x256 .bf16) :
    k0_pay6 A W = pick k0_pay5 (low k0_pay5 (extractStridedSlice S2048x128 ![0, 0] (k0_pay4 A W) slices_S2048x256_o0_0_S2048x128))
      (high k0_pay5 (extractStridedSlice S2048x128 ![0, 0] (k0_pay4 A W) slices_S2048x256_o0_0_S2048x128)) := rfl

/-- The first part's sums at an index. -/
theorem pay6_apply (A : Vec Ideal S2048x1024 .bf16) (W : Vec Ideal S1x1024x256 .bf16) (k : Fin 2048) (l : Fin 128) :
    k0_pay6 A W (ix2 k l) = ∑ p : Fin 64, k0_pay2 A W (ix2 k ⟨l.val / 64 * 64 + p.val, by omega⟩) * k0_pay2 A W (ix2 k ⟨l.val / 64 * 64 + p.val, by omega⟩) := by
  rw [pay6_eq, part_apply]
  unfold k0_pay4
  generalize k0_pay2 A W = y
  pointwise

/-- The second part's sums at an index. -/
theorem pay8_apply (A : Vec Ideal S2048x1024 .bf16) (W : Vec Ideal S1x1024x256 .bf16) (k : Fin 2048) (l : Fin 128) :
    pick k0_pay5 (low k0_pay5 (k0_pay7 A W)) (high k0_pay5 (k0_pay7 A W)) (ix2 k l)
      = ∑ p : Fin 64, k0_pay2 A W (ix2 k ⟨128 + (l.val / 64 * 64 + p.val), by omega⟩) * k0_pay2 A W (ix2 k ⟨128 + (l.val / 64 * 64 + p.val), by omega⟩) := by
  rw [part_apply]
  unfold k0_pay7 k0_pay4
  generalize k0_pay2 A W = y
  pointwise

/-- The normed keys of the body, from the parts' sums. -/
theorem pay1_eq (A : Vec Ideal S2048x1024 .bf16) (W : Vec Ideal S1x1024x256 .bf16) (y : FVec Ideal S2048x256 .f32) (g : FVec Ideal S1x256 .f32) (a : FVec Ideal S2048x128 .f32) :
    k0_pay1 y g k0_pay5 a (k0_pay8 A W) (k0_pay9 A W)
      = truncf .bf16 (mulf (mulf y (rsqrt (addf (mulf (concatenate S2048x256 1 [⟨S2048x128, a⟩, ⟨S2048x128, pick k0_pay5 (low k0_pay5 (k0_pay7 A W)) (high k0_pay5 (k0_pay7 A W))⟩] concatenates_S2048x128_S2048x128_S2048x256_d1)
          (broadcast S2048x256 (Scalar.ofBits .f32 0x3C800000#32))) (broadcast S2048x256 (Scalar.ofBits .f32 0x358637BD#32))))) (broadcastTo S2048x256 g broadcasts_S1x256_S2048x256)) bitsLt_bf16_f32 := rfl

/-- Both parts' sums side by side, at an index. -/
theorem sums_apply (A : Vec Ideal S2048x1024 .bf16) (W : Vec Ideal S1x1024x256 .bf16) (k : Fin 2048) (l : Fin 256) :
    (concatenate S2048x256 1 [⟨S2048x128, k0_pay6 A W⟩, ⟨S2048x128, pick k0_pay5 (low k0_pay5 (k0_pay7 A W)) (high k0_pay5 (k0_pay7 A W))⟩] concatenates_S2048x128_S2048x128_S2048x256_d1
      : FVec Ideal S2048x256 .f32) (ix2 k l)
      = ∑ p : Fin 64, k0_pay2 A W (ix2 k ⟨l.val / 64 * 64 + p.val, by omega⟩) * k0_pay2 A W (ix2 k ⟨l.val / 64 * 64 + p.val, by omega⟩) := by
  have h6 := pay6_apply A W
  have h8 := pay8_apply A W
  generalize k0_pay6 A W = u at h6 ⊢
  generalize pick k0_pay5 (low k0_pay5 (k0_pay7 A W)) (high k0_pay5 (k0_pay7 A W)) = w at h8 ⊢
  pointwise
  by_cases h : l.val < 128
  · rw [dif_pos h]
    exact h6 k ⟨l.val, h⟩
  · rw [dif_neg h]
    refine (h8 k ⟨l.val - 128, by omega⟩).trans ?_
    have e : ∀ p : Fin 64, (⟨128 + ((l.val - 128) / 64 * 64 + p.val), by omega⟩ : Fin 256) = ⟨l.val / 64 * 64 + p.val, by omega⟩ := fun p => Fin.ext (by show 128 + ((l.val - 128) / 64 * 64 + p.val) = l.val / 64 * 64 + p.val; omega)
    exact Finset.sum_congr rfl fun p _ => by rw [e p]

/-- Multiplying by a 64th is dividing by 64. -/
theorem div64 (z : EReal) : z * Ideal.ofBits .f32 0x3C800000#32 = Ideal.div z (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), ← EReal.coe_inv]
  norm_num

/-- The normed keys of the body at an index. -/
theorem pay1_apply (A : Vec Ideal S2048x1024 .bf16) (W : Vec Ideal S1x1024x256 .bf16) (g : Vec Ideal S1x256 .f32) (k : Fin 2048) (l : Fin 256) :
    k0_pay1 (k0_pay2 A W) (k0_pay3 g) k0_pay5 (k0_pay6 A W) (k0_pay8 A W) (k0_pay9 A W) (ix2 k l)
      = k0_pay2 A W (ix2 k l) * Ideal.rsqrt (Ideal.div (∑ p : Fin 64, k0_pay2 A W (ix2 k ⟨l.val / 64 * 64 + p.val, by omega⟩) * k0_pay2 A W (ix2 k ⟨l.val / 64 * 64 + p.val, by omega⟩)) (Ideal.ofBits .f32 0x42800000#32)
        + Ideal.ofBits .f32 0x358637BD#32) * g (ix2 0 l) := by
  have hs := sums_apply A W k l
  rw [pay1_eq, ← hs, ← div64]
  generalize (concatenate S2048x256 1 _ _ : FVec Ideal S2048x256 .f32) = C
  generalize k0_pay2 A W = y
  pointwise [k0_pay3]

/-- Where each window's block lies. -/
theorem idx : ∀ t : Fin cfg0.N, win0_0.index t = ![t.val / 4, 0] ∧ win0_1.index t = ![t.val % 4, 0, 0] ∧ win0_2.index t = ![0, t.val % 4]
    ∧ win0_3.index t = ![t.val / 4, t.val % 4] ∧ win0_4.index t = ![t.val / 4, t.val % 4] :=
  (by decide +kernel : ∀ t : Fin grid0.N, _)

/-- A block of rows of the input, read at an index. -/
theorem blk0 (X : Vec Ideal S4096x1024 .bf16) (t : Fin cfg0.N) (k : Fin 2048) (q : Fin 1024) (h : t.val / 4 * 2048 + k.val < 4096) :
    ((cfg0.win 0).blk t).view.read (Elt Ideal) X (ix2 k q) = X (ix2 ⟨t.val / 4 * 2048 + k.val, h⟩ q) := by
  blk_ext [idx t]

/-- A slab of the first half of the weight, read at an index. -/
theorem blk1 (X : Vec Ideal S8x1024x256 .bf16) (t : Fin cfg0.N) (q : Fin 1024) (l : Fin 256) (h : t.val % 4 < 8) :
    ((cfg0.win 1).blk t).view.read (Elt Ideal) X (ix3 0 q l) = X (ix3 ⟨t.val % 4, h⟩ q l) := by
  blk_ext [idx t]

/-- A block of the repeated gain, read at an index. -/
theorem blk2 (X : Vec Ideal S1x1024 .f32) (t : Fin cfg0.N) (l : Fin 256) (h' : t.val % 4 * 256 + l.val < 1024) :
    ((cfg0.win 2).blk t).view.read (Elt Ideal) X (ix2 0 l) = X (ix2 0 ⟨t.val % 4 * 256 + l.val, h'⟩) := by
  blk_ext [idx t]

/-- Where an entry of a block of the first result lies in its array. -/
theorem emb3 (X : Vec Ideal S4096x1024 .f32) (t : Fin cfg0.N) (k : Fin 2048) (l : Fin 256) (h : t.val / 4 * 2048 + k.val < 4096)
    (h' : t.val % 4 * 256 + l.val < 1024) :
    ((cfg0.win 3).blk t).view.read (Elt Ideal) X (ix2 k l) = X (ix2 ⟨t.val / 4 * 2048 + k.val, h⟩ ⟨t.val % 4 * 256 + l.val, h'⟩) := by
  blk_ext [idx t]

/-- Where an entry of a block of the second result lies in its array. -/
theorem emb4 (X : Vec Ideal S4096x1024 .bf16) (t : Fin cfg0.N) (k : Fin 2048) (l : Fin 256) (h : t.val / 4 * 2048 + k.val < 4096)
    (h' : t.val % 4 * 256 + l.val < 1024) :
    ((cfg0.win 4).blk t).view.read (Elt Ideal) X (ix2 k l) = X (ix2 ⟨t.val / 4 * 2048 + k.val, h⟩ ⟨t.val % 4 * 256 + l.val, h'⟩) := by
  blk_ext [idx t]

/-- A matrix cut into column slabs, read at an index. -/
theorem slabs_cols (X : Vec Ideal S1024x2048 .f32) (s : Fin 8) (k : Fin 1024) (l : Fin 256) (h : s.val * 256 + l.val < 2048) :
    (truncf (F := Ideal) (φ := .f32) .bf16 (transpose S8x1024x256 [1, 0, 2] (shapeCast S1024x8x256 X shapeCasts_S1024x2048_S1024x8x256) transposes_S1024x8x256_S8x1024x256_1_0_2) bitsLt_bf16_f32
      : Vec Ideal S8x1024x256 .bf16) (ix3 s k l) = X (ix2 k ⟨s.val * 256 + l.val, h⟩) := by
  pointwise

/-- The gain repeated over the heads, read at an index. -/
theorem gain_apply (X : Vec Ideal S64 .f32) (l : Fin 1024) :
    (shapeCast S1x1024 (shapeCast S1024 (broadcastInDim S16x64 ![0, 1] bcast_S1x64_S16x64_0_1 (shapeCast S1x64 X shapeCasts_S64_S1x64 : Vec Ideal S1x64 .f32) : Vec Ideal S16x64 .f32) shapeCasts_S16x64_S1024 : Vec Ideal S1024 .f32) shapeCasts_S1024_S1x1024
      : Vec Ideal S1x1024 .f32) (ix2 0 l) = X (ix1 ⟨l.val % 64, by omega⟩) := by
  pointwise

/-- The input the host part of the kernel prepares is the argument. -/
theorem entry_x (c : Dev nD) : V m c main_v3 = m (c.tc.loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- The weight the host part of the kernel prepares, read at an index. -/
theorem entry_w (c : Dev nD) (s : Fin 8) (k : Fin 1024) (l : Fin 256) (h : s.val * 256 + l.val < 2048) :
    (V m c main_v6 : Vec Ideal S8x1024x256 .bf16) (ix3 s k l)
      = (m (c.tc.loc main_arg1) : Vec Ideal S1024x2048 .f32) (ix2 k ⟨s.val * 256 + l.val, h⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact slabs_cols _ s k l h

/-- The gain the host part of the kernel prepares, read at an index. -/
theorem entry_g (c : Dev nD) (l : Fin 1024) :
    (V m c main_v7 : Vec Ideal S1x1024 .f32) (ix2 0 l) = (m (c.tc.loc main_arg2) : Vec Ideal S64 .f32) (ix1 ⟨l.val % 64, by omega⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact gain_apply _ l

/-- The reference's keys before their norm, read at an index. -/
theorem ref1 (x0 : Vec Ideal S4096x1024 .f32) (x1 : Vec Ideal S1024x2048 .f32) (r : Fin 4096) (j : Fin 1024) (i : KProjRefIdeal.S4096x1024.Idx)
    (h0 : (i 0).val = r.val) (h1 : (i 1).val = j.val) :
    KProjRefIdeal.Read.val_main_v1 (F := Ideal) x0 x1 i = kAt x0 x1 r j := by
  rw [KProjRefIdeal.Read.val_main_v1_apply, KProjRefIdeal.Read.val_main_v0_apply]
  unfold kAt
  refine Finset.sum_congr rfl fun q _ => congrArg₂ (fun x y : EReal => x * y) (congrArg x0 (funext fun d => ?_)) (congrArg x1 (funext fun d => ?_))
  · fin_cases d
    · exact Fin.ext h0
    · rfl
  · fin_cases d
    · rfl
    · exact Fin.ext h1

/-- The reference's keys by head, read at an index. -/
theorem ref3 (x0 : Vec Ideal S4096x1024 .f32) (x1 : Vec Ideal S1024x2048 .f32) (r : Fin 4096) (j : Fin 1024) (i : KProjRefIdeal.S4096x16x64.Idx)
    (h0 : (i 0).val = r.val) (h1 : (i 1).val * 64 + (i 2).val = j.val) :
    KProjRefIdeal.Read.val_main_v3 (F := Ideal) x0 x1 i = kAt x0 x1 r j := by
  rw [KProjRefIdeal.Read.val_main_v3_apply]
  refine ref1 x0 x1 r j _ ?_ ?_
  · show (((i 0).val * 16 + (i 1).val) * 64 + (i 2).val) / 1024 = r.val; omega
  · show (((i 0).val * 16 + (i 1).val) * 64 + (i 2).val) % 1024 = j.val; omega

/-- The reference's normed keys, read at an index. -/
theorem ref18 (x0 : Vec Ideal S4096x1024 .f32) (x1 : Vec Ideal S1024x2048 .f32) (x2 : Vec Ideal S64 .f32) (r : Fin 4096) (j : Fin 1024) :
    KProjRefIdeal.Read.val_main_v18 (F := Ideal) x0 x1 x2 (ix2 r j) = normAt x0 x1 x2 r j := by
  have e0 : (r.val * 1024 + j.val) / 1024 = r.val := by omega
  have e1 : (r.val * 1024 + j.val) / 64 % 16 = j.val / 64 := by omega
  have e2 : (r.val * 1024 + j.val) % 64 = j.val % 64 := by omega
  have h0 : FloatOps.ofBits (F := Ideal) .f32 0x00000000#32 = (0 : EReal) := Ideal.ofBits_zero_f32
  rw [KProjRefIdeal.Read.val_main_v18_apply, KProjRefIdeal.Read.val_main_v17_apply, KProjRefIdeal.Read.val_main_v16_apply,
    KProjRefIdeal.Read.val_main_v15_apply, KProjRefIdeal.Read.val_main_v14_apply, KProjRefIdeal.Read.val_main_v13_apply,
    KProjRefIdeal.Read.val_main_v12_apply, KProjRefIdeal.Read.val_main_v11_apply, KProjRefIdeal.Read.val_main_v10_apply,
    KProjRefIdeal.Read.val_main_v9_apply, KProjRefIdeal.Read.val_main_cst_1_apply, KProjRefIdeal.Read.val_main_v8_apply,
    KProjRefIdeal.Read.val_main_v7_apply, KProjRefIdeal.Read.val_main_cst_0_apply, KProjRefIdeal.Read.val_main_v6_apply,
    KProjRefIdeal.Read.val_main_v5_apply, KProjRefIdeal.Read.val_main_cst_apply, h0, zero_add]
  refine congrArg₂ (fun x y : EReal => x * y) (congrArg₂ (fun x y : EReal => x * y) ?_
    (congrArg (fun y : EReal => Ideal.rsqrt (Ideal.div y (Ideal.ofBits .f32 0x42800000#32) + Ideal.ofBits .f32 0x358637BD#32)) (Finset.sum_congr rfl fun p _ => ?_)))
    (congrArg x2 (funext fun d => ?_))
  · refine ref3 x0 x1 r j _ e0 ?_
    show (r.val * 1024 + j.val) / 64 % 16 * 64 + (r.val * 1024 + j.val) % 64 = j.val
    omega
  · rw [KProjRefIdeal.Read.val_main_v4_apply]
    have e : KProjRefIdeal.Read.val_main_v3 (F := Ideal) x0 x1 (KProjRefIdeal.Read.idx_main_v5 (KProjRefIdeal.Read.idx_main_v6 (KProjRefIdeal.Read.idx_main_v12 (KProjRefIdeal.Read.idx_main_v17 (ix2 r j)))) p)
        = kAt x0 x1 r ⟨j.val / 64 * 64 + p.val, by omega⟩ := by
      refine ref3 x0 x1 r _ _ e0 ?_
      show (r.val * 1024 + j.val) / 64 % 16 * 64 + p.val = j.val / 64 * 64 + p.val
      omega
    rw [e]
    rfl
  · fin_cases d
    exact Fin.ext e2

/-- The product that the body stores is the product of its blocks. -/
theorem pay10_eq (A : Vec Ideal S2048x1024 .bf16) (W : Vec Ideal S1x1024x256 .bf16) (g : Vec Ideal S1x256 .f32) : k0_pay10 A W g = k0_pay2 A W := by
  unfold k0_pay10
  frame_out

/-- What a point leaves in the first result's block. -/
theorem out3_apply (A : Vec Ideal S2048x1024 .bf16) (W : Vec Ideal S1x1024x256 .bf16) (g : Vec Ideal S1x256 .f32) : out0_3 A W g = k0_pay2 A W := by
  frame_open
  frame_out
  rw [pay10_eq]

/-- What a point leaves in the second result's block. -/
theorem out4_apply (A : Vec Ideal S2048x1024 .bf16) (W : Vec Ideal S1x1024x256 .bf16) (g : Vec Ideal S1x256 .f32) :
    out0_4 A W g = k0_pay1 (k0_pay2 A W) (k0_pay3 g) k0_pay5 (k0_pay6 A W) (k0_pay8 A W) (k0_pay9 A W) := by
  frame_open
  frame_out
  rw [pay10_eq]

/-- The body's product at a point, over the whole arrays. -/
theorem k_point (c : Dev nD) (t : Fin cfg0.N) (k : Fin 2048) (l : Fin 256) (h : t.val / 4 * 2048 + k.val < 4096) (h' : t.val % 4 * 256 + l.val < 1024) :
    k0_pay2 (F := Ideal) (iblk m c 0 t) (iblk m c 1 t) (ix2 k l)
      = kAt (m (c.tc.loc main_arg0)) (m (c.tc.loc main_arg1)) ⟨t.val / 4 * 2048 + k.val, h⟩ ⟨t.val % 4 * 256 + l.val, h'⟩ := by
  rw [pay2_apply]
  refine Finset.sum_congr rfl fun q _ => congrArg₂ (fun x y : EReal => x * y) ?_ ?_
  · unfold iblk
    exact (blk0 _ t k q h).trans (congrFun (entry_x m c) _)
  · unfold iblk
    exact (blk1 _ t q l (by omega)).trans (entry_w m c _ q l (by show t.val % 4 * 256 + l.val < 2048; omega))

/-- The body's normed keys at a point, over the whole arrays. -/
theorem norm_point (c : Dev nD) (t : Fin cfg0.N) (k : Fin 2048) (l : Fin 256) (h : t.val / 4 * 2048 + k.val < 4096) (h' : t.val % 4 * 256 + l.val < 1024) :
    k0_pay1 (F := Ideal) (k0_pay2 (iblk m c 0 t) (iblk m c 1 t)) (k0_pay3 (iblk m c 2 t)) k0_pay5 (k0_pay6 (iblk m c 0 t) (iblk m c 1 t)) (k0_pay8 (iblk m c 0 t) (iblk m c 1 t)) (k0_pay9 (iblk m c 0 t) (iblk m c 1 t)) (ix2 k l)
      = normAt (m (c.tc.loc main_arg0)) (m (c.tc.loc main_arg1)) (m (c.tc.loc main_arg2)) ⟨t.val / 4 * 2048 + k.val, h⟩ ⟨t.val % 4 * 256 + l.val, h'⟩ := by
  rw [pay1_apply]
  refine congrArg₂ (fun x y : EReal => x * y) (congrArg₂ (fun x y : EReal => x * y) (k_point m c t k l h h')
    (congrArg (fun y : EReal => Ideal.rsqrt (Ideal.div y (Ideal.ofBits .f32 0x42800000#32) + Ideal.ofBits .f32 0x358637BD#32)) (Finset.sum_congr rfl fun p _ => ?_))) ?_
  · have hl : t.val % 4 * 256 + (l.val / 64 * 64 + p.val) < 1024 := by omega
    have e := k_point m c t k ⟨l.val / 64 * 64 + p.val, by omega⟩ h hl
    have ej : (⟨t.val % 4 * 256 + (l.val / 64 * 64 + p.val), hl⟩ : Fin 1024) = ⟨(t.val % 4 * 256 + l.val) / 64 * 64 + p.val, by omega⟩ :=
      Fin.ext (by show t.val % 4 * 256 + (l.val / 64 * 64 + p.val) = (t.val % 4 * 256 + l.val) / 64 * 64 + p.val; omega)
    rw [e]
    exact congrArg (fun j => kAt (m (c.tc.loc main_arg0)) (m (c.tc.loc main_arg1)) ⟨t.val / 4 * 2048 + k.val, h⟩ j * kAt (m (c.tc.loc main_arg0)) (m (c.tc.loc main_arg1)) ⟨t.val / 4 * 2048 + k.val, h⟩ j) ej
  · unfold iblk
    exact (blk2 _ t l h').trans (entry_g m c _)

/-- The first result array is the reference's. -/
theorem value3 (c : Dev nD) : (dats m 0 c).arrAt 3 cfg0.N
    = KProjRefIdeal.Read.val_main_v1 (F := Ideal) (m (c.tc.loc main_arg0)) (m (c.tc.loc main_arg1)) := by
  have hp : ∀ (t : Fin cfg0.N) (k : Fin 2048) (l : Fin 256) (h : t.val / 4 * 2048 + k.val < 4096) (h' : t.val % 4 * 256 + l.val < 1024),
      k0_pay2 (F := Ideal) (iblk m c 0 t) (iblk m c 1 t) (ix2 k l)
        = KProjRefIdeal.Read.val_main_v1 (F := Ideal) (m (c.tc.loc main_arg0)) (m (c.tc.loc main_arg1)) (ix2 ⟨t.val / 4 * 2048 + k.val, h⟩ ⟨t.val % 4 * 256 + l.val, h'⟩) :=
    fun t k l h h' => (k_point m c t k l h h').trans (ref1 (m (c.tc.loc main_arg0)) (m (c.tc.loc main_arg1)) ⟨t.val / 4 * 2048 + k.val, h⟩ ⟨t.val % 4 * 256 + l.val, h'⟩ _ rfl rfl).symm
  generalize KProjRefIdeal.Read.val_main_v1 (F := Ideal) (m (c.tc.loc main_arg0)) (m (c.tc.loc main_arg1)) = G at hp ⊢
  refine (dats m 0 c).arrAt_eq_of_covers 3 _ (by decide +kernel) fun t hf y => ?_
  have ht : t.val < 8 := lt_of_lt_of_eq t.isLt N_0
  rw [after0_3, out3_apply]
  have e0 : (y 0).val < 2048 := (y 0).isLt
  have e1 : (y 1).val < 256 := (y 1).isLt
  have h : t.val / 4 * 2048 + (y 0).val < 4096 := by omega
  have h' : t.val % 4 * 256 + (y 1).val < 1024 := by omega
  have hq := hp t ⟨(y 0).val, e0⟩ ⟨(y 1).val, e1⟩ h h'
  generalize k0_pay2 (F := Ideal) (iblk m c 0 t) (iblk m c 1 t) = O at hq ⊢
  refine Eq.trans ?_ (hq.trans ?_)
  · refine congrArg O (funext fun a => ?_)
    fin_cases a <;> rfl
  · refine (emb3 G t ⟨(y 0).val, e0⟩ ⟨(y 1).val, e1⟩ h h').symm.trans (congrArg G (congrArg _ (funext fun a => ?_)))
    fin_cases a <;> rfl

/-- The second result array is the reference's. -/
theorem value4 (c : Dev nD) : (dats m 0 c).arrAt 4 cfg0.N
    = KProjRefIdeal.Read.val_main_v18 (F := Ideal) (m (c.tc.loc main_arg0)) (m (c.tc.loc main_arg1)) (m (c.tc.loc main_arg2)) := by
  have hp : ∀ (t : Fin cfg0.N) (k : Fin 2048) (l : Fin 256) (h : t.val / 4 * 2048 + k.val < 4096) (h' : t.val % 4 * 256 + l.val < 1024),
      k0_pay1 (F := Ideal) (k0_pay2 (iblk m c 0 t) (iblk m c 1 t)) (k0_pay3 (iblk m c 2 t)) k0_pay5 (k0_pay6 (iblk m c 0 t) (iblk m c 1 t)) (k0_pay8 (iblk m c 0 t) (iblk m c 1 t)) (k0_pay9 (iblk m c 0 t) (iblk m c 1 t)) (ix2 k l)
        = KProjRefIdeal.Read.val_main_v18 (F := Ideal) (m (c.tc.loc main_arg0)) (m (c.tc.loc main_arg1)) (m (c.tc.loc main_arg2)) (ix2 ⟨t.val / 4 * 2048 + k.val, h⟩ ⟨t.val % 4 * 256 + l.val, h'⟩) :=
    fun t k l h h' => (norm_point m c t k l h h').trans (ref18 (m (c.tc.loc main_arg0)) (m (c.tc.loc main_arg1)) (m (c.tc.loc main_arg2)) ⟨t.val / 4 * 2048 + k.val, h⟩ ⟨t.val % 4 * 256 + l.val, h'⟩).symm
  generalize KProjRefIdeal.Read.val_main_v18 (F := Ideal) (m (c.tc.loc main_arg0)) (m (c.tc.loc main_arg1)) (m (c.tc.loc main_arg2)) = G at hp ⊢
  refine (dats m 0 c).arrAt_eq_of_covers 4 _ (by decide +kernel) fun t hf y => ?_
  have ht : t.val < 8 := lt_of_lt_of_eq t.isLt N_0
  rw [after0_4, out4_apply]
  have e0 : (y 0).val < 2048 := (y 0).isLt
  have e1 : (y 1).val < 256 := (y 1).isLt
  have h : t.val / 4 * 2048 + (y 0).val < 4096 := by omega
  have h' : t.val % 4 * 256 + (y 1).val < 1024 := by omega
  have hq := hp t ⟨(y 0).val, e0⟩ ⟨(y 1).val, e1⟩ h h'
  generalize k0_pay1 (F := Ideal) (k0_pay2 (iblk m c 0 t) (iblk m c 1 t)) (k0_pay3 (iblk m c 2 t)) k0_pay5 (k0_pay6 (iblk m c 0 t) (iblk m c 1 t)) (k0_pay8 (iblk m c 0 t) (iblk m c 1 t)) (k0_pay9 (iblk m c 0 t) (iblk m c 1 t)) = O at hq ⊢
  refine Eq.trans ?_ (hq.trans ?_)
  · refine congrArg O (funext fun a => ?_)
    fin_cases a <;> rfl
  · refine (emb4 G t ⟨(y 0).val, e0⟩ ⟨(y 1).val, e1⟩ h h').symm.trans (congrArg G (congrArg _ (funext fun a => ?_)))
    fin_cases a <;> rfl

/-- The claim about the keys' projection: both programs run from memories that agree on the arguments and end with the same two results. -/
theorem algebraic : algebraic_KProjIdeal_KProjRefIdeal := by
  intro m g m' g' _ h
  refine ⟨fun c => (dats m 0 c).arrAt 3 cfg0.N, fun c => (dats m 0 c).arrAt 4 cfg0.N, Value.run_blocks m g, ?_⟩
  refine (θ_run KProjRefIdeal.defs _ _).mono (fun r hr c => ?_) (KProjRefIdeal.Value.run (F := Ideal) m' g')
  obtain ⟨h0, h1, h2⟩ := h c
  refine ⟨(hr c).1.trans ?_, (hr c).2.1.trans ?_, (hr c).2.2⟩
  · refine Eq.trans ?_ (value3 m c).symm
    rw [← h0, ← h1]
    exact KProjRefIdeal.Read.val_main_v1_eq _ _
  · refine Eq.trans ?_ (value4 m c).symm
    rw [← h0, ← h1, ← h2]
    exact KProjRefIdeal.Read.val_main_v18_eq _ _ _

end Cert.KProjIdeal.Val
end
-- ==== Proof.QProj.lean ====
module

public import proofs.«01_k».proof.Defs
public import proofs.«01_k».proof.Proof.Gen.QProj.Frame
public import proofs.«01_k».proof.Proof.Gen.QProjIdeal.Value
public import proofs.«01_k».proof.Proof.Gen.QProjRefIdeal.Run
public import proofs.«01_k».proof.Proof.Gen.QProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open scoped BigOperators

namespace Cert.QProjIdeal.Val

open Cert.QProjIdeal Cert.QProjIdeal.Gen

variable (m : (ℓ : Loc nD τ sig) → Buf (Elt Ideal) ℓ)

/-- An entry of the queries before their norm: a row of the input times a column of the weight. -/
def qAt (X : Vec Ideal S4096x1024 .f32) (W : Vec Ideal S1024x1024 .f32) (r : Fin 4096) (j : Fin 1024) : EReal :=
  ∑ q : Fin 1024, X (ix2 r q) * W (ix2 q j)

/-- An entry of the queries under their root-mean-square norm: the entry over the root of the mean of squares of its head, times the gain and the scale of the scores. -/
def normAt (X : Vec Ideal S4096x1024 .f32) (W : Vec Ideal S1024x1024 .f32) (g : Vec Ideal S64 .f32) (r : Fin 4096) (j : Fin 1024) : EReal :=
  qAt X W r j * Ideal.rsqrt (Ideal.div (∑ p : Fin 64, qAt X W r ⟨j.val / 64 * 64 + p.val, by omega⟩ * qAt X W r ⟨j.val / 64 * 64 + p.val, by omega⟩) (Ideal.ofBits .f32 0x42800000#32)
    + Ideal.ofBits .f32 0x358637BD#32) * g (ix1 ⟨j.val % 64, by omega⟩) * Ideal.ofBits .f32 0x3E000000#32

/-- The mask of the first 64 of 128 lanes, read at an index. -/
theorem mask_apply : ∀ q : Fin 128, k0_pay4 (ix2 0 q) = if q.val < 64 then 1#1 else 0#1 := by decide +kernel

/-- A sum over 128 lanes of the terms of the first 64 is the sum of those. -/
theorem sum_low (f : Fin 128 → EReal) : (∑ q : Fin 128, if q.val < 64 then f q else 0) = ∑ p : Fin 64, f ⟨p.val, by omega⟩ := by
  show (∑ q : Fin (64 + 64), if q.val < 64 then f q else 0) = _
  rw [Fin.sum_univ_add]
  have h1 : (∑ i : Fin 64, if (Fin.natAdd 64 i : Fin (64 + 64)).val < 64 then f (Fin.natAdd 64 i) else 0) = 0 :=
    Finset.sum_eq_zero fun i _ => if_neg (by show ¬ 64 + i.val < 64; omega)
  rw [h1, add_zero]
  refine Finset.sum_congr rfl fun i _ => ?_
  exact if_pos (show i.val < 64 from i.isLt)

/-- A sum over 128 lanes of the terms of the last 64 is the sum of those. -/
theorem sum_high (f : Fin 128 → EReal) : (∑ q : Fin 128, if q.val < 64 then 0 else f q) = ∑ p : Fin 64, f ⟨64 + p.val, by omega⟩ := by
  show (∑ q : Fin (64 + 64), if q.val < 64 then 0 else f q) = _
  rw [Fin.sum_univ_add]
  have h1 : (∑ i : Fin 64, if (Fin.castAdd 64 i : Fin (64 + 64)).val < 64 then 0 else f (Fin.castAdd 64 i)) = 0 :=
    Finset.sum_eq_zero fun i _ => if_pos (show i.val < 64 from i.isLt)
  rw [h1, zero_add]
  refine Finset.sum_congr rfl fun i _ => ?_
  exact if_neg (by show ¬ 64 + i.val < 64; omega)

/-- The sums over the masked lanes of each row. -/
def low (M : IVec S1x128 1) (Y : FVec Ideal S1024x128 .f32) : FVec Ideal S1024x1 .f32 :=
  shapeCast S1024x1 (multiReduction .add [1] S1024 (select (broadcastTo S1024x128 (shapeCast S1x128 M shapeCasts_S1x128_S1x128) broadcasts_S1x128_S1024x128) Y (broadcast S1024x128 (Scalar.ofBits (F := Ideal) .f32 0x00000000#32)))
    0x00000000#32 reduces_S1024x128_S1024 (.inl rfl) rfl) shapeCasts_S1024_S1024x1

/-- The sums over the lanes of each row that are not masked. -/
def high (M : IVec S1x128 1) (Y : FVec Ideal S1024x128 .f32) : FVec Ideal S1024x1 .f32 :=
  shapeCast S1024x1 (multiReduction .add [1] S1024 (select (broadcastTo S1024x128 (shapeCast S1x128 M shapeCasts_S1x128_S1x128) broadcasts_S1x128_S1024x128) (broadcast S1024x128 (Scalar.ofBits (F := Ideal) .f32 0x00000000#32)) Y)
    0x00000000#32 reduces_S1024x128_S1024 (.inl rfl) rfl) shapeCasts_S1024_S1024x1

/-- Each lane's sum: the one column at the masked lanes, the other elsewhere. -/
def pick (M : IVec S1x128 1) (u w : FVec Ideal S1024x1 .f32) : FVec Ideal S1024x128 .f32 :=
  select (broadcastTo S1024x128 (shapeCast S1x128 M shapeCasts_S1x128_S1x128) broadcasts_S1x128_S1024x128)
    (broadcastTo S1024x128 (shapeCast S1024x1 u shapeCasts_S1024x1_S1024x1) broadcasts_S1024x1_S1024x128)
    (broadcastTo S1024x128 (shapeCast S1024x1 w shapeCasts_S1024x1_S1024x1) broadcasts_S1024x1_S1024x128)

/-- The masked lanes' sums, read at an index. -/
theorem low_apply (Y : FVec Ideal S1024x128 .f32) (k : Fin 1024) : low k0_pay4 Y (ix2 k 0) = ∑ p : Fin 64, Y (ix2 k ⟨p.val, by omega⟩) := by
  have hM := mask_apply
  generalize k0_pay4 = M at hM ⊢
  pointwise [low]
  refine Eq.trans (Finset.sum_congr rfl fun q _ => ?_) (sum_low fun q => Y (ix2 k q))
  rw [hM q]
  by_cases h : q.val < 64 <;> simp [h, Scalar.select]

/-- The other lanes' sums, read at an index. -/
theorem high_apply (Y : FVec Ideal S1024x128 .f32) (k : Fin 1024) : high k0_pay4 Y (ix2 k 0) = ∑ p : Fin 64, Y (ix2 k ⟨64 + p.val, by omega⟩) := by
  have hM := mask_apply
  generalize k0_pay4 = M at hM ⊢
  pointwise [high]
  refine Eq.trans (Finset.sum_congr rfl fun q _ => ?_) (sum_high fun q => Y (ix2 k q))
  rw [hM q]
  by_cases h : q.val < 64 <;> simp [h, Scalar.select]

/-- Each lane's sum, read at an index. -/
theorem pick_apply (u w : FVec Ideal S1024x1 .f32) (k : Fin 1024) (l : Fin 128) :
    pick k0_pay4 u w (ix2 k l) = if l.val < 64 then u (ix2 k 0) else w (ix2 k 0) := by
  have hM := mask_apply
  generalize k0_pay4 = M at hM ⊢
  pointwise [pick]
  rw [hM l]
  by_cases h : l.val < 64 <;> simp [h, Scalar.select]

/-- The sum over its head, at each lane of a part of 128 lanes. -/
theorem part_apply (Y : FVec Ideal S1024x128 .f32) (k : Fin 1024) (l : Fin 128) :
    pick k0_pay4 (low k0_pay4 Y) (high k0_pay4 Y) (ix2 k l) = ∑ p : Fin 64, Y (ix2 k ⟨l.val / 64 * 64 + p.val, by omega⟩) := by
  rw [pick_apply, low_apply, high_apply]
  by_cases h : l.val < 64
  · rw [if_pos h]
    refine Finset.sum_congr rfl fun p _ => congrArg Y (congrArg (ix2 k) (Fin.ext ?_))
    show p.val = l.val / 64 * 64 + p.val
    omega
  · rw [if_neg h]
    refine Finset.sum_congr rfl fun p _ => congrArg Y (congrArg (ix2 k) (Fin.ext ?_))
    show 64 + p.val = l.val / 64 * 64 + p.val
    omega

/-- The body's product at an index. -/
theorem pay1_apply (A : Vec Ideal S1024x1024 .bf16) (W : Vec Ideal S1x1024x1024 .bf16) (k l : Fin 1024) :
    k0_pay1 A W (ix2 k l) = ∑ q : Fin 1024, A (ix2 k q) * W (ix3 0 q l) := by
  pointwise [k0_pay1]

/-- The sums over the heads of a part of 128 lanes, spread over the lanes. -/
def part (Z : FVec Ideal S1024x128 .f32) : FVec Ideal S1024x128 .f32 := pick k0_pay4 (low k0_pay4 Z) (high k0_pay4 Z)

/-- The sums of the part from lane 0, read at an index. -/
theorem part0_apply (Y : FVec Ideal S1024x1024 .f32) (k : Fin 1024) (l : Fin 128) :
    part (extractStridedSlice S1024x128 ![0, 0] Y slices_S1024x1024_o0_0_S1024x128) (ix2 k l) = ∑ p : Fin 64, Y (ix2 k ⟨0 + (l.val / 64 * 64 + p.val), by omega⟩) := by
  unfold part
  rw [part_apply]
  refine Finset.sum_congr rfl fun p _ => ?_
  exact extractStridedSlice_apply ![0, 0] Y slices_S1024x1024_o0_0_S1024x128 _ (ix2 k ⟨0 + (l.val / 64 * 64 + p.val), by omega⟩) (fun a => match a with
    | ⟨0, _⟩ => by show k.val = 0 + k.val; omega
    | ⟨1, _⟩ => rfl)

/-- The sums of the part from lane 128, read at an index. -/
theorem part128_apply (Y : FVec Ideal S1024x1024 .f32) (k : Fin 1024) (l : Fin 128) :
    part (extractStridedSlice S1024x128 ![0, 128] Y slices_S1024x1024_o0_128_S1024x128) (ix2 k l) = ∑ p : Fin 64, Y (ix2 k ⟨128 + (l.val / 64 * 64 + p.val), by omega⟩) := by
  unfold part
  rw [part_apply]
  refine Finset.sum_congr rfl fun p _ => ?_
  exact extractStridedSlice_apply ![0, 128] Y slices_S1024x1024_o0_128_S1024x128 _ (ix2 k ⟨128 + (l.val / 64 * 64 + p.val), by omega⟩) (fun a => match a with
    | ⟨0, _⟩ => by show k.val = 0 + k.val; omega
    | ⟨1, _⟩ => rfl)

/-- The sums of the part from lane 256, read at an index. -/
theorem part256_apply (Y : FVec Ideal S1024x1024 .f32) (k : Fin 1024) (l : Fin 128) :
    part (extractStridedSlice S1024x128 ![0, 256] Y slices_S1024x1024_o0_256_S1024x128) (ix2 k l) = ∑ p : Fin 64, Y (ix2 k ⟨256 + (l.val / 64 * 64 + p.val), by omega⟩) := by
  unfold part
  rw [part_apply]
  refine Finset.sum_congr rfl fun p _ => ?_
  exact extractStridedSlice_apply ![0, 256] Y slices_S1024x1024_o0_256_S1024x128 _ (ix2 k ⟨256 + (l.val / 64 * 64 + p.val), by omega⟩) (fun a => match a with
    | ⟨0, _⟩ => by show k.val = 0 + k.val; omega
    | ⟨1, _⟩ => rfl)

/-- The sums of the part from lane 384, read at an index. -/
theorem part384_apply (Y : FVec Ideal S1024x1024 .f32) (k : Fin 1024) (l : Fin 128) :
    part (extractStridedSlice S1024x128 ![0, 384] Y slices_S1024x1024_o0_384_S1024x128) (ix2 k l) = ∑ p : Fin 64, Y (ix2 k ⟨384 + (l.val / 64 * 64 + p.val), by omega⟩) := by
  unfold part
  rw [part_apply]
  refine Finset.sum_congr rfl fun p _ => ?_
  exact extractStridedSlice_apply ![0, 384] Y slices_S1024x1024_o0_384_S1024x128 _ (ix2 k ⟨384 + (l.val / 64 * 64 + p.val), by omega⟩) (fun a => match a with
    | ⟨0, _⟩ => by show k.val = 0 + k.val; omega
    | ⟨1, _⟩ => rfl)

/-- The sums of the part from lane 512, read at an index. -/
theorem part512_apply (Y : FVec Ideal S1024x1024 .f32) (k : Fin 1024) (l : Fin 128) :
    part (extractStridedSlice S1024x128 ![0, 512] Y slices_S1024x1024_o0_512_S1024x128) (ix2 k l) = ∑ p : Fin 64, Y (ix2 k ⟨512 + (l.val / 64 * 64 + p.val), by omega⟩) := by
  unfold part
  rw [part_apply]
  refine Finset.sum_congr rfl fun p _ => ?_
  exact extractStridedSlice_apply ![0, 512] Y slices_S1024x1024_o0_512_S1024x128 _ (ix2 k ⟨512 + (l.val / 64 * 64 + p.val), by omega⟩) (fun a => match a with
    | ⟨0, _⟩ => by show k.val = 0 + k.val; omega
    | ⟨1, _⟩ => rfl)

/-- The sums of the part from lane 640, read at an index. -/
theorem part640_apply (Y : FVec Ideal S1024x1024 .f32) (k : Fin 1024) (l : Fin 128) :
    part (extractStridedSlice S1024x128 ![0, 640] Y slices_S1024x1024_o0_640_S1024x128) (ix2 k l) = ∑ p : Fin 64, Y (ix2 k ⟨640 + (l.val / 64 * 64 + p.val), by omega⟩) := by
  unfold part
  rw [part_apply]
  refine Finset.sum_congr rfl fun p _ => ?_
  exact extractStridedSlice_apply ![0, 640] Y slices_S1024x1024_o0_640_S1024x128 _ (ix2 k ⟨640 + (l.val / 64 * 64 + p.val), by omega⟩) (fun a => match a with
    | ⟨0, _⟩ => by show k.val = 0 + k.val; omega
    | ⟨1, _⟩ => rfl)

/-- The sums of the part from lane 768, read at an index. -/
theorem part768_apply (Y : FVec Ideal S1024x1024 .f32) (k : Fin 1024) (l : Fin 128) :
    part (extractStridedSlice S1024x128 ![0, 768] Y slices_S1024x1024_o0_768_S1024x128) (ix2 k l) = ∑ p : Fin 64, Y (ix2 k ⟨768 + (l.val / 64 * 64 + p.val), by omega⟩) := by
  unfold part
  rw [part_apply]
  refine Finset.sum_congr rfl fun p _ => ?_
  exact extractStridedSlice_apply ![0, 768] Y slices_S1024x1024_o0_768_S1024x128 _ (ix2 k ⟨768 + (l.val / 64 * 64 + p.val), by omega⟩) (fun a => match a with
    | ⟨0, _⟩ => by show k.val = 0 + k.val; omega
    | ⟨1, _⟩ => rfl)

/-- The sums of the part from lane 896, read at an index. -/
theorem part896_apply (Y : FVec Ideal S1024x1024 .f32) (k : Fin 1024) (l : Fin 128) :
    part (extractStridedSlice S1024x128 ![0, 896] Y slices_S1024x1024_o0_896_S1024x128) (ix2 k l) = ∑ p : Fin 64, Y (ix2 k ⟨896 + (l.val / 64 * 64 + p.val), by omega⟩) := by
  unfold part
  rw [part_apply]
  refine Finset.sum_congr rfl fun p _ => ?_
  exact extractStridedSlice_apply ![0, 896] Y slices_S1024x1024_o0_896_S1024x128 _ (ix2 k ⟨896 + (l.val / 64 * 64 + p.val), by omega⟩) (fun a => match a with
    | ⟨0, _⟩ => by show k.val = 0 + k.val; omega
    | ⟨1, _⟩ => rfl)

/-- All parts' sums side by side. -/
def sums (Y : FVec Ideal S1024x1024 .f32) : FVec Ideal S1024x1024 .f32 :=
  concatenate S1024x1024 1 [⟨S1024x128, part (extractStridedSlice S1024x128 ![0, 0] Y slices_S1024x1024_o0_0_S1024x128)⟩, ⟨S1024x128, part (extractStridedSlice S1024x128 ![0, 128] Y slices_S1024x1024_o0_128_S1024x128)⟩, ⟨S1024x128, part (extractStridedSlice S1024x128 ![0, 256] Y slices_S1024x1024_o0_256_S1024x128)⟩, ⟨S1024x128, part (extractStridedSlice S1024x128 ![0, 384] Y slices_S1024x1024_o0_384_S1024x128)⟩, ⟨S1024x128, part (extractStridedSlice S1024x128 ![0, 512] Y slices_S1024x1024_o0_512_S1024x128)⟩, ⟨S1024x128, part (extractStridedSlice S1024x128 ![0, 640] Y slices_S1024x1024_o0_640_S1024x128)⟩, ⟨S1024x128, part (extractStridedSlice S1024x128 ![0, 768] Y slices_S1024x1024_o0_768_S1024x128)⟩, ⟨S1024x128, part (extractStridedSlice S1024x128 ![0, 896] Y slices_S1024x1024_o0_896_S1024x128)⟩]
    concatenates_S1024x128_S1024x128_S1024x128_S1024x128_S1024x128_S1024x128_S1024x128_S1024x128_S1024x1024_d1

/-- All parts' sums side by side, read at an index. -/
theorem sums_apply (Y : FVec Ideal S1024x1024 .f32) (k l : Fin 1024) : sums Y (ix2 k l) = ∑ p : Fin 64, Y (ix2 k ⟨l.val / 64 * 64 + p.val, by omega⟩) := by
  have h0 := part0_apply Y
  have h128 := part128_apply Y
  have h256 := part256_apply Y
  have h384 := part384_apply Y
  have h512 := part512_apply Y
  have h640 := part640_apply Y
  have h768 := part768_apply Y
  have h896 := part896_apply Y
  unfold sums
  generalize part (extractStridedSlice S1024x128 ![0, 0] Y slices_S1024x1024_o0_0_S1024x128) = u0 at h0 ⊢
  generalize part (extractStridedSlice S1024x128 ![0, 128] Y slices_S1024x1024_o0_128_S1024x128) = u128 at h128 ⊢
  generalize part (extractStridedSlice S1024x128 ![0, 256] Y slices_S1024x1024_o0_256_S1024x128) = u256 at h256 ⊢
  generalize part (extractStridedSlice S1024x128 ![0, 384] Y slices_S1024x1024_o0_384_S1024x128) = u384 at h384 ⊢
  generalize part (extractStridedSlice S1024x128 ![0, 512] Y slices_S1024x1024_o0_512_S1024x128) = u512 at h512 ⊢
  generalize part (extractStridedSlice S1024x128 ![0, 640] Y slices_S1024x1024_o0_640_S1024x128) = u640 at h640 ⊢
  generalize part (extractStridedSlice S1024x128 ![0, 768] Y slices_S1024x1024_o0_768_S1024x128) = u768 at h768 ⊢
  generalize part (extractStridedSlice S1024x128 ![0, 896] Y slices_S1024x1024_o0_896_S1024x128) = u896 at h896 ⊢
  have e : ∀ (o : ℕ) (l' : Fin 128) (z : Fin 64 → Fin 1024), l.val = o + l'.val → o % 64 = 0 → (∀ p, (z p).val = o + (l'.val / 64 * 64 + p.val)) →
      (∑ p : Fin 64, Y (ix2 k (z p))) = ∑ p : Fin 64, Y (ix2 k ⟨l.val / 64 * 64 + p.val, by omega⟩) := by
    intro o l' z hl ho hz
    refine Finset.sum_congr rfl fun p _ => congrArg Y (congrArg (ix2 k) (Fin.ext ?_))
    rw [hz p]
    show o + (l'.val / 64 * 64 + p.val) = l.val / 64 * 64 + p.val
    omega
  pointwise
  by_cases c0 : l.val < 128
  · rw [dif_pos c0]
    exact (h0 k ⟨l.val, by omega⟩).trans (e 0 ⟨l.val, by omega⟩ _ (by show l.val = 0 + (l.val); omega) rfl fun p => rfl)
  rw [dif_neg c0]
  by_cases c128 : l.val - 128 < 128
  · rw [dif_pos c128]
    exact (h128 k ⟨l.val - 128, by omega⟩).trans (e 128 ⟨l.val - 128, by omega⟩ _ (by show l.val = 128 + (l.val - 128); omega) rfl fun p => rfl)
  rw [dif_neg c128]
  by_cases c256 : l.val - 128 - 128 < 128
  · rw [dif_pos c256]
    exact (h256 k ⟨l.val - 128 - 128, by omega⟩).trans (e 256 ⟨l.val - 128 - 128, by omega⟩ _ (by show l.val = 256 + (l.val - 128 - 128); omega) rfl fun p => rfl)
  rw [dif_neg c256]
  by_cases c384 : l.val - 128 - 128 - 128 < 128
  · rw [dif_pos c384]
    exact (h384 k ⟨l.val - 128 - 128 - 128, by omega⟩).trans (e 384 ⟨l.val - 128 - 128 - 128, by omega⟩ _ (by show l.val = 384 + (l.val - 128 - 128 - 128); omega) rfl fun p => rfl)
  rw [dif_neg c384]
  by_cases c512 : l.val - 128 - 128 - 128 - 128 < 128
  · rw [dif_pos c512]
    exact (h512 k ⟨l.val - 128 - 128 - 128 - 128, by omega⟩).trans (e 512 ⟨l.val - 128 - 128 - 128 - 128, by omega⟩ _ (by show l.val = 512 + (l.val - 128 - 128 - 128 - 128); omega) rfl fun p => rfl)
  rw [dif_neg c512]
  by_cases c640 : l.val - 128 - 128 - 128 - 128 - 128 < 128
  · rw [dif_pos c640]
    exact (h640 k ⟨l.val - 128 - 128 - 128 - 128 - 128, by omega⟩).trans (e 640 ⟨l.val - 128 - 128 - 128 - 128 - 128, by omega⟩ _ (by show l.val = 640 + (l.val - 128 - 128 - 128 - 128 - 128); omega) rfl fun p => rfl)
  rw [dif_neg c640]
  by_cases c768 : l.val - 128 - 128 - 128 - 128 - 128 - 128 < 128
  · rw [dif_pos c768]
    exact (h768 k ⟨l.val - 128 - 128 - 128 - 128 - 128 - 128, by omega⟩).trans (e 768 ⟨l.val - 128 - 128 - 128 - 128 - 128 - 128, by omega⟩ _ (by show l.val = 768 + (l.val - 128 - 128 - 128 - 128 - 128 - 128); omega) rfl fun p => rfl)
  rw [dif_neg c768]
  exact (h896 k ⟨l.val - 128 - 128 - 128 - 128 - 128 - 128 - 128, by omega⟩).trans (e 896 ⟨l.val - 128 - 128 - 128 - 128 - 128 - 128 - 128, by omega⟩ _ (by show l.val = 896 + (l.val - 128 - 128 - 128 - 128 - 128 - 128 - 128); omega) rfl fun p => rfl)

/-- Multiplying by a 64th is dividing by 64. -/
theorem div64 (z : EReal) : z * Ideal.ofBits .f32 0x3C800000#32 = Ideal.div z (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by norm_num), ← EReal.coe_inv]
  norm_num

/-- The normed and scaled queries of the body, from the product and the gain. -/
def normed (y : FVec Ideal S1024x1024 .f32) (g : FVec Ideal S1x1024 .f32) : FVec Ideal S1024x1024 .bf16 :=
  truncf .bf16 (mulf (mulf (mulf y (rsqrt (addf (mulf (sums (mulf y y)) (broadcast S1024x1024 (Scalar.ofBits .f32 0x3C800000#32))) (broadcast S1024x1024 (Scalar.ofBits .f32 0x358637BD#32)))))
    (broadcastTo S1024x1024 g broadcasts_S1x1024_S1024x1024)) (broadcast S1024x1024 (Scalar.ofBits .f32 0x3E000000#32))) bitsLt_bf16_f32

/-- The normed and scaled queries at an index. -/
theorem normed_apply (y : FVec Ideal S1024x1024 .f32) (g : FVec Ideal S1x1024 .f32) (k l : Fin 1024) :
    normed y g (ix2 k l)
      = y (ix2 k l) * Ideal.rsqrt (Ideal.div (∑ p : Fin 64, y (ix2 k ⟨l.val / 64 * 64 + p.val, by omega⟩) * y (ix2 k ⟨l.val / 64 * 64 + p.val, by omega⟩)) (Ideal.ofBits .f32 0x42800000#32)
        + Ideal.ofBits .f32 0x358637BD#32) * g (ix2 0 l) * Ideal.ofBits .f32 0x3E000000#32 := by
  have hs : sums (mulf y y) (ix2 k l) = ∑ p : Fin 64, y (ix2 k ⟨l.val / 64 * 64 + p.val, by omega⟩) * y (ix2 k ⟨l.val / 64 * 64 + p.val, by omega⟩) := sums_apply (mulf y y) k l
  rw [← hs, ← div64]
  unfold normed
  generalize sums (mulf y y) = C
  pointwise

/-- Where each window's block lies. -/
theorem idx : ∀ t : Fin cfg0.N, win0_0.index t = ![t.val, 0] ∧ win0_1.index t = ![0, 0, 0] ∧ win0_2.index t = ![0, 0]
    ∧ win0_3.index t = ![t.val, 0] ∧ win0_4.index t = ![t.val, 0] :=
  (by decide +kernel : ∀ t : Fin grid0.N, _)

/-- A block of rows of the input, read at an index. -/
theorem blk0 (X : Vec Ideal S4096x1024 .bf16) (t : Fin cfg0.N) (k q : Fin 1024) (h : t.val * 1024 + k.val < 4096) :
    ((cfg0.win 0).blk t).view.read (Elt Ideal) X (ix2 k q) = X (ix2 ⟨t.val * 1024 + k.val, h⟩ q) := by
  blk_ext [idx t]

/-- The weight's one block, read at an index. -/
theorem blk1 (X : Vec Ideal S1x1024x1024 .bf16) (t : Fin cfg0.N) (q l : Fin 1024) :
    ((cfg0.win 1).blk t).view.read (Elt Ideal) X (ix3 0 q l) = X (ix3 0 q l) := by
  blk_ext [idx t]

/-- The repeated gain's one block, read at an index. -/
theorem blk2 (X : Vec Ideal S1x1024 .f32) (t : Fin cfg0.N) (l : Fin 1024) :
    ((cfg0.win 2).blk t).view.read (Elt Ideal) X (ix2 0 l) = X (ix2 0 l) := by
  blk_ext [idx t]

/-- Where an entry of a block of the first result lies in its array. -/
theorem emb3 (X : Vec Ideal S4096x1024 .f32) (t : Fin cfg0.N) (k l : Fin 1024) (h : t.val * 1024 + k.val < 4096) :
    ((cfg0.win 3).blk t).view.read (Elt Ideal) X (ix2 k l) = X (ix2 ⟨t.val * 1024 + k.val, h⟩ l) := by
  blk_ext [idx t]

/-- Where an entry of a block of the second result lies in its array. -/
theorem emb4 (X : Vec Ideal S4096x1024 .bf16) (t : Fin cfg0.N) (k l : Fin 1024) (h : t.val * 1024 + k.val < 4096) :
    ((cfg0.win 4).blk t).view.read (Elt Ideal) X (ix2 k l) = X (ix2 ⟨t.val * 1024 + k.val, h⟩ l) := by
  blk_ext [idx t]

/-- The weight with a leading axis of length one, read at an index. -/
theorem lead_apply (X : Vec Ideal S1024x1024 .f32) (q l : Fin 1024) :
    (truncf (F := Ideal) (φ := .f32) .bf16 (shapeCast S1x1024x1024 X shapeCasts_S1024x1024_S1x1024x1024 : Vec Ideal S1x1024x1024 .f32) bitsLt_bf16_f32 : Vec Ideal S1x1024x1024 .bf16) (ix3 0 q l)
      = X (ix2 q l) := by
  pointwise

/-- The gain repeated over the heads, read at an index. -/
theorem gain_apply (X : Vec Ideal S64 .f32) (l : Fin 1024) :
    (shapeCast S1x1024 (shapeCast S1024 (broadcastInDim S16x64 ![0, 1] bcast_S1x64_S16x64_0_1 (shapeCast S1x64 X shapeCasts_S64_S1x64 : Vec Ideal S1x64 .f32) : Vec Ideal S16x64 .f32) shapeCasts_S16x64_S1024 : Vec Ideal S1024 .f32) shapeCasts_S1024_S1x1024
      : Vec Ideal S1x1024 .f32) (ix2 0 l) = X (ix1 ⟨l.val % 64, by omega⟩) := by
  pointwise

/-- The input the host part of the kernel prepares is the argument. -/
theorem entry_x (c : Dev nD) : V m c main_v3 = m (c.tc.loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  rfl

/-- The weight the host part of the kernel prepares, read at an index. -/
theorem entry_w (c : Dev nD) (q l : Fin 1024) :
    (V m c main_v5 : Vec Ideal S1x1024x1024 .bf16) (ix3 0 q l) = (m (c.tc.loc main_arg1) : Vec Ideal S1024x1024 .f32) (ix2 q l) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact lead_apply _ q l

/-- The gain the host part of the kernel prepares, read at an index. -/
theorem entry_g (c : Dev nD) (l : Fin 1024) :
    (V m c main_v6 : Vec Ideal S1x1024 .f32) (ix2 0 l) = (m (c.tc.loc main_arg2) : Vec Ideal S64 .f32) (ix1 ⟨l.val % 64, by omega⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results
  exact gain_apply _ l

/-- The reference's queries before their norm, read at an index. -/
theorem ref0 (x0 : Vec Ideal S4096x1024 .f32) (x1 : Vec Ideal S1024x1024 .f32) (r : Fin 4096) (j : Fin 1024) (i : QProjRefIdeal.S4096x1024.Idx)
    (h0 : (i 0).val = r.val) (h1 : (i 1).val = j.val) :
    QProjRefIdeal.Read.val_main_v0 (F := Ideal) x0 x1 i = qAt x0 x1 r j := by
  rw [QProjRefIdeal.Read.val_main_v0_apply]
  unfold qAt
  refine Finset.sum_congr rfl fun q _ => congrArg₂ (fun x y : EReal => x * y) (congrArg x0 (funext fun d => ?_)) (congrArg x1 (funext fun d => ?_))
  · fin_cases d
    · exact Fin.ext h0
    · rfl
  · fin_cases d
    · rfl
    · exact Fin.ext h1

/-- The reference's queries by head, read at an index. -/
theorem ref1 (x0 : Vec Ideal S4096x1024 .f32) (x1 : Vec Ideal S1024x1024 .f32) (r : Fin 4096) (j : Fin 1024) (i : QProjRefIdeal.S4096x16x64.Idx)
    (h0 : (i 0).val = r.val) (h1 : (i 1).val * 64 + (i 2).val = j.val) :
    QProjRefIdeal.Read.val_main_v1 (F := Ideal) x0 x1 i = qAt x0 x1 r j := by
  rw [QProjRefIdeal.Read.val_main_v1_apply]
  refine ref0 x0 x1 r j _ ?_ ?_
  · show (((i 0).val * 16 + (i 1).val) * 64 + (i 2).val) / 1024 = r.val; omega
  · show (((i 0).val * 16 + (i 1).val) * 64 + (i 2).val) % 1024 = j.val; omega

/-- The reference's normed and scaled queries, read at an index. -/
theorem ref18 (x0 : Vec Ideal S4096x1024 .f32) (x1 : Vec Ideal S1024x1024 .f32) (x2 : Vec Ideal S64 .f32) (r : Fin 4096) (j : Fin 1024) :
    QProjRefIdeal.Read.val_main_v18 (F := Ideal) x0 x1 x2 (ix2 r j) = normAt x0 x1 x2 r j := by
  have e0 : (r.val * 1024 + j.val) / 1024 = r.val := by omega
  have e1 : (r.val * 1024 + j.val) / 64 % 16 = j.val / 64 := by omega
  have e2 : (r.val * 1024 + j.val) % 64 = j.val % 64 := by omega
  have h0 : FloatOps.ofBits (F := Ideal) .f32 0x00000000#32 = (0 : EReal) := Ideal.ofBits_zero_f32
  rw [QProjRefIdeal.Read.val_main_v18_apply, QProjRefIdeal.Read.val_main_v17_apply, QProjRefIdeal.Read.val_main_v16_apply, QProjRefIdeal.Read.val_main_v15_apply, QProjRefIdeal.Read.val_main_cst_2_apply, QProjRefIdeal.Read.val_main_v14_apply, QProjRefIdeal.Read.val_main_v13_apply, QProjRefIdeal.Read.val_main_v12_apply, QProjRefIdeal.Read.val_main_v11_apply, QProjRefIdeal.Read.val_main_v10_apply, QProjRefIdeal.Read.val_main_v9_apply, QProjRefIdeal.Read.val_main_v8_apply, QProjRefIdeal.Read.val_main_v7_apply, QProjRefIdeal.Read.val_main_cst_1_apply, QProjRefIdeal.Read.val_main_v6_apply, QProjRefIdeal.Read.val_main_v5_apply, QProjRefIdeal.Read.val_main_cst_0_apply, QProjRefIdeal.Read.val_main_v4_apply, QProjRefIdeal.Read.val_main_v3_apply, QProjRefIdeal.Read.val_main_cst_apply, h0, zero_add]
  refine congrArg (fun x : EReal => x * Ideal.ofBits .f32 0x3E000000#32) (congrArg₂ (fun x y : EReal => x * y) (congrArg₂ (fun x y : EReal => x * y) ?_
    (congrArg (fun y : EReal => Ideal.rsqrt (Ideal.div y (Ideal.ofBits .f32 0x42800000#32) + Ideal.ofBits .f32 0x358637BD#32)) (Finset.sum_congr rfl fun p _ => ?_)))
    (congrArg x2 (funext fun d => ?_)))
  · refine ref1 x0 x1 r j _ e0 ?_
    show (r.val * 1024 + j.val) / 64 % 16 * 64 + (r.val * 1024 + j.val) % 64 = j.val
    omega
  · rw [QProjRefIdeal.Read.val_main_v2_apply]
    have e : QProjRefIdeal.Read.val_main_v1 (F := Ideal) x0 x1 (QProjRefIdeal.Read.idx_main_v3 (QProjRefIdeal.Read.idx_main_v4 (QProjRefIdeal.Read.idx_main_v10 (QProjRefIdeal.Read.idx_main_v17 (ix2 r j)))) p)
        = qAt x0 x1 r ⟨j.val / 64 * 64 + p.val, by omega⟩ := by
      refine ref1 x0 x1 r _ _ e0 ?_
      show (r.val * 1024 + j.val) / 64 % 16 * 64 + p.val = j.val / 64 * 64 + p.val
      omega
    rw [e]
    rfl
  · fin_cases d
    exact Fin.ext e2

/-- The product that the body stores is the product of its blocks. -/
theorem pay19_eq (A : Vec Ideal S1024x1024 .bf16) (W : Vec Ideal S1x1024x1024 .bf16) (g : Vec Ideal S1x1024 .f32) : k0_pay19 A W g = k0_pay1 A W := by
  unfold k0_pay19
  frame_out

/-- The squares that the body takes are those of the product of its blocks. -/
theorem pay20_eq (A : Vec Ideal S1024x1024 .bf16) (W : Vec Ideal S1x1024x1024 .bf16) (g : Vec Ideal S1x1024 .f32) : k0_pay20 A W g = k0_pay3 A W := by
  unfold k0_pay20
  frame_out

/-- The lane mask. -/
theorem pay21_eq (A : Vec Ideal S1024x1024 .bf16) (W : Vec Ideal S1x1024x1024 .bf16) (g : Vec Ideal S1x1024 .f32) : k0_pay21 A W g = k0_pay4 := rfl

/-- What a point leaves in the first result's block. -/
theorem out3_apply (A : Vec Ideal S1024x1024 .bf16) (W : Vec Ideal S1x1024x1024 .bf16) (g : Vec Ideal S1x1024 .f32) : out0_3 A W g = k0_pay1 A W := by
  frame_open
  frame_out
  rw [pay19_eq]

/-- The gain under a reshape to its own shape. -/
theorem pay2_eq (g : Vec Ideal S1x1024 .f32) : k0_pay2 g = g := by
  funext i
  pointwise [k0_pay2]

/-- The body's second result is the normed product, its parts spelt out. -/
theorem pay18_eq (A : Vec Ideal S1024x1024 .bf16) (W : Vec Ideal S1x1024x1024 .bf16) (g : FVec Ideal S1x1024 .f32) :
    k0_pay18 (k0_pay1 A W) g (k0_pay3 A W) k0_pay4 (k0_pay5 A W) (k0_pay9 k0_pay4 (k0_pay7 A W) (k0_pay8 A W)) (k0_pay10 (k0_pay3 A W) k0_pay4) (k0_pay11 (k0_pay3 A W) k0_pay4)
        (k0_pay13 k0_pay4 (k0_pay12 (k0_pay3 A W)) (Scalar.ofBits .f32 0x00000000#32)) (k0_pay14 (k0_pay3 A W) k0_pay4) (k0_pay16 (k0_pay3 A W) k0_pay4) (k0_pay17 (k0_pay3 A W) k0_pay4)
      = normed (k0_pay1 A W) g := rfl

/-- What a point leaves in the second result's block. -/
theorem out4_apply (A : Vec Ideal S1024x1024 .bf16) (W : Vec Ideal S1x1024x1024 .bf16) (g : Vec Ideal S1x1024 .f32) :
    out0_4 A W g = normed (k0_pay1 A W) (k0_pay2 g) := by
  rw [← pay18_eq]
  frame_open
  frame_out
  rw [pay19_eq, pay20_eq, pay21_eq]

/-- The body's product at a point, over the whole arrays. -/
theorem q_point (c : Dev nD) (t : Fin cfg0.N) (k l : Fin 1024) (h : t.val * 1024 + k.val < 4096) :
    k0_pay1 (F := Ideal) (iblk m c 0 t) (iblk m c 1 t) (ix2 k l)
      = qAt (m (c.tc.loc main_arg0)) (m (c.tc.loc main_arg1)) ⟨t.val * 1024 + k.val, h⟩ l := by
  rw [pay1_apply]
  refine Finset.sum_congr rfl fun q _ => congrArg₂ (fun x y : EReal => x * y) ?_ ?_
  · unfold iblk
    exact (blk0 _ t k q h).trans (congrFun (entry_x m c) _)
  · unfold iblk
    exact (blk1 _ t q l).trans (entry_w m c q l)

/-- The body's normed queries at a point, over the whole arrays. -/
theorem norm_point (c : Dev nD) (t : Fin cfg0.N) (k l : Fin 1024) (h : t.val * 1024 + k.val < 4096) :
    normed (k0_pay1 (F := Ideal) (iblk m c 0 t) (iblk m c 1 t)) (k0_pay2 (iblk m c 2 t)) (ix2 k l)
      = normAt (m (c.tc.loc main_arg0)) (m (c.tc.loc main_arg1)) (m (c.tc.loc main_arg2)) ⟨t.val * 1024 + k.val, h⟩ l := by
  rw [normed_apply, pay2_eq]
  refine congrArg (fun x : EReal => x * Ideal.ofBits .f32 0x3E000000#32) (congrArg₂ (fun x y : EReal => x * y) (congrArg₂ (fun x y : EReal => x * y) (q_point m c t k l h)
    (congrArg (fun y : EReal => Ideal.rsqrt (Ideal.div y (Ideal.ofBits .f32 0x42800000#32) + Ideal.ofBits .f32 0x358637BD#32)) (Finset.sum_congr rfl fun p _ => ?_))) ?_)
  · rw [q_point m c t k ⟨l.val / 64 * 64 + p.val, by omega⟩ h]
  · unfold iblk
    exact (blk2 _ t l).trans (entry_g m c l)

/-- The first result array is the reference's. -/
theorem value3 (c : Dev nD) : (dats m 0 c).arrAt 3 cfg0.N
    = QProjRefIdeal.Read.val_main_v0 (F := Ideal) (m (c.tc.loc main_arg0)) (m (c.tc.loc main_arg1)) := by
  have hp : ∀ (t : Fin cfg0.N) (k l : Fin 1024) (h : t.val * 1024 + k.val < 4096),
      k0_pay1 (F := Ideal) (iblk m c 0 t) (iblk m c 1 t) (ix2 k l) = QProjRefIdeal.Read.val_main_v0 (F := Ideal) (m (c.tc.loc main_arg0)) (m (c.tc.loc main_arg1)) (ix2 ⟨t.val * 1024 + k.val, h⟩ l) :=
    fun t k l h => (q_point m c t k l h).trans (ref0 (m (c.tc.loc main_arg0)) (m (c.tc.loc main_arg1)) ⟨t.val * 1024 + k.val, h⟩ l _ rfl rfl).symm
  generalize QProjRefIdeal.Read.val_main_v0 (F := Ideal) (m (c.tc.loc main_arg0)) (m (c.tc.loc main_arg1)) = G at hp ⊢
  refine (dats m 0 c).arrAt_eq_of_covers 3 _ (by decide +kernel) fun t hf y => ?_
  have ht : t.val < 4 := lt_of_lt_of_eq t.isLt N_0
  rw [after0_3, out3_apply]
  have e0 : (y 0).val < 1024 := (y 0).isLt
  have e1 : (y 1).val < 1024 := (y 1).isLt
  have h : t.val * 1024 + (y 0).val < 4096 := by omega
  have hq := hp t ⟨(y 0).val, e0⟩ ⟨(y 1).val, e1⟩ h
  generalize k0_pay1 (F := Ideal) (iblk m c 0 t) (iblk m c 1 t) = O at hq ⊢
  refine Eq.trans ?_ (hq.trans ?_)
  · refine congrArg O (funext fun a => ?_)
    fin_cases a <;> rfl
  · refine (emb3 G t ⟨(y 0).val, e0⟩ ⟨(y 1).val, e1⟩ h).symm.trans (congrArg G (congrArg _ (funext fun a => ?_)))
    fin_cases a <;> rfl

/-- The second result array is the reference's. -/
theorem value4 (c : Dev nD) : (dats m 0 c).arrAt 4 cfg0.N
    = QProjRefIdeal.Read.val_main_v18 (F := Ideal) (m (c.tc.loc main_arg0)) (m (c.tc.loc main_arg1)) (m (c.tc.loc main_arg2)) := by
  have hp : ∀ (t : Fin cfg0.N) (k l : Fin 1024) (h : t.val * 1024 + k.val < 4096),
      normed (k0_pay1 (F := Ideal) (iblk m c 0 t) (iblk m c 1 t)) (k0_pay2 (iblk m c 2 t)) (ix2 k l) = QProjRefIdeal.Read.val_main_v18 (F := Ideal) (m (c.tc.loc main_arg0)) (m (c.tc.loc main_arg1)) (m (c.tc.loc main_arg2)) (ix2 ⟨t.val * 1024 + k.val, h⟩ l) :=
    fun t k l h => (norm_point m c t k l h).trans (ref18 (m (c.tc.loc main_arg0)) (m (c.tc.loc main_arg1)) (m (c.tc.loc main_arg2)) ⟨t.val * 1024 + k.val, h⟩ l).symm
  generalize QProjRefIdeal.Read.val_main_v18 (F := Ideal) (m (c.tc.loc main_arg0)) (m (c.tc.loc main_arg1)) (m (c.tc.loc main_arg2)) = G at hp ⊢
  refine (dats m 0 c).arrAt_eq_of_covers 4 _ (by decide +kernel) fun t hf y => ?_
  have ht : t.val < 4 := lt_of_lt_of_eq t.isLt N_0
  rw [after0_4, out4_apply]
  have e0 : (y 0).val < 1024 := (y 0).isLt
  have e1 : (y 1).val < 1024 := (y 1).isLt
  have h : t.val * 1024 + (y 0).val < 4096 := by omega
  have hq := hp t ⟨(y 0).val, e0⟩ ⟨(y 1).val, e1⟩ h
  generalize normed (k0_pay1 (F := Ideal) (iblk m c 0 t) (iblk m c 1 t)) (k0_pay2 (iblk m c 2 t)) = O at hq ⊢
  refine Eq.trans ?_ (hq.trans ?_)
  · refine congrArg O (funext fun a => ?_)
    fin_cases a <;> rfl
  · refine (emb4 G t ⟨(y 0).val, e0⟩ ⟨(y 1).val, e1⟩ h).symm.trans (congrArg G (congrArg _ (funext fun a => ?_)))
    fin_cases a <;> rfl

/-- The claim about the queries' projection: both programs run from memories that agree on the arguments and end with the same two results. -/
theorem algebraic : algebraic_QProjIdeal_QProjRefIdeal := by
  intro m g m' g' _ h
  refine ⟨fun c => (dats m 0 c).arrAt 3 cfg0.N, fun c => (dats m 0 c).arrAt 4 cfg0.N, Value.run_blocks m g, ?_⟩
  refine (θ_run QProjRefIdeal.defs _ _).mono (fun r hr c => ?_) (QProjRefIdeal.Value.run (F := Ideal) m' g')
  obtain ⟨h0, h1, h2⟩ := h c
  refine ⟨(hr c).1.trans ?_, (hr c).2.1.trans ?_, (hr c).2.2⟩
  · refine Eq.trans ?_ (value3 m c).symm
    rw [← h0, ← h1]
    exact QProjRefIdeal.Read.val_main_v0_eq _ _
  · refine Eq.trans ?_ (value4 m c).symm
    rw [← h0, ← h1, ← h2]
    exact QProjRefIdeal.Read.val_main_v18_eq _ _ _

end Cert.QProjIdeal.Val
end
-- ==== Proof.MlpWords.lean ====
/- The frame of the MLP forward call at words: its text is its idealization's, so the run proved once over any float values
   serves both. -/
module

public import proofs.«01_k».proof.Defs
public import proofs.«01_k».proof.Proof.Gen.Mlp.Frame
public import proofs.«01_k».proof.Proof.MlpFrame
public import Idealize.ShloMosaic.Lib.Tactic

@[expose] public section

noncomputable section

namespace Cert.MlpWords

open Idealize.ShloMosaic Idealize.SL.Sem

/-- The call's body table and its idealization's are one table. -/
theorem defs_eq : Cert.Mlp.defs (F := Bits) = Cert.MlpIdeal.defs (F := Bits) := by sl_kernel_rfl

/-- The MLP forward call runs, keeps its arguments and leaves every counter at zero. -/
theorem frame : Cert.quiescent_Mlp := by
  intro m ρ _
  rw [defs_eq]
  exact Cert.MlpIdeal.Run.frame (F := Bits) m ρ

end Cert.MlpWords
-- ==== Proof.lean ====
module

public import proofs.«01_k».proof.Defs
public import proofs.«01_k».proof.Proof.Gen.Mlp.Frame
public import proofs.«01_k».proof.Proof.Gen.Dcore.Frame
public import proofs.«01_k».proof.Proof.Gen.Dw1.Frame
public import proofs.«01_k».proof.Proof.Gen.Dw2.Frame
public import proofs.«01_k».proof.Proof.Gen.KvDw.Frame
public import proofs.«01_k».proof.Proof.Gen.OqDw.Frame
public import proofs.«01_k».proof.Proof.Gen.OqDx.Frame
public import proofs.«01_k».proof.Proof.Gen.KvDx.Frame
public import proofs.«01_k».proof.Proof.Gen.GluUp.Frame
public import proofs.«01_k».proof.Proof.Gen.OProj.Frame
public import proofs.«01_k».proof.Proof.Gen.VProj.Frame
public import proofs.«01_k».proof.Proof.Gen.KProj.Frame
public import proofs.«01_k».proof.Proof.Gen.QProj.Frame
public import proofs.«01_k».proof.Proof.Mlp
public import proofs.«01_k».proof.Proof.Dcore
public import proofs.«01_k».proof.Proof.Dw1
public import proofs.«01_k».proof.Proof.Dw2
public import proofs.«01_k».proof.Proof.KvDw
public import proofs.«01_k».proof.Proof.OqDw
public import proofs.«01_k».proof.Proof.OqDx
public import proofs.«01_k».proof.Proof.KvDx
public import proofs.«01_k».proof.Proof.GluUp
public import proofs.«01_k».proof.Proof.OProj
public import proofs.«01_k».proof.Proof.VProj
public import proofs.«01_k».proof.Proof.KProj
public import proofs.«01_k».proof.Proof.QProj
public import proofs.«01_k».proof.Proof.MlpWords
public import Idealize.ShloMosaic.Lib.Quiescent

@[expose] public section

noncomputable section

namespace Cert.Proof

open Idealize.ShloMosaic Idealize.SL.Sem

/-- The reference of the MLP forward runs, keeps its arguments and has no counter. -/
theorem frame_mlp_ref : Cert.quiescent_MlpRefIdeal := fun m ρ _ =>
  (θ_run Cert.MlpRefIdeal.defs _ _).mono (fun _ h => ⟨fun c => (h c).2.2.2.2, sem_eq_zero_of_no_sems rfl _⟩) (Cert.MlpRefIdeal.Value.run (F := Ideal) m ρ)

/-- The reference of the core backward pass runs, keeps its arguments and has no counter. -/
theorem frame_dcore_ref : Cert.quiescent_DcoreRefIdeal := fun m ρ _ =>
  (θ_run Cert.DcoreRefIdeal.defs _ _).mono (fun _ h => ⟨fun c => (h c).2.2, sem_eq_zero_of_no_sems rfl _⟩) (Cert.DcoreRefIdeal.Value.run (F := Ideal) m ρ)

/-- The reference of the first weight's gradient runs, keeps its arguments and has no counter. -/
theorem frame_dw1_ref : Cert.quiescent_Dw1RefIdeal := fun m ρ _ =>
  (θ_run Cert.Dw1RefIdeal.defs _ _).mono (fun _ h => ⟨fun c => (h c).2, sem_eq_zero_of_no_sems rfl _⟩) (Cert.Dw1RefIdeal.Value.run (F := Ideal) m ρ)

/-- The reference of the second weight's gradient runs, keeps its arguments and has no counter. -/
theorem frame_dw2_ref : Cert.quiescent_Dw2RefIdeal := fun m ρ _ =>
  (θ_run Cert.Dw2RefIdeal.defs _ _).mono (fun _ h => ⟨fun c => (h c).2, sem_eq_zero_of_no_sems rfl _⟩) (Cert.Dw2RefIdeal.Value.run (F := Ideal) m ρ)

/-- The reference of the wide weight's gradient runs, keeps its arguments and has no counter. -/
theorem frame_kvdw_ref : Cert.quiescent_KvDwRefIdeal := fun m ρ _ =>
  (θ_run Cert.KvDwRefIdeal.defs _ _).mono (fun _ h => ⟨fun c => (h c).2, sem_eq_zero_of_no_sems rfl _⟩) (Cert.KvDwRefIdeal.Value.run (F := Ideal) m ρ)

/-- The reference of the square weight's gradient runs, keeps its arguments and has no counter. -/
theorem frame_oqdw_ref : Cert.quiescent_OqDwRefIdeal := fun m ρ _ =>
  (θ_run Cert.OqDwRefIdeal.defs _ _).mono (fun _ h => ⟨fun c => (h c).2, sem_eq_zero_of_no_sems rfl _⟩) (Cert.OqDwRefIdeal.Value.run (F := Ideal) m ρ)

/-- The reference of the gradient at the input of a square projection runs, keeps its arguments and has no counter. -/
theorem frame_oqdx_ref : Cert.quiescent_OqDxRefIdeal := fun m ρ _ =>
  (θ_run Cert.OqDxRefIdeal.defs _ _).mono (fun _ h => ⟨fun c => (h c).2, sem_eq_zero_of_no_sems rfl _⟩) (Cert.OqDxRefIdeal.Value.run (F := Ideal) m ρ)

/-- The reference of the gradient at the input of keys and values runs, keeps its arguments and has no counter. -/
theorem frame_kvdx_ref : Cert.quiescent_KvDxRefIdeal := fun m ρ _ =>
  (θ_run Cert.KvDxRefIdeal.defs _ _).mono (fun _ h => ⟨fun c => (h c).2, sem_eq_zero_of_no_sems rfl _⟩) (Cert.KvDxRefIdeal.Value.run (F := Ideal) m ρ)

/-- The reference of the gated unit's up-projection runs, keeps its arguments and has no counter. -/
theorem frame_gluup_ref : Cert.quiescent_GluUpRefIdeal := fun m ρ _ =>
  (θ_run Cert.GluUpRefIdeal.defs _ _).mono (fun _ h => ⟨fun c => (h c).2.2.2, sem_eq_zero_of_no_sems rfl _⟩) (Cert.GluUpRefIdeal.Value.run (F := Ideal) m ρ)

/-- The reference of the output projection runs, keeps its arguments and has no counter. -/
theorem frame_oproj_ref : Cert.quiescent_OProjRefIdeal := fun m ρ _ =>
  (θ_run Cert.OProjRefIdeal.defs _ _).mono (fun _ h => ⟨fun c => (h c).2.2, sem_eq_zero_of_no_sems rfl _⟩) (Cert.OProjRefIdeal.Value.run (F := Ideal) m ρ)

/-- The reference of the values' projection runs, keeps its arguments and has no counter. -/
theorem frame_vproj_ref : Cert.quiescent_VProjRefIdeal := fun m ρ _ =>
  (θ_run Cert.VProjRefIdeal.defs _ _).mono (fun _ h => ⟨fun c => (h c).2, sem_eq_zero_of_no_sems rfl _⟩) (Cert.VProjRefIdeal.Value.run (F := Ideal) m ρ)

/-- The reference of the keys' projection runs, keeps its arguments and has no counter. -/
theorem frame_kproj_ref : Cert.quiescent_KProjRefIdeal := fun m ρ _ =>
  (θ_run Cert.KProjRefIdeal.defs _ _).mono (fun _ h => ⟨fun c => (h c).2.2, sem_eq_zero_of_no_sems rfl _⟩) (Cert.KProjRefIdeal.Value.run (F := Ideal) m ρ)

/-- The reference of the queries' projection runs, keeps its arguments and has no counter. -/
theorem frame_qproj_ref : Cert.quiescent_QProjRefIdeal := fun m ρ _ =>
  (θ_run Cert.QProjRefIdeal.defs _ _).mono (fun _ h => ⟨fun c => (h c).2.2, sem_eq_zero_of_no_sems rfl _⟩) (Cert.QProjRefIdeal.Value.run (F := Ideal) m ρ)

/-- The MLP forward call runs, keeps its arguments and leaves every counter at zero: its idealization's run, at words. -/
theorem frame_mlp : Cert.quiescent_Mlp := Cert.MlpWords.frame

/-- The same over the extended reals. -/
theorem frame_mlp_ideal : Cert.quiescent_MlpIdeal := fun m ρ _ => Cert.MlpIdeal.Run.frame (F := Ideal) m ρ

/-- The whole claim, conjunct by conjunct in the order of the statement. -/
theorem claim : Cert.Claim :=
  ⟨Cert.Mlp.Gen.facts, Cert.MlpIdeal.Gen.facts, Cert.MlpRefIdeal.Gen.facts,
    Cert.Dcore.Gen.facts, Cert.DcoreIdeal.Gen.facts, Cert.DcoreRefIdeal.Gen.facts,
    Cert.Dw1.Gen.facts, Cert.Dw1Ideal.Gen.facts, Cert.Dw1RefIdeal.Gen.facts,
    Cert.Dw2.Gen.facts, Cert.Dw2Ideal.Gen.facts, Cert.Dw2RefIdeal.Gen.facts,
    Cert.KvDw.Gen.facts, Cert.KvDwIdeal.Gen.facts, Cert.KvDwRefIdeal.Gen.facts,
    Cert.OqDw.Gen.facts, Cert.OqDwIdeal.Gen.facts, Cert.OqDwRefIdeal.Gen.facts,
    Cert.OqDx.Gen.facts, Cert.OqDxIdeal.Gen.facts, Cert.OqDxRefIdeal.Gen.facts,
    Cert.KvDx.Gen.facts, Cert.KvDxIdeal.Gen.facts, Cert.KvDxRefIdeal.Gen.facts,
    Cert.GluUp.Gen.facts, Cert.GluUpIdeal.Gen.facts, Cert.GluUpRefIdeal.Gen.facts,
    Cert.OProj.Gen.facts, Cert.OProjIdeal.Gen.facts, Cert.OProjRefIdeal.Gen.facts,
    Cert.VProj.Gen.facts, Cert.VProjIdeal.Gen.facts, Cert.VProjRefIdeal.Gen.facts,
    Cert.KProj.Gen.facts, Cert.KProjIdeal.Gen.facts, Cert.KProjRefIdeal.Gen.facts,
    Cert.QProj.Gen.facts, Cert.QProjIdeal.Gen.facts, Cert.QProjRefIdeal.Gen.facts,
    frame_mlp, frame_mlp_ideal, frame_mlp_ref,
    fun m ρ _ => Cert.Dcore.Gen.frame m ρ, fun m ρ _ => Cert.DcoreIdeal.Gen.frame m ρ, frame_dcore_ref,
    fun m ρ _ => Cert.Dw1.Gen.frame m ρ, fun m ρ _ => Cert.Dw1Ideal.Gen.frame m ρ, frame_dw1_ref,
    fun m ρ _ => Cert.Dw2.Gen.frame m ρ, fun m ρ _ => Cert.Dw2Ideal.Gen.frame m ρ, frame_dw2_ref,
    fun m ρ _ => Cert.KvDw.Gen.frame m ρ, fun m ρ _ => Cert.KvDwIdeal.Gen.frame m ρ, frame_kvdw_ref,
    fun m ρ _ => Cert.OqDw.Gen.frame m ρ, fun m ρ _ => Cert.OqDwIdeal.Gen.frame m ρ, frame_oqdw_ref,
    fun m ρ _ => Cert.OqDx.Gen.frame m ρ, fun m ρ _ => Cert.OqDxIdeal.Gen.frame m ρ, frame_oqdx_ref,
    fun m ρ _ => Cert.KvDx.Gen.frame m ρ, fun m ρ _ => Cert.KvDxIdeal.Gen.frame m ρ, frame_kvdx_ref,
    fun m ρ _ => Cert.GluUp.Gen.frame m ρ, fun m ρ _ => Cert.GluUpIdeal.Gen.frame m ρ, frame_gluup_ref,
    fun m ρ _ => Cert.OProj.Gen.frame m ρ, fun m ρ _ => Cert.OProjIdeal.Gen.frame m ρ, frame_oproj_ref,
    fun m ρ _ => Cert.VProj.Gen.frame m ρ, fun m ρ _ => Cert.VProjIdeal.Gen.frame m ρ, frame_vproj_ref,
    fun m ρ _ => Cert.KProj.Gen.frame m ρ, fun m ρ _ => Cert.KProjIdeal.Gen.frame m ρ, frame_kproj_ref,
    fun m ρ _ => Cert.QProj.Gen.frame m ρ, fun m ρ _ => Cert.QProjIdeal.Gen.frame m ρ, frame_qproj_ref,
    trivial, Cert.MlpIdeal.Val.algebraic,
    trivial, Cert.DcoreIdeal.Val.algebraic,
    trivial, Cert.Dw1.Val.algebraic,
    trivial, Cert.Dw2.Val.algebraic,
    trivial, Cert.KvDw.Val.algebraic,
    trivial, Cert.OqDw.Val.algebraic,
    trivial, Cert.OqDxIdeal.Val.algebraic,
    trivial, Cert.KvDxIdeal.Val.algebraic,
    trivial, Cert.GluUpIdeal.Val.algebraic,
    trivial, Cert.OProjIdeal.Val.algebraic,
    trivial, Cert.VProjIdeal.Val.algebraic,
    trivial, Cert.KProjIdeal.Val.algebraic,
    trivial, Cert.QProjIdeal.Val.algebraic⟩

end Cert.Proof

end
